-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x100 : Shape := ⟨2, ![4096, 100]⟩
abbrev S200x100 : Shape := ⟨2, ![200, 100]⟩
abbrev S100x400 : Shape := ⟨2, ![100, 400]⟩
abbrev S400 : Shape := ⟨1, ![400]⟩
abbrev S_ : Shape := ⟨0, ![]⟩
abbrev S4096x128 : Shape := ⟨2, ![4096, 128]⟩
abbrev S1 : Shape := ⟨1, ![1]⟩
abbrev S128x512 : Shape := ⟨2, ![128, 512]⟩
abbrev S100x100 : Shape := ⟨2, ![100, 100]⟩
abbrev S2 : Shape := ⟨1, ![2]⟩
abbrev S1x512 : Shape := ⟨2, ![1, 512]⟩
abbrev S100 : Shape := ⟨1, ![100]⟩
abbrev S4096x200 : Shape := ⟨2, ![4096, 200]⟩
abbrev S200x128 : Shape := ⟨2, ![200, 128]⟩
abbrev S200x200 : Shape := ⟨2, ![200, 200]⟩
abbrev S1x4096x200 : Shape := ⟨3, ![1, 4096, 200]⟩
abbrev S1x200x200 : Shape := ⟨3, ![1, 200, 200]⟩
abbrev S512x128 : Shape := ⟨2, ![512, 128]⟩
abbrev S1x128 : Shape := ⟨2, ![1, 128]⟩
abbrev S512x512 : Shape := ⟨2, ![512, 512]⟩
abbrev S200x512 : Shape := ⟨2, ![200, 512]⟩

abbrev nBuf : Space → Nat
  | .hbm => 414
  | .vmem => 36
  | .smem => 0
  | _ => 0

abbrev hbmTy0_0 (i : Nat) : BufTy := match i % 128 with
  | 0 => ⟨S4096x100, .f32⟩
  | 1 => ⟨S200x100, .f32⟩
  | 2 => ⟨S100x400, .f32⟩
  | 3 => ⟨S100x400, .f32⟩
  | 4 => ⟨S400, .f32⟩
  | 5 => ⟨S100x400, .f32⟩
  | 6 => ⟨S100x400, .f32⟩
  | 7 => ⟨S400, .f32⟩
  | 8 => ⟨S100x400, .f32⟩
  | 9 => ⟨S100x400, .f32⟩
  | 10 => ⟨S400, .f32⟩
  | 11 => ⟨S100x400, .f32⟩
  | 12 => ⟨S100x400, .f32⟩
  | 13 => ⟨S400, .f32⟩
  | 14 => ⟨S_, .f32⟩
  | 15 => ⟨S4096x128, .f32⟩
  | 16 => ⟨S_, .i32⟩
  | 17 => ⟨S1, .i32⟩
  | 18 => ⟨S4096x128, .f32⟩
  | 19 => ⟨S4096x100, .f32⟩
  | 20 => ⟨S_, .f32⟩
  | 21 => ⟨S4096x128, .f32⟩
  | 22 => ⟨S_, .i32⟩
  | 23 => ⟨S1, .i32⟩
  | 24 => ⟨S4096x128, .f32⟩
  | 25 => ⟨S_, .f32⟩
  | 26 => ⟨S128x512, .f32⟩
  | 27 => ⟨S100x100, .f32⟩
  | 28 => ⟨S_, .i32⟩
  | 29 => ⟨S1, .i32⟩
  | 30 => ⟨S_, .i32⟩
  | 31 => ⟨S1, .i32⟩
  | 32 => ⟨S2, .i32⟩
  | 33 => ⟨S128x512, .f32⟩
  | 34 => ⟨S100x100, .f32⟩
  | 35 => ⟨S_, .i32⟩
  | 36 => ⟨S1, .i32⟩
  | 37 => ⟨S_, .i32⟩
  | 38 => ⟨S1, .i32⟩
  | 39 => ⟨S2, .i32⟩
  | 40 => ⟨S128x512, .f32⟩
  | 41 => ⟨S100x100, .f32⟩
  | 42 => ⟨S_, .i32⟩
  | 43 => ⟨S1, .i32⟩
  | 44 => ⟨S_, .i32⟩
  | 45 => ⟨S1, .i32⟩
  | 46 => ⟨S2, .i32⟩
  | 47 => ⟨S128x512, .f32⟩
  | 48 => ⟨S100x100, .f32⟩
  | 49 => ⟨S_, .i32⟩
  | 50 => ⟨S1, .i32⟩
  | 51 => ⟨S_, .i32⟩
  | 52 => ⟨S1, .i32⟩
  | 53 => ⟨S2, .i32⟩
  | 54 => ⟨S128x512, .f32⟩
  | 55 => ⟨S_, .f32⟩
  | 56 => ⟨S128x512, .f32⟩
  | 57 => ⟨S100x100, .f32⟩
  | 58 => ⟨S_, .i32⟩
  | 59 => ⟨S1, .i32⟩
  | 60 => ⟨S_, .i32⟩
  | 61 => ⟨S1, .i32⟩
  | 62 => ⟨S2, .i32⟩
  | 63 => ⟨S128x512, .f32⟩
  | 64 => ⟨S100x100, .f32⟩
  | 65 => ⟨S_, .i32⟩
  | 66 => ⟨S1, .i32⟩
  | 67 => ⟨S_, .i32⟩
  | 68 => ⟨S1, .i32⟩
  | 69 => ⟨S2, .i32⟩
  | 70 => ⟨S128x512, .f32⟩
  | 71 => ⟨S100x100, .f32⟩
  | 72 => ⟨S_, .i32⟩
  | 73 => ⟨S1, .i32⟩
  | 74 => ⟨S_, .i32⟩
  | 75 => ⟨S1, .i32⟩
  | 76 => ⟨S2, .i32⟩
  | 77 => ⟨S128x512, .f32⟩
  | 78 => ⟨S100x100, .f32⟩
  | 79 => ⟨S_, .i32⟩
  | 80 => ⟨S1, .i32⟩
  | 81 => ⟨S_, .i32⟩
  | 82 => ⟨S1, .i32⟩
  | 83 => ⟨S2, .i32⟩
  | 84 => ⟨S128x512, .f32⟩
  | 85 => ⟨S_, .f32⟩
  | 86 => ⟨S128x512, .f32⟩
  | 87 => ⟨S100x100, .f32⟩
  | 88 => ⟨S_, .i32⟩
  | 89 => ⟨S1, .i32⟩
  | 90 => ⟨S_, .i32⟩
  | 91 => ⟨S1, .i32⟩
  | 92 => ⟨S2, .i32⟩
  | 93 => ⟨S128x512, .f32⟩
  | 94 => ⟨S100x100, .f32⟩
  | 95 => ⟨S_, .i32⟩
  | 96 => ⟨S1, .i32⟩
  | 97 => ⟨S_, .i32⟩
  | 98 => ⟨S1, .i32⟩
  | 99 => ⟨S2, .i32⟩
  | 100 => ⟨S128x512, .f32⟩
  | 101 => ⟨S100x100, .f32⟩
  | 102 => ⟨S_, .i32⟩
  | 103 => ⟨S1, .i32⟩
  | 104 => ⟨S_, .i32⟩
  | 105 => ⟨S1, .i32⟩
  | 106 => ⟨S2, .i32⟩
  | 107 => ⟨S128x512, .f32⟩
  | 108 => ⟨S100x100, .f32⟩
  | 109 => ⟨S_, .i32⟩
  | 110 => ⟨S1, .i32⟩
  | 111 => ⟨S_, .i32⟩
  | 112 => ⟨S1, .i32⟩
  | 113 => ⟨S2, .i32⟩
  | 114 => ⟨S128x512, .f32⟩
  | 115 => ⟨S_, .f32⟩
  | 116 => ⟨S128x512, .f32⟩
  | 117 => ⟨S100x100, .f32⟩
  | 118 => ⟨S_, .i32⟩
  | 119 => ⟨S1, .i32⟩
  | 120 => ⟨S_, .i32⟩
  | 121 => ⟨S1, .i32⟩
  | 122 => ⟨S2, .i32⟩
  | 123 => ⟨S128x512, .f32⟩
  | 124 => ⟨S100x100, .f32⟩
  | 125 => ⟨S_, .i32⟩
  | 126 => ⟨S1, .i32⟩
  | 127 => ⟨S_, .i32⟩
  | _ => ⟨S4096x100, .f32⟩

abbrev hbmTy0_1 (i : Nat) : BufTy := match i % 128 with
  | 0 => ⟨S1, .i32⟩
  | 1 => ⟨S2, .i32⟩
  | 2 => ⟨S128x512, .f32⟩
  | 3 => ⟨S100x100, .f32⟩
  | 4 => ⟨S_, .i32⟩
  | 5 => ⟨S1, .i32⟩
  | 6 => ⟨S_, .i32⟩
  | 7 => ⟨S1, .i32⟩
  | 8 => ⟨S2, .i32⟩
  | 9 => ⟨S128x512, .f32⟩
  | 10 => ⟨S100x100, .f32⟩
  | 11 => ⟨S_, .i32⟩
  | 12 => ⟨S1, .i32⟩
  | 13 => ⟨S_, .i32⟩
  | 14 => ⟨S1, .i32⟩
  | 15 => ⟨S2, .i32⟩
  | 16 => ⟨S128x512, .f32⟩
  | 17 => ⟨S_, .f32⟩
  | 18 => ⟨S1x512, .f32⟩
  | 19 => ⟨S100, .f32⟩
  | 20 => ⟨S_, .i32⟩
  | 21 => ⟨S1, .i32⟩
  | 22 => ⟨S_, .i32⟩
  | 23 => ⟨S1, .i32⟩
  | 24 => ⟨S2, .i32⟩
  | 25 => ⟨S1x512, .f32⟩
  | 26 => ⟨S100, .f32⟩
  | 27 => ⟨S_, .i32⟩
  | 28 => ⟨S1, .i32⟩
  | 29 => ⟨S_, .i32⟩
  | 30 => ⟨S1, .i32⟩
  | 31 => ⟨S2, .i32⟩
  | 32 => ⟨S1x512, .f32⟩
  | 33 => ⟨S100, .f32⟩
  | 34 => ⟨S_, .i32⟩
  | 35 => ⟨S1, .i32⟩
  | 36 => ⟨S_, .i32⟩
  | 37 => ⟨S1, .i32⟩
  | 38 => ⟨S2, .i32⟩
  | 39 => ⟨S1x512, .f32⟩
  | 40 => ⟨S100, .f32⟩
  | 41 => ⟨S_, .i32⟩
  | 42 => ⟨S1, .i32⟩
  | 43 => ⟨S_, .i32⟩
  | 44 => ⟨S1, .i32⟩
  | 45 => ⟨S2, .i32⟩
  | 46 => ⟨S1x512, .f32⟩
  | 47 => ⟨S_, .f32⟩
  | 48 => ⟨S1x512, .f32⟩
  | 49 => ⟨S100, .f32⟩
  | 50 => ⟨S_, .i32⟩
  | 51 => ⟨S1, .i32⟩
  | 52 => ⟨S_, .i32⟩
  | 53 => ⟨S1, .i32⟩
  | 54 => ⟨S2, .i32⟩
  | 55 => ⟨S1x512, .f32⟩
  | 56 => ⟨S100, .f32⟩
  | 57 => ⟨S_, .i32⟩
  | 58 => ⟨S1, .i32⟩
  | 59 => ⟨S_, .i32⟩
  | 60 => ⟨S1, .i32⟩
  | 61 => ⟨S2, .i32⟩
  | 62 => ⟨S1x512, .f32⟩
  | 63 => ⟨S100, .f32⟩
  | 64 => ⟨S_, .i32⟩
  | 65 => ⟨S1, .i32⟩
  | 66 => ⟨S_, .i32⟩
  | 67 => ⟨S1, .i32⟩
  | 68 => ⟨S2, .i32⟩
  | 69 => ⟨S1x512, .f32⟩
  | 70 => ⟨S100, .f32⟩
  | 71 => ⟨S_, .i32⟩
  | 72 => ⟨S1, .i32⟩
  | 73 => ⟨S_, .i32⟩
  | 74 => ⟨S1, .i32⟩
  | 75 => ⟨S2, .i32⟩
  | 76 => ⟨S1x512, .f32⟩
  | 77 => ⟨S128x512, .bf16⟩
  | 78 => ⟨S128x512, .bf16⟩
  | 79 => ⟨S4096x128, .f32⟩
  | 80 => ⟨S4096x128, .f32⟩
  | 81 => ⟨S4096x100, .f32⟩
  | 82 => ⟨S4096x100, .f32⟩
  | 83 => ⟨S4096x100, .f32⟩
  | 84 => ⟨S4096x200, .f32⟩
  | 85 => ⟨S_, .f32⟩
  | 86 => ⟨S200x128, .f32⟩
  | 87 => ⟨S_, .i32⟩
  | 88 => ⟨S1, .i32⟩
  | 89 => ⟨S200x128, .f32⟩
  | 90 => ⟨S200x100, .f32⟩
  | 91 => ⟨S_, .f32⟩
  | 92 => ⟨S200x128, .f32⟩
  | 93 => ⟨S_, .i32⟩
  | 94 => ⟨S1, .i32⟩
  | 95 => ⟨S200x128, .f32⟩
  | 96 => ⟨S_, .f32⟩
  | 97 => ⟨S128x512, .f32⟩
  | 98 => ⟨S100x100, .f32⟩
  | 99 => ⟨S_, .i32⟩
  | 100 => ⟨S1, .i32⟩
  | 101 => ⟨S_, .i32⟩
  | 102 => ⟨S1, .i32⟩
  | 103 => ⟨S2, .i32⟩
  | 104 => ⟨S128x512, .f32⟩
  | 105 => ⟨S100x100, .f32⟩
  | 106 => ⟨S_, .i32⟩
  | 107 => ⟨S1, .i32⟩
  | 108 => ⟨S_, .i32⟩
  | 109 => ⟨S1, .i32⟩
  | 110 => ⟨S2, .i32⟩
  | 111 => ⟨S128x512, .f32⟩
  | 112 => ⟨S100x100, .f32⟩
  | 113 => ⟨S_, .i32⟩
  | 114 => ⟨S1, .i32⟩
  | 115 => ⟨S_, .i32⟩
  | 116 => ⟨S1, .i32⟩
  | 117 => ⟨S2, .i32⟩
  | 118 => ⟨S128x512, .f32⟩
  | 119 => ⟨S100x100, .f32⟩
  | 120 => ⟨S_, .i32⟩
  | 121 => ⟨S1, .i32⟩
  | 122 => ⟨S_, .i32⟩
  | 123 => ⟨S1, .i32⟩
  | 124 => ⟨S2, .i32⟩
  | 125 => ⟨S128x512, .f32⟩
  | 126 => ⟨S_, .f32⟩
  | 127 => ⟨S128x512, .f32⟩
  | _ => ⟨S4096x100, .f32⟩

abbrev hbmTy0_2 (i : Nat) : BufTy := match i % 128 with
  | 0 => ⟨S100x100, .f32⟩
  | 1 => ⟨S_, .i32⟩
  | 2 => ⟨S1, .i32⟩
  | 3 => ⟨S_, .i32⟩
  | 4 => ⟨S1, .i32⟩
  | 5 => ⟨S2, .i32⟩
  | 6 => ⟨S128x512, .f32⟩
  | 7 => ⟨S100x100, .f32⟩
  | 8 => ⟨S_, .i32⟩
  | 9 => ⟨S1, .i32⟩
  | 10 => ⟨S_, .i32⟩
  | 11 => ⟨S1, .i32⟩
  | 12 => ⟨S2, .i32⟩
  | 13 => ⟨S128x512, .f32⟩
  | 14 => ⟨S100x100, .f32⟩
  | 15 => ⟨S_, .i32⟩
  | 16 => ⟨S1, .i32⟩
  | 17 => ⟨S_, .i32⟩
  | 18 => ⟨S1, .i32⟩
  | 19 => ⟨S2, .i32⟩
  | 20 => ⟨S128x512, .f32⟩
  | 21 => ⟨S100x100, .f32⟩
  | 22 => ⟨S_, .i32⟩
  | 23 => ⟨S1, .i32⟩
  | 24 => ⟨S_, .i32⟩
  | 25 => ⟨S1, .i32⟩
  | 26 => ⟨S2, .i32⟩
  | 27 => ⟨S128x512, .f32⟩
  | 28 => ⟨S_, .f32⟩
  | 29 => ⟨S128x512, .f32⟩
  | 30 => ⟨S100x100, .f32⟩
  | 31 => ⟨S_, .i32⟩
  | 32 => ⟨S1, .i32⟩
  | 33 => ⟨S_, .i32⟩
  | 34 => ⟨S1, .i32⟩
  | 35 => ⟨S2, .i32⟩
  | 36 => ⟨S128x512, .f32⟩
  | 37 => ⟨S100x100, .f32⟩
  | 38 => ⟨S_, .i32⟩
  | 39 => ⟨S1, .i32⟩
  | 40 => ⟨S_, .i32⟩
  | 41 => ⟨S1, .i32⟩
  | 42 => ⟨S2, .i32⟩
  | 43 => ⟨S128x512, .f32⟩
  | 44 => ⟨S100x100, .f32⟩
  | 45 => ⟨S_, .i32⟩
  | 46 => ⟨S1, .i32⟩
  | 47 => ⟨S_, .i32⟩
  | 48 => ⟨S1, .i32⟩
  | 49 => ⟨S2, .i32⟩
  | 50 => ⟨S128x512, .f32⟩
  | 51 => ⟨S100x100, .f32⟩
  | 52 => ⟨S_, .i32⟩
  | 53 => ⟨S1, .i32⟩
  | 54 => ⟨S_, .i32⟩
  | 55 => ⟨S1, .i32⟩
  | 56 => ⟨S2, .i32⟩
  | 57 => ⟨S128x512, .f32⟩
  | 58 => ⟨S_, .f32⟩
  | 59 => ⟨S128x512, .f32⟩
  | 60 => ⟨S100x100, .f32⟩
  | 61 => ⟨S_, .i32⟩
  | 62 => ⟨S1, .i32⟩
  | 63 => ⟨S_, .i32⟩
  | 64 => ⟨S1, .i32⟩
  | 65 => ⟨S2, .i32⟩
  | 66 => ⟨S128x512, .f32⟩
  | 67 => ⟨S100x100, .f32⟩
  | 68 => ⟨S_, .i32⟩
  | 69 => ⟨S1, .i32⟩
  | 70 => ⟨S_, .i32⟩
  | 71 => ⟨S1, .i32⟩
  | 72 => ⟨S2, .i32⟩
  | 73 => ⟨S128x512, .f32⟩
  | 74 => ⟨S100x100, .f32⟩
  | 75 => ⟨S_, .i32⟩
  | 76 => ⟨S1, .i32⟩
  | 77 => ⟨S_, .i32⟩
  | 78 => ⟨S1, .i32⟩
  | 79 => ⟨S2, .i32⟩
  | 80 => ⟨S128x512, .f32⟩
  | 81 => ⟨S100x100, .f32⟩
  | 82 => ⟨S_, .i32⟩
  | 83 => ⟨S1, .i32⟩
  | 84 => ⟨S_, .i32⟩
  | 85 => ⟨S1, .i32⟩
  | 86 => ⟨S2, .i32⟩
  | 87 => ⟨S128x512, .f32⟩
  | 88 => ⟨S_, .f32⟩
  | 89 => ⟨S1x512, .f32⟩
  | 90 => ⟨S100, .f32⟩
  | 91 => ⟨S_, .i32⟩
  | 92 => ⟨S1, .i32⟩
  | 93 => ⟨S_, .i32⟩
  | 94 => ⟨S1, .i32⟩
  | 95 => ⟨S2, .i32⟩
  | 96 => ⟨S1x512, .f32⟩
  | 97 => ⟨S100, .f32⟩
  | 98 => ⟨S_, .i32⟩
  | 99 => ⟨S1, .i32⟩
  | 100 => ⟨S_, .i32⟩
  | 101 => ⟨S1, .i32⟩
  | 102 => ⟨S2, .i32⟩
  | 103 => ⟨S1x512, .f32⟩
  | 104 => ⟨S100, .f32⟩
  | 105 => ⟨S_, .i32⟩
  | 106 => ⟨S1, .i32⟩
  | 107 => ⟨S_, .i32⟩
  | 108 => ⟨S1, .i32⟩
  | 109 => ⟨S2, .i32⟩
  | 110 => ⟨S1x512, .f32⟩
  | 111 => ⟨S100, .f32⟩
  | 112 => ⟨S_, .i32⟩
  | 113 => ⟨S1, .i32⟩
  | 114 => ⟨S_, .i32⟩
  | 115 => ⟨S1, .i32⟩
  | 116 => ⟨S2, .i32⟩
  | 117 => ⟨S1x512, .f32⟩
  | 118 => ⟨S_, .f32⟩
  | 119 => ⟨S1x512, .f32⟩
  | 120 => ⟨S100, .f32⟩
  | 121 => ⟨S_, .i32⟩
  | 122 => ⟨S1, .i32⟩
  | 123 => ⟨S_, .i32⟩
  | 124 => ⟨S1, .i32⟩
  | 125 => ⟨S2, .i32⟩
  | 126 => ⟨S1x512, .f32⟩
  | 127 => ⟨S100, .f32⟩
  | _ => ⟨S4096x100, .f32⟩

abbrev hbmTy0_3 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S1x512, .f32⟩
  | 6 => ⟨S100, .f32⟩
  | 7 => ⟨S_, .i32⟩
  | 8 => ⟨S1, .i32⟩
  | 9 => ⟨S_, .i32⟩
  | 10 => ⟨S1, .i32⟩
  | 11 => ⟨S2, .i32⟩
  | 12 => ⟨S1x512, .f32⟩
  | 13 => ⟨S100, .f32⟩
  | 14 => ⟨S_, .i32⟩
  | 15 => ⟨S1, .i32⟩
  | 16 => ⟨S_, .i32⟩
  | 17 => ⟨S1, .i32⟩
  | 18 => ⟨S2, .i32⟩
  | 19 => ⟨S1x512, .f32⟩
  | 20 => ⟨S128x512, .bf16⟩
  | 21 => ⟨S128x512, .bf16⟩
  | 22 => ⟨S200x128, .f32⟩
  | 23 => ⟨S200x128, .f32⟩
  | 24 => ⟨S200x100, .f32⟩
  | 25 => ⟨S200x100, .f32⟩
  | 26 => ⟨S200x100, .f32⟩
  | 27 => ⟨S200x200, .f32⟩
  | 28 => ⟨S1x4096x200, .f32⟩
  | 29 => ⟨S1x200x200, .f32⟩
  | _ => ⟨S4096x100, .f32⟩

abbrev hbmTy (i : Nat) : BufTy := match i / 128 with
  | 0 => hbmTy0_0 i
  | 1 => hbmTy0_1 i
  | 2 => hbmTy0_2 i
  | 3 => hbmTy0_3 i
  | _ => ⟨S4096x100, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S128x512, .f32⟩
  | .local _ .vmem, ⟨5, _⟩ => ⟨S128x512, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S1x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x128, .f32⟩
  | .local _ .vmem, ⟨15, _⟩ => ⟨S1x512, .f32⟩
  | .local _ .vmem, ⟨16, _⟩ => ⟨S1x128, .f32⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S200x128, .f32⟩
  | .local _ .vmem, ⟨21, _⟩ => ⟨S200x128, .f32⟩
  | .local _ .vmem, ⟨22, _⟩ => ⟨S128x512, .f32⟩
  | .local _ .vmem, ⟨23, _⟩ => ⟨S128x512, .f32⟩
  | .local _ .vmem, ⟨24, _⟩ => ⟨S128x512, .bf16⟩
  | .local _ .vmem, ⟨25, _⟩ => ⟨S128x512, .bf16⟩
  | .local _ .vmem, ⟨26, _⟩ => ⟨S1x512, .f32⟩
  | .local _ .vmem, ⟨27, _⟩ => ⟨S1x512, .f32⟩
  | .local _ .vmem, ⟨28, _⟩ => ⟨S200x128, .f32⟩
  | .local _ .vmem, ⟨29, _⟩ => ⟨S200x128, .f32⟩
  | .local _ .vmem, ⟨30, _⟩ => ⟨S1x128, .f32⟩
  | .local _ .vmem, ⟨31, _⟩ => ⟨S1x512, .f32⟩
  | .local _ .vmem, ⟨32, _⟩ => ⟨S1x128, .f32⟩
  | .local _ .vmem, ⟨33, _⟩ => ⟨S1x512, .f32⟩
  | .local _ .vmem, ⟨34, _⟩ => ⟨S200x512, .f32⟩
  | .local _ .vmem, ⟨35, _⟩ => ⟨S200x512, .f32⟩
  | _, _ => ⟨S4096x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_cst : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_cst_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_c_4 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_c_5 : Ref sig .tc := ⟨.hbm, 35, rfl⟩
abbrev main_call0_v14 : Ref sig .tc := ⟨.hbm, 36, rfl⟩
abbrev main_call0_c_6 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_c_7 : Ref sig .tc := ⟨.hbm, 42, rfl⟩
abbrev main_call0_v19 : Ref sig .tc := ⟨.hbm, 43, rfl⟩
abbrev main_call0_c_8 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_v23 : Ref sig .tc := ⟨.hbm, 48, rfl⟩
abbrev main_call0_c_9 : Ref sig .tc := ⟨.hbm, 49, rfl⟩
abbrev main_call0_v24 : Ref sig .tc := ⟨.hbm, 50, rfl⟩
abbrev main_call0_c_10 : Ref sig .tc := ⟨.hbm, 51, rfl⟩
abbrev main_call0_v25 : Ref sig .tc := ⟨.hbm, 52, rfl⟩
abbrev main_call0_v26 : Ref sig .tc := ⟨.hbm, 53, rfl⟩
abbrev main_call0_v27 : Ref sig .tc := ⟨.hbm, 54, rfl⟩
abbrev main_call0_cst_11 : Ref sig .tc := ⟨.hbm, 55, rfl⟩
abbrev main_call0_v28 : Ref sig .tc := ⟨.hbm, 56, rfl⟩
abbrev main_call0_v29 : Ref sig .tc := ⟨.hbm, 57, rfl⟩
abbrev main_call0_c_12 : Ref sig .tc := ⟨.hbm, 58, rfl⟩
abbrev main_call0_v30 : Ref sig .tc := ⟨.hbm, 59, rfl⟩
abbrev main_call0_c_13 : Ref sig .tc := ⟨.hbm, 60, rfl⟩
abbrev main_call0_v31 : Ref sig .tc := ⟨.hbm, 61, rfl⟩
abbrev main_call0_v32 : Ref sig .tc := ⟨.hbm, 62, rfl⟩
abbrev main_call0_v33 : Ref sig .tc := ⟨.hbm, 63, rfl⟩
abbrev main_call0_v34 : Ref sig .tc := ⟨.hbm, 64, rfl⟩
abbrev main_call0_c_14 : Ref sig .tc := ⟨.hbm, 65, rfl⟩
abbrev main_call0_v35 : Ref sig .tc := ⟨.hbm, 66, rfl⟩
abbrev main_call0_c_15 : Ref sig .tc := ⟨.hbm, 67, rfl⟩
abbrev main_call0_v36 : Ref sig .tc := ⟨.hbm, 68, rfl⟩
abbrev main_call0_v37 : Ref sig .tc := ⟨.hbm, 69, rfl⟩
abbrev main_call0_v38 : Ref sig .tc := ⟨.hbm, 70, rfl⟩
abbrev main_call0_v39 : Ref sig .tc := ⟨.hbm, 71, rfl⟩
abbrev main_call0_c_16 : Ref sig .tc := ⟨.hbm, 72, rfl⟩
abbrev main_call0_v40 : Ref sig .tc := ⟨.hbm, 73, rfl⟩
abbrev main_call0_c_17 : Ref sig .tc := ⟨.hbm, 74, rfl⟩
abbrev main_call0_v41 : Ref sig .tc := ⟨.hbm, 75, rfl⟩
abbrev main_call0_v42 : Ref sig .tc := ⟨.hbm, 76, rfl⟩
abbrev main_call0_v43 : Ref sig .tc := ⟨.hbm, 77, rfl⟩
abbrev main_call0_v44 : Ref sig .tc := ⟨.hbm, 78, rfl⟩
abbrev main_call0_c_18 : Ref sig .tc := ⟨.hbm, 79, rfl⟩
abbrev main_call0_v45 : Ref sig .tc := ⟨.hbm, 80, rfl⟩
abbrev main_call0_c_19 : Ref sig .tc := ⟨.hbm, 81, rfl⟩
abbrev main_call0_v46 : Ref sig .tc := ⟨.hbm, 82, rfl⟩
abbrev main_call0_v47 : Ref sig .tc := ⟨.hbm, 83, rfl⟩
abbrev main_call0_v48 : Ref sig .tc := ⟨.hbm, 84, rfl⟩
abbrev main_call0_cst_20 : Ref sig .tc := ⟨.hbm, 85, rfl⟩
abbrev main_call0_v49 : Ref sig .tc := ⟨.hbm, 86, rfl⟩
abbrev main_call0_v50 : Ref sig .tc := ⟨.hbm, 87, rfl⟩
abbrev main_call0_c_21 : Ref sig .tc := ⟨.hbm, 88, rfl⟩
abbrev main_call0_v51 : Ref sig .tc := ⟨.hbm, 89, rfl⟩
abbrev main_call0_c_22 : Ref sig .tc := ⟨.hbm, 90, rfl⟩
abbrev main_call0_v52 : Ref sig .tc := ⟨.hbm, 91, rfl⟩
abbrev main_call0_v53 : Ref sig .tc := ⟨.hbm, 92, rfl⟩
abbrev main_call0_v54 : Ref sig .tc := ⟨.hbm, 93, rfl⟩
abbrev main_call0_v55 : Ref sig .tc := ⟨.hbm, 94, rfl⟩
abbrev main_call0_c_23 : Ref sig .tc := ⟨.hbm, 95, rfl⟩
abbrev main_call0_v56 : Ref sig .tc := ⟨.hbm, 96, rfl⟩
abbrev main_call0_c_24 : Ref sig .tc := ⟨.hbm, 97, rfl⟩
abbrev main_call0_v57 : Ref sig .tc := ⟨.hbm, 98, rfl⟩
abbrev main_call0_v58 : Ref sig .tc := ⟨.hbm, 99, rfl⟩
abbrev main_call0_v59 : Ref sig .tc := ⟨.hbm, 100, rfl⟩
abbrev main_call0_v60 : Ref sig .tc := ⟨.hbm, 101, rfl⟩
abbrev main_call0_c_25 : Ref sig .tc := ⟨.hbm, 102, rfl⟩
abbrev main_call0_v61 : Ref sig .tc := ⟨.hbm, 103, rfl⟩
abbrev main_call0_c_26 : Ref sig .tc := ⟨.hbm, 104, rfl⟩
abbrev main_call0_v62 : Ref sig .tc := ⟨.hbm, 105, rfl⟩
abbrev main_call0_v63 : Ref sig .tc := ⟨.hbm, 106, rfl⟩
abbrev main_call0_v64 : Ref sig .tc := ⟨.hbm, 107, rfl⟩
abbrev main_call0_v65 : Ref sig .tc := ⟨.hbm, 108, rfl⟩
abbrev main_call0_c_27 : Ref sig .tc := ⟨.hbm, 109, rfl⟩
abbrev main_call0_v66 : Ref sig .tc := ⟨.hbm, 110, rfl⟩
abbrev main_call0_c_28 : Ref sig .tc := ⟨.hbm, 111, rfl⟩
abbrev main_call0_v67 : Ref sig .tc := ⟨.hbm, 112, rfl⟩
abbrev main_call0_v68 : Ref sig .tc := ⟨.hbm, 113, rfl⟩
abbrev main_call0_v69 : Ref sig .tc := ⟨.hbm, 114, rfl⟩
abbrev main_call0_cst_29 : Ref sig .tc := ⟨.hbm, 115, rfl⟩
abbrev main_call0_v70 : Ref sig .tc := ⟨.hbm, 116, rfl⟩
abbrev main_call0_v71 : Ref sig .tc := ⟨.hbm, 117, rfl⟩
abbrev main_call0_c_30 : Ref sig .tc := ⟨.hbm, 118, rfl⟩
abbrev main_call0_v72 : Ref sig .tc := ⟨.hbm, 119, rfl⟩
abbrev main_call0_c_31 : Ref sig .tc := ⟨.hbm, 120, rfl⟩
abbrev main_call0_v73 : Ref sig .tc := ⟨.hbm, 121, rfl⟩
abbrev main_call0_v74 : Ref sig .tc := ⟨.hbm, 122, rfl⟩
abbrev main_call0_v75 : Ref sig .tc := ⟨.hbm, 123, rfl⟩
abbrev main_call0_v76 : Ref sig .tc := ⟨.hbm, 124, rfl⟩
abbrev main_call0_c_32 : Ref sig .tc := ⟨.hbm, 125, rfl⟩
abbrev main_call0_v77 : Ref sig .tc := ⟨.hbm, 126, rfl⟩
abbrev main_call0_c_33 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_34 : Ref sig .tc := ⟨.hbm, 132, rfl⟩
abbrev main_call0_v82 : Ref sig .tc := ⟨.hbm, 133, rfl⟩
abbrev main_call0_c_35 : Ref sig .tc := ⟨.hbm, 134, rfl⟩
abbrev main_call0_v83 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_c_36 : Ref sig .tc := ⟨.hbm, 139, rfl⟩
abbrev main_call0_v87 : Ref sig .tc := ⟨.hbm, 140, rfl⟩
abbrev main_call0_c_37 : Ref sig .tc := ⟨.hbm, 141, rfl⟩
abbrev main_call0_v88 : Ref sig .tc := ⟨.hbm, 142, rfl⟩
abbrev main_call0_v89 : Ref sig .tc := ⟨.hbm, 143, rfl⟩
abbrev main_call0_v90 : Ref sig .tc := ⟨.hbm, 144, rfl⟩
abbrev main_call0_cst_38 : Ref sig .tc := ⟨.hbm, 145, rfl⟩
abbrev main_call0_v91 : Ref sig .tc := ⟨.hbm, 146, rfl⟩
abbrev main_call0_v92 : Ref sig .tc := ⟨.hbm, 147, rfl⟩
abbrev main_call0_c_39 : Ref sig .tc := ⟨.hbm, 148, rfl⟩
abbrev main_call0_v93 : Ref sig .tc := ⟨.hbm, 149, rfl⟩
abbrev main_call0_c_40 : Ref sig .tc := ⟨.hbm, 150, rfl⟩
abbrev main_call0_v94 : Ref sig .tc := ⟨.hbm, 151, rfl⟩
abbrev main_call0_v95 : Ref sig .tc := ⟨.hbm, 152, rfl⟩
abbrev main_call0_v96 : Ref sig .tc := ⟨.hbm, 153, rfl⟩
abbrev main_call0_v97 : Ref sig .tc := ⟨.hbm, 154, rfl⟩
abbrev main_call0_c_41 : Ref sig .tc := ⟨.hbm, 155, rfl⟩
abbrev main_call0_v98 : Ref sig .tc := ⟨.hbm, 156, rfl⟩
abbrev main_call0_c_42 : Ref sig .tc := ⟨.hbm, 157, rfl⟩
abbrev main_call0_v99 : Ref sig .tc := ⟨.hbm, 158, rfl⟩
abbrev main_call0_v100 : Ref sig .tc := ⟨.hbm, 159, rfl⟩
abbrev main_call0_v101 : Ref sig .tc := ⟨.hbm, 160, rfl⟩
abbrev main_call0_v102 : Ref sig .tc := ⟨.hbm, 161, rfl⟩
abbrev main_call0_c_43 : Ref sig .tc := ⟨.hbm, 162, rfl⟩
abbrev main_call0_v103 : Ref sig .tc := ⟨.hbm, 163, rfl⟩
abbrev main_call0_c_44 : Ref sig .tc := ⟨.hbm, 164, rfl⟩
abbrev main_call0_v104 : Ref sig .tc := ⟨.hbm, 165, rfl⟩
abbrev main_call0_v105 : Ref sig .tc := ⟨.hbm, 166, rfl⟩
abbrev main_call0_v106 : Ref sig .tc := ⟨.hbm, 167, rfl⟩
abbrev main_call0_v107 : Ref sig .tc := ⟨.hbm, 168, rfl⟩
abbrev main_call0_c_45 : Ref sig .tc := ⟨.hbm, 169, rfl⟩
abbrev main_call0_v108 : Ref sig .tc := ⟨.hbm, 170, rfl⟩
abbrev main_call0_c_46 : Ref sig .tc := ⟨.hbm, 171, rfl⟩
abbrev main_call0_v109 : Ref sig .tc := ⟨.hbm, 172, rfl⟩
abbrev main_call0_v110 : Ref sig .tc := ⟨.hbm, 173, rfl⟩
abbrev main_call0_v111 : Ref sig .tc := ⟨.hbm, 174, rfl⟩
abbrev main_call0_cst_47 : Ref sig .tc := ⟨.hbm, 175, rfl⟩
abbrev main_call0_v112 : Ref sig .tc := ⟨.hbm, 176, rfl⟩
abbrev main_call0_v113 : Ref sig .tc := ⟨.hbm, 177, rfl⟩
abbrev main_call0_c_48 : Ref sig .tc := ⟨.hbm, 178, rfl⟩
abbrev main_call0_v114 : Ref sig .tc := ⟨.hbm, 179, rfl⟩
abbrev main_call0_c_49 : Ref sig .tc := ⟨.hbm, 180, rfl⟩
abbrev main_call0_v115 : Ref sig .tc := ⟨.hbm, 181, rfl⟩
abbrev main_call0_v116 : Ref sig .tc := ⟨.hbm, 182, rfl⟩
abbrev main_call0_v117 : Ref sig .tc := ⟨.hbm, 183, rfl⟩
abbrev main_call0_v118 : Ref sig .tc := ⟨.hbm, 184, rfl⟩
abbrev main_call0_c_50 : Ref sig .tc := ⟨.hbm, 185, rfl⟩
abbrev main_call0_v119 : Ref sig .tc := ⟨.hbm, 186, rfl⟩
abbrev main_call0_c_51 : Ref sig .tc := ⟨.hbm, 187, rfl⟩
abbrev main_call0_v120 : Ref sig .tc := ⟨.hbm, 188, rfl⟩
abbrev main_call0_v121 : Ref sig .tc := ⟨.hbm, 189, rfl⟩
abbrev main_call0_v122 : Ref sig .tc := ⟨.hbm, 190, rfl⟩
abbrev main_call0_v123 : Ref sig .tc := ⟨.hbm, 191, rfl⟩
abbrev main_call0_c_52 : Ref sig .tc := ⟨.hbm, 192, rfl⟩
abbrev main_call0_v124 : Ref sig .tc := ⟨.hbm, 193, rfl⟩
abbrev main_call0_c_53 : Ref sig .tc := ⟨.hbm, 194, rfl⟩
abbrev main_call0_v125 : Ref sig .tc := ⟨.hbm, 195, rfl⟩
abbrev main_call0_v126 : Ref sig .tc := ⟨.hbm, 196, rfl⟩
abbrev main_call0_v127 : Ref sig .tc := ⟨.hbm, 197, rfl⟩
abbrev main_call0_v128 : Ref sig .tc := ⟨.hbm, 198, rfl⟩
abbrev main_call0_c_54 : Ref sig .tc := ⟨.hbm, 199, rfl⟩
abbrev main_call0_v129 : Ref sig .tc := ⟨.hbm, 200, rfl⟩
abbrev main_call0_c_55 : Ref sig .tc := ⟨.hbm, 201, rfl⟩
abbrev main_call0_v130 : Ref sig .tc := ⟨.hbm, 202, rfl⟩
abbrev main_call0_v131 : Ref sig .tc := ⟨.hbm, 203, rfl⟩
abbrev main_call0_v132 : Ref sig .tc := ⟨.hbm, 204, rfl⟩
abbrev main_call0_v133 : Ref sig .tc := ⟨.hbm, 205, rfl⟩
abbrev main_call0_v134 : Ref sig .tc := ⟨.hbm, 206, rfl⟩
abbrev main_call0_v135_0 : Ref sig .tc := ⟨.hbm, 207, rfl⟩
abbrev main_call0_v135_1 : Ref sig .tc := ⟨.hbm, 208, rfl⟩
abbrev main_call0_v136 : Ref sig .tc := ⟨.hbm, 209, rfl⟩
abbrev main_call0_v137 : Ref sig .tc := ⟨.hbm, 210, rfl⟩
abbrev main_call0_v138 : Ref sig .tc := ⟨.hbm, 211, rfl⟩
abbrev main_call0_v139 : Ref sig .tc := ⟨.hbm, 212, rfl⟩
abbrev main_call0_cst_56 : Ref sig .tc := ⟨.hbm, 213, rfl⟩
abbrev main_call0_v140 : Ref sig .tc := ⟨.hbm, 214, rfl⟩
abbrev main_call0_c_57 : Ref sig .tc := ⟨.hbm, 215, rfl⟩
abbrev main_call0_v141 : Ref sig .tc := ⟨.hbm, 216, rfl⟩
abbrev main_call0_v142 : Ref sig .tc := ⟨.hbm, 217, rfl⟩
abbrev main_call0_v143 : Ref sig .tc := ⟨.hbm, 218, rfl⟩
abbrev main_call0_cst_58 : Ref sig .tc := ⟨.hbm, 219, rfl⟩
abbrev main_call0_v144 : Ref sig .tc := ⟨.hbm, 220, rfl⟩
abbrev main_call0_c_59 : Ref sig .tc := ⟨.hbm, 221, rfl⟩
abbrev main_call0_v145 : Ref sig .tc := ⟨.hbm, 222, rfl⟩
abbrev main_call0_v146 : Ref sig .tc := ⟨.hbm, 223, rfl⟩
abbrev main_call0_cst_60 : Ref sig .tc := ⟨.hbm, 224, rfl⟩
abbrev main_call0_v147 : Ref sig .tc := ⟨.hbm, 225, rfl⟩
abbrev main_call0_v148 : Ref sig .tc := ⟨.hbm, 226, rfl⟩
abbrev main_call0_c_61 : Ref sig .tc := ⟨.hbm, 227, rfl⟩
abbrev main_call0_v149 : Ref sig .tc := ⟨.hbm, 228, rfl⟩
abbrev main_call0_c_62 : Ref sig .tc := ⟨.hbm, 229, rfl⟩
abbrev main_call0_v150 : Ref sig .tc := ⟨.hbm, 230, rfl⟩
abbrev main_call0_v151 : Ref sig .tc := ⟨.hbm, 231, rfl⟩
abbrev main_call0_v152 : Ref sig .tc := ⟨.hbm, 232, rfl⟩
abbrev main_call0_v153 : Ref sig .tc := ⟨.hbm, 233, rfl⟩
abbrev main_call0_c_63 : Ref sig .tc := ⟨.hbm, 234, rfl⟩
abbrev main_call0_v154 : Ref sig .tc := ⟨.hbm, 235, rfl⟩
abbrev main_call0_c_64 : Ref sig .tc := ⟨.hbm, 236, rfl⟩
abbrev main_call0_v155 : Ref sig .tc := ⟨.hbm, 237, rfl⟩
abbrev main_call0_v156 : Ref sig .tc := ⟨.hbm, 238, rfl⟩
abbrev main_call0_v157 : Ref sig .tc := ⟨.hbm, 239, rfl⟩
abbrev main_call0_v158 : Ref sig .tc := ⟨.hbm, 240, rfl⟩
abbrev main_call0_c_65 : Ref sig .tc := ⟨.hbm, 241, rfl⟩
abbrev main_call0_v159 : Ref sig .tc := ⟨.hbm, 242, rfl⟩
abbrev main_call0_c_66 : Ref sig .tc := ⟨.hbm, 243, rfl⟩
abbrev main_call0_v160 : Ref sig .tc := ⟨.hbm, 244, rfl⟩
abbrev main_call0_v161 : Ref sig .tc := ⟨.hbm, 245, rfl⟩
abbrev main_call0_v162 : Ref sig .tc := ⟨.hbm, 246, rfl⟩
abbrev main_call0_v163 : Ref sig .tc := ⟨.hbm, 247, rfl⟩
abbrev main_call0_c_67 : Ref sig .tc := ⟨.hbm, 248, rfl⟩
abbrev main_call0_v164 : Ref sig .tc := ⟨.hbm, 249, rfl⟩
abbrev main_call0_c_68 : Ref sig .tc := ⟨.hbm, 250, rfl⟩
abbrev main_call0_v165 : Ref sig .tc := ⟨.hbm, 251, rfl⟩
abbrev main_call0_v166 : Ref sig .tc := ⟨.hbm, 252, rfl⟩
abbrev main_call0_v167 : Ref sig .tc := ⟨.hbm, 253, rfl⟩
abbrev main_call0_cst_69 : Ref sig .tc := ⟨.hbm, 254, rfl⟩
abbrev main_call0_v168 : Ref sig .tc := ⟨.hbm, 255, rfl⟩
abbrev main_call0_v169 : Ref sig .tc := ⟨.hbm, 256, rfl⟩
abbrev main_call0_c_70 : Ref sig .tc := ⟨.hbm, 257, rfl⟩
abbrev main_call0_v170 : Ref sig .tc := ⟨.hbm, 258, rfl⟩
abbrev main_call0_c_71 : Ref sig .tc := ⟨.hbm, 259, rfl⟩
abbrev main_call0_v171 : Ref sig .tc := ⟨.hbm, 260, rfl⟩
abbrev main_call0_v172 : Ref sig .tc := ⟨.hbm, 261, rfl⟩
abbrev main_call0_v173 : Ref sig .tc := ⟨.hbm, 262, rfl⟩
abbrev main_call0_v174 : Ref sig .tc := ⟨.hbm, 263, rfl⟩
abbrev main_call0_c_72 : Ref sig .tc := ⟨.hbm, 264, rfl⟩
abbrev main_call0_v175 : Ref sig .tc := ⟨.hbm, 265, rfl⟩
abbrev main_call0_c_73 : Ref sig .tc := ⟨.hbm, 266, rfl⟩
abbrev main_call0_v176 : Ref sig .tc := ⟨.hbm, 267, rfl⟩
abbrev main_call0_v177 : Ref sig .tc := ⟨.hbm, 268, rfl⟩
abbrev main_call0_v178 : Ref sig .tc := ⟨.hbm, 269, rfl⟩
abbrev main_call0_v179 : Ref sig .tc := ⟨.hbm, 270, rfl⟩
abbrev main_call0_c_74 : Ref sig .tc := ⟨.hbm, 271, rfl⟩
abbrev main_call0_v180 : Ref sig .tc := ⟨.hbm, 272, rfl⟩
abbrev main_call0_c_75 : Ref sig .tc := ⟨.hbm, 273, rfl⟩
abbrev main_call0_v181 : Ref sig .tc := ⟨.hbm, 274, rfl⟩
abbrev main_call0_v182 : Ref sig .tc := ⟨.hbm, 275, rfl⟩
abbrev main_call0_v183 : Ref sig .tc := ⟨.hbm, 276, rfl⟩
abbrev main_call0_v184 : Ref sig .tc := ⟨.hbm, 277, rfl⟩
abbrev main_call0_c_76 : Ref sig .tc := ⟨.hbm, 278, rfl⟩
abbrev main_call0_v185 : Ref sig .tc := ⟨.hbm, 279, rfl⟩
abbrev main_call0_c_77 : Ref sig .tc := ⟨.hbm, 280, rfl⟩
abbrev main_call0_v186 : Ref sig .tc := ⟨.hbm, 281, rfl⟩
abbrev main_call0_v187 : Ref sig .tc := ⟨.hbm, 282, rfl⟩
abbrev main_call0_v188 : Ref sig .tc := ⟨.hbm, 283, rfl⟩
abbrev main_call0_cst_78 : Ref sig .tc := ⟨.hbm, 284, rfl⟩
abbrev main_call0_v189 : Ref sig .tc := ⟨.hbm, 285, rfl⟩
abbrev main_call0_v190 : Ref sig .tc := ⟨.hbm, 286, rfl⟩
abbrev main_call0_c_79 : Ref sig .tc := ⟨.hbm, 287, rfl⟩
abbrev main_call0_v191 : Ref sig .tc := ⟨.hbm, 288, rfl⟩
abbrev main_call0_c_80 : Ref sig .tc := ⟨.hbm, 289, rfl⟩
abbrev main_call0_v192 : Ref sig .tc := ⟨.hbm, 290, rfl⟩
abbrev main_call0_v193 : Ref sig .tc := ⟨.hbm, 291, rfl⟩
abbrev main_call0_v194 : Ref sig .tc := ⟨.hbm, 292, rfl⟩
abbrev main_call0_v195 : Ref sig .tc := ⟨.hbm, 293, rfl⟩
abbrev main_call0_c_81 : Ref sig .tc := ⟨.hbm, 294, rfl⟩
abbrev main_call0_v196 : Ref sig .tc := ⟨.hbm, 295, rfl⟩
abbrev main_call0_c_82 : Ref sig .tc := ⟨.hbm, 296, rfl⟩
abbrev main_call0_v197 : Ref sig .tc := ⟨.hbm, 297, rfl⟩
abbrev main_call0_v198 : Ref sig .tc := ⟨.hbm, 298, rfl⟩
abbrev main_call0_v199 : Ref sig .tc := ⟨.hbm, 299, rfl⟩
abbrev main_call0_v200 : Ref sig .tc := ⟨.hbm, 300, rfl⟩
abbrev main_call0_c_83 : Ref sig .tc := ⟨.hbm, 301, rfl⟩
abbrev main_call0_v201 : Ref sig .tc := ⟨.hbm, 302, rfl⟩
abbrev main_call0_c_84 : Ref sig .tc := ⟨.hbm, 303, rfl⟩
abbrev main_call0_v202 : Ref sig .tc := ⟨.hbm, 304, rfl⟩
abbrev main_call0_v203 : Ref sig .tc := ⟨.hbm, 305, rfl⟩
abbrev main_call0_v204 : Ref sig .tc := ⟨.hbm, 306, rfl⟩
abbrev main_call0_v205 : Ref sig .tc := ⟨.hbm, 307, rfl⟩
abbrev main_call0_c_85 : Ref sig .tc := ⟨.hbm, 308, rfl⟩
abbrev main_call0_v206 : Ref sig .tc := ⟨.hbm, 309, rfl⟩
abbrev main_call0_c_86 : Ref sig .tc := ⟨.hbm, 310, rfl⟩
abbrev main_call0_v207 : Ref sig .tc := ⟨.hbm, 311, rfl⟩
abbrev main_call0_v208 : Ref sig .tc := ⟨.hbm, 312, rfl⟩
abbrev main_call0_v209 : Ref sig .tc := ⟨.hbm, 313, rfl⟩
abbrev main_call0_cst_87 : Ref sig .tc := ⟨.hbm, 314, rfl⟩
abbrev main_call0_v210 : Ref sig .tc := ⟨.hbm, 315, rfl⟩
abbrev main_call0_v211 : Ref sig .tc := ⟨.hbm, 316, rfl⟩
abbrev main_call0_c_88 : Ref sig .tc := ⟨.hbm, 317, rfl⟩
abbrev main_call0_v212 : Ref sig .tc := ⟨.hbm, 318, rfl⟩
abbrev main_call0_c_89 : Ref sig .tc := ⟨.hbm, 319, rfl⟩
abbrev main_call0_v213 : Ref sig .tc := ⟨.hbm, 320, rfl⟩
abbrev main_call0_v214 : Ref sig .tc := ⟨.hbm, 321, rfl⟩
abbrev main_call0_v215 : Ref sig .tc := ⟨.hbm, 322, rfl⟩
abbrev main_call0_v216 : Ref sig .tc := ⟨.hbm, 323, rfl⟩
abbrev main_call0_c_90 : Ref sig .tc := ⟨.hbm, 324, rfl⟩
abbrev main_call0_v217 : Ref sig .tc := ⟨.hbm, 325, rfl⟩
abbrev main_call0_c_91 : Ref sig .tc := ⟨.hbm, 326, rfl⟩
abbrev main_call0_v218 : Ref sig .tc := ⟨.hbm, 327, rfl⟩
abbrev main_call0_v219 : Ref sig .tc := ⟨.hbm, 328, rfl⟩
abbrev main_call0_v220 : Ref sig .tc := ⟨.hbm, 329, rfl⟩
abbrev main_call0_v221 : Ref sig .tc := ⟨.hbm, 330, rfl⟩
abbrev main_call0_c_92 : Ref sig .tc := ⟨.hbm, 331, rfl⟩
abbrev main_call0_v222 : Ref sig .tc := ⟨.hbm, 332, rfl⟩
abbrev main_call0_c_93 : Ref sig .tc := ⟨.hbm, 333, rfl⟩
abbrev main_call0_v223 : Ref sig .tc := ⟨.hbm, 334, rfl⟩
abbrev main_call0_v224 : Ref sig .tc := ⟨.hbm, 335, rfl⟩
abbrev main_call0_v225 : Ref sig .tc := ⟨.hbm, 336, rfl⟩
abbrev main_call0_v226 : Ref sig .tc := ⟨.hbm, 337, rfl⟩
abbrev main_call0_c_94 : Ref sig .tc := ⟨.hbm, 338, rfl⟩
abbrev main_call0_v227 : Ref sig .tc := ⟨.hbm, 339, rfl⟩
abbrev main_call0_c_95 : Ref sig .tc := ⟨.hbm, 340, rfl⟩
abbrev main_call0_v228 : Ref sig .tc := ⟨.hbm, 341, rfl⟩
abbrev main_call0_v229 : Ref sig .tc := ⟨.hbm, 342, rfl⟩
abbrev main_call0_v230 : Ref sig .tc := ⟨.hbm, 343, rfl⟩
abbrev main_call0_cst_96 : Ref sig .tc := ⟨.hbm, 344, rfl⟩
abbrev main_call0_v231 : Ref sig .tc := ⟨.hbm, 345, rfl⟩
abbrev main_call0_v232 : Ref sig .tc := ⟨.hbm, 346, rfl⟩
abbrev main_call0_c_97 : Ref sig .tc := ⟨.hbm, 347, rfl⟩
abbrev main_call0_v233 : Ref sig .tc := ⟨.hbm, 348, rfl⟩
abbrev main_call0_c_98 : Ref sig .tc := ⟨.hbm, 349, rfl⟩
abbrev main_call0_v234 : Ref sig .tc := ⟨.hbm, 350, rfl⟩
abbrev main_call0_v235 : Ref sig .tc := ⟨.hbm, 351, rfl⟩
abbrev main_call0_v236 : Ref sig .tc := ⟨.hbm, 352, rfl⟩
abbrev main_call0_v237 : Ref sig .tc := ⟨.hbm, 353, rfl⟩
abbrev main_call0_c_99 : Ref sig .tc := ⟨.hbm, 354, rfl⟩
abbrev main_call0_v238 : Ref sig .tc := ⟨.hbm, 355, rfl⟩
abbrev main_call0_c_100 : Ref sig .tc := ⟨.hbm, 356, rfl⟩
abbrev main_call0_v239 : Ref sig .tc := ⟨.hbm, 357, rfl⟩
abbrev main_call0_v240 : Ref sig .tc := ⟨.hbm, 358, rfl⟩
abbrev main_call0_v241 : Ref sig .tc := ⟨.hbm, 359, rfl⟩
abbrev main_call0_v242 : Ref sig .tc := ⟨.hbm, 360, rfl⟩
abbrev main_call0_c_101 : Ref sig .tc := ⟨.hbm, 361, rfl⟩
abbrev main_call0_v243 : Ref sig .tc := ⟨.hbm, 362, rfl⟩
abbrev main_call0_c_102 : Ref sig .tc := ⟨.hbm, 363, rfl⟩
abbrev main_call0_v244 : Ref sig .tc := ⟨.hbm, 364, rfl⟩
abbrev main_call0_v245 : Ref sig .tc := ⟨.hbm, 365, rfl⟩
abbrev main_call0_v246 : Ref sig .tc := ⟨.hbm, 366, rfl⟩
abbrev main_call0_v247 : Ref sig .tc := ⟨.hbm, 367, rfl⟩
abbrev main_call0_c_103 : Ref sig .tc := ⟨.hbm, 368, rfl⟩
abbrev main_call0_v248 : Ref sig .tc := ⟨.hbm, 369, rfl⟩
abbrev main_call0_c_104 : Ref sig .tc := ⟨.hbm, 370, rfl⟩
abbrev main_call0_v249 : Ref sig .tc := ⟨.hbm, 371, rfl⟩
abbrev main_call0_v250 : Ref sig .tc := ⟨.hbm, 372, rfl⟩
abbrev main_call0_v251 : Ref sig .tc := ⟨.hbm, 373, rfl⟩
abbrev main_call0_cst_105 : Ref sig .tc := ⟨.hbm, 374, rfl⟩
abbrev main_call0_v252 : Ref sig .tc := ⟨.hbm, 375, rfl⟩
abbrev main_call0_v253 : Ref sig .tc := ⟨.hbm, 376, rfl⟩
abbrev main_call0_c_106 : Ref sig .tc := ⟨.hbm, 377, rfl⟩
abbrev main_call0_v254 : Ref sig .tc := ⟨.hbm, 378, rfl⟩
abbrev main_call0_c_107 : Ref sig .tc := ⟨.hbm, 379, rfl⟩
abbrev main_call0_v255 : Ref sig .tc := ⟨.hbm, 380, rfl⟩
abbrev main_call0_v256 : Ref sig .tc := ⟨.hbm, 381, rfl⟩
abbrev main_call0_v257 : Ref sig .tc := ⟨.hbm, 382, rfl⟩
abbrev main_call0_v258 : Ref sig .tc := ⟨.hbm, 383, rfl⟩
abbrev main_call0_c_108 : Ref sig .tc := ⟨.hbm, 384, rfl⟩
abbrev main_call0_v259 : Ref sig .tc := ⟨.hbm, 385, rfl⟩
abbrev main_call0_c_109 : Ref sig .tc := ⟨.hbm, 386, rfl⟩
abbrev main_call0_v260 : Ref sig .tc := ⟨.hbm, 387, rfl⟩
abbrev main_call0_v261 : Ref sig .tc := ⟨.hbm, 388, rfl⟩
abbrev main_call0_v262 : Ref sig .tc := ⟨.hbm, 389, rfl⟩
abbrev main_call0_v263 : Ref sig .tc := ⟨.hbm, 390, rfl⟩
abbrev main_call0_c_110 : Ref sig .tc := ⟨.hbm, 391, rfl⟩
abbrev main_call0_v264 : Ref sig .tc := ⟨.hbm, 392, rfl⟩
abbrev main_call0_c_111 : Ref sig .tc := ⟨.hbm, 393, rfl⟩
abbrev main_call0_v265 : Ref sig .tc := ⟨.hbm, 394, rfl⟩
abbrev main_call0_v266 : Ref sig .tc := ⟨.hbm, 395, rfl⟩
abbrev main_call0_v267 : Ref sig .tc := ⟨.hbm, 396, rfl⟩
abbrev main_call0_v268 : Ref sig .tc := ⟨.hbm, 397, rfl⟩
abbrev main_call0_c_112 : Ref sig .tc := ⟨.hbm, 398, rfl⟩
abbrev main_call0_v269 : Ref sig .tc := ⟨.hbm, 399, rfl⟩
abbrev main_call0_c_113 : Ref sig .tc := ⟨.hbm, 400, rfl⟩
abbrev main_call0_v270 : Ref sig .tc := ⟨.hbm, 401, rfl⟩
abbrev main_call0_v271 : Ref sig .tc := ⟨.hbm, 402, rfl⟩
abbrev main_call0_v272 : Ref sig .tc := ⟨.hbm, 403, rfl⟩
abbrev main_call0_v273 : Ref sig .tc := ⟨.hbm, 404, rfl⟩
abbrev main_call0_v274 : Ref sig .tc := ⟨.hbm, 405, rfl⟩
abbrev main_call0_v275_0 : Ref sig .tc := ⟨.hbm, 406, rfl⟩
abbrev main_call0_v275_1 : Ref sig .tc := ⟨.hbm, 407, rfl⟩
abbrev main_call0_v276 : Ref sig .tc := ⟨.hbm, 408, rfl⟩
abbrev main_call0_v277 : Ref sig .tc := ⟨.hbm, 409, rfl⟩
abbrev main_call0_v278 : Ref sig .tc := ⟨.hbm, 410, rfl⟩
abbrev main_call0_v279 : Ref sig .tc := ⟨.hbm, 411, rfl⟩
abbrev main_v0_0 : Ref sig .tc := ⟨.hbm, 412, rfl⟩
abbrev main_v0_1 : Ref sig .tc := ⟨.hbm, 413, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc1_scratch4 : Ref sig .tc := ⟨.vmem, 34, rfl⟩
abbrev cc1_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_25 : BitVec 32 := 0#32
  let c512_i32 : BitVec 32 := 512#32
  let v31 : BitVec 32 := Scalar.addi c0_i32_25 c512_i32
  let c1_i32 : BitVec 32 := 1#32
  ⟨c0_i32_25, v31, c1_i32⟩
def k0_off1 (k0_t1 : Fin k0_t1_loop.trips) : Fin 2 → Nat :=
  let c0_i32_25 : BitVec 32 := 0#32
  let c1_i32 : BitVec 32 := 1#32
  let arg17 : BitVec 32 := Scf.iv c0_i32_25 c1_i32 k0_t1
  let v45 : Index := Scalar.indexCast arg17
  let c0_35 : Index := 0#32
  ![v45.toNat, 0]
def k0_off2 (k0_t1 : Fin k0_t1_loop.trips) : Fin 2 → Nat :=
  let c0_i32_25 : BitVec 32 := 0#32
  let c1_i32 : BitVec 32 := 1#32
  let arg17 : BitVec 32 := Scf.iv c0_i32_25 c1_i32 k0_t1
  let v61 : Index := Scalar.indexCast arg17
  let c0_36 : Index := 0#32
  ![v61.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![1], ![false]⟩

@[reducible] def k1_t1_loop : Scf.Loop 32 :=
  let c0_i32_25 : BitVec 32 := 0#32
  let c200_i32 : BitVec 32 := 200#32
  let v31 : BitVec 32 := Scalar.addi c0_i32_25 c200_i32
  let c1_i32 : BitVec 32 := 1#32
  ⟨c0_i32_25, v31, c1_i32⟩
def k1_off1 (k1_t1 : Fin k1_t1_loop.trips) : Fin 2 → Nat :=
  let c0_i32_25 : BitVec 32 := 0#32
  let c1_i32 : BitVec 32 := 1#32
  let arg17 : BitVec 32 := Scf.iv c0_i32_25 c1_i32 k1_t1
  let v45 : Index := Scalar.indexCast arg17
  let c0_35 : Index := 0#32
  ![v45.toNat, 0]
def k1_off2 (k1_t1 : Fin k1_t1_loop.trips) : Fin 2 → Nat :=
  let c0_i32_25 : BitVec 32 := 0#32
  let c1_i32 : BitVec 32 := 1#32
  let arg17 : BitVec 32 := Scf.iv c0_i32_25 c1_i32 k1_t1
  let v61 : Index := Scalar.indexCast arg17
  let c0_36 : Index := 0#32
  ![v61.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S200x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S200x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S200x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S200x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]
-- ==== ReferenceIdeal.lean ====
abbrev S4096x100 : Shape := ⟨2, ![4096, 100]⟩
abbrev S200x100 : Shape := ⟨2, ![200, 100]⟩
abbrev S100x400 : Shape := ⟨2, ![100, 400]⟩
abbrev S400 : Shape := ⟨1, ![400]⟩
abbrev S1x4096x100 : Shape := ⟨3, ![1, 4096, 100]⟩
abbrev S1x200x100 : Shape := ⟨3, ![1, 200, 100]⟩
abbrev S_ : Shape := ⟨0, ![]⟩
abbrev S100 : Shape := ⟨1, ![100]⟩
abbrev S1x100 : Shape := ⟨2, ![1, 100]⟩
abbrev S4096x200 : Shape := ⟨2, ![4096, 200]⟩
abbrev S1x4096x200 : Shape := ⟨3, ![1, 4096, 200]⟩
abbrev S200x200 : Shape := ⟨2, ![200, 200]⟩
abbrev S1x200x200 : Shape := ⟨3, ![1, 200, 200]⟩

abbrev nBuf : Space → Nat
  | .hbm => 278
  | .vmem => 0
  | .smem => 0
  | _ => 0

abbrev hbmTy0_0 (i : Nat) : BufTy := match i % 128 with
  | 0 => ⟨S4096x100, .f32⟩
  | 1 => ⟨S200x100, .f32⟩
  | 2 => ⟨S100x400, .f32⟩
  | 3 => ⟨S100x400, .f32⟩
  | 4 => ⟨S400, .f32⟩
  | 5 => ⟨S100x400, .f32⟩
  | 6 => ⟨S100x400, .f32⟩
  | 7 => ⟨S400, .f32⟩
  | 8 => ⟨S100x400, .f32⟩
  | 9 => ⟨S100x400, .f32⟩
  | 10 => ⟨S400, .f32⟩
  | 11 => ⟨S100x400, .f32⟩
  | 12 => ⟨S100x400, .f32⟩
  | 13 => ⟨S400, .f32⟩
  | 14 => ⟨S1x4096x100, .f32⟩
  | 15 => ⟨S1x200x100, .f32⟩
  | 16 => ⟨S4096x100, .f32⟩
  | 17 => ⟨S_, .f32⟩
  | 18 => ⟨S100, .f32⟩
  | 19 => ⟨S_, .f32⟩
  | 20 => ⟨S100, .f32⟩
  | 21 => ⟨S_, .f32⟩
  | 22 => ⟨S4096x100, .f32⟩
  | 23 => ⟨S_, .i32⟩
  | 24 => ⟨S4096x100, .f32⟩
  | 25 => ⟨S100x400, .f32⟩
  | 26 => ⟨S100x400, .f32⟩
  | 27 => ⟨S400, .f32⟩
  | 28 => ⟨S_, .i32⟩
  | 29 => ⟨S100, .f32⟩
  | 30 => ⟨S100, .f32⟩
  | 31 => ⟨S4096x100, .f32⟩
  | 32 => ⟨S_, .i32⟩
  | 33 => ⟨S_, .i1⟩
  | 34 => ⟨S_, .i32⟩
  | 35 => ⟨S1x100, .f32⟩
  | 36 => ⟨S100, .f32⟩
  | 37 => ⟨S400, .f32⟩
  | 38 => ⟨S400, .f32⟩
  | 39 => ⟨S400, .f32⟩
  | 40 => ⟨S400, .f32⟩
  | 41 => ⟨S100, .f32⟩
  | 42 => ⟨S100, .f32⟩
  | 43 => ⟨S100, .f32⟩
  | 44 => ⟨S100, .f32⟩
  | 45 => ⟨S100, .f32⟩
  | 46 => ⟨S100, .f32⟩
  | 47 => ⟨S_, .f32⟩
  | 48 => ⟨S100, .f32⟩
  | 49 => ⟨S100, .f32⟩
  | 50 => ⟨S_, .f32⟩
  | 51 => ⟨S100, .f32⟩
  | 52 => ⟨S100, .f32⟩
  | 53 => ⟨S100, .f32⟩
  | 54 => ⟨S100, .f32⟩
  | 55 => ⟨S_, .f32⟩
  | 56 => ⟨S100, .f32⟩
  | 57 => ⟨S100, .f32⟩
  | 58 => ⟨S_, .f32⟩
  | 59 => ⟨S100, .f32⟩
  | 60 => ⟨S100, .f32⟩
  | 61 => ⟨S100, .f32⟩
  | 62 => ⟨S100, .f32⟩
  | 63 => ⟨S100, .f32⟩
  | 64 => ⟨S_, .f32⟩
  | 65 => ⟨S100, .f32⟩
  | 66 => ⟨S100, .f32⟩
  | 67 => ⟨S_, .f32⟩
  | 68 => ⟨S100, .f32⟩
  | 69 => ⟨S100, .f32⟩
  | 70 => ⟨S100, .f32⟩
  | 71 => ⟨S100, .f32⟩
  | 72 => ⟨S100, .f32⟩
  | 73 => ⟨S100, .f32⟩
  | 74 => ⟨S100, .f32⟩
  | 75 => ⟨S1x100, .f32⟩
  | 76 => ⟨S_, .i32⟩
  | 77 => ⟨S4096x100, .f32⟩
  | 78 => ⟨S_, .i32⟩
  | 79 => ⟨S_, .i32⟩
  | 80 => ⟨S4096x100, .f32⟩
  | 81 => ⟨S_, .f32⟩
  | 82 => ⟨S100, .f32⟩
  | 83 => ⟨S_, .f32⟩
  | 84 => ⟨S100, .f32⟩
  | 85 => ⟨S_, .f32⟩
  | 86 => ⟨S4096x100, .f32⟩
  | 87 => ⟨S_, .i32⟩
  | 88 => ⟨S4096x100, .f32⟩
  | 89 => ⟨S100x400, .f32⟩
  | 90 => ⟨S100x400, .f32⟩
  | 91 => ⟨S400, .f32⟩
  | 92 => ⟨S_, .i32⟩
  | 93 => ⟨S100, .f32⟩
  | 94 => ⟨S100, .f32⟩
  | 95 => ⟨S4096x100, .f32⟩
  | 96 => ⟨S_, .i32⟩
  | 97 => ⟨S_, .i1⟩
  | 98 => ⟨S_, .i32⟩
  | 99 => ⟨S1x100, .f32⟩
  | 100 => ⟨S100, .f32⟩
  | 101 => ⟨S400, .f32⟩
  | 102 => ⟨S400, .f32⟩
  | 103 => ⟨S400, .f32⟩
  | 104 => ⟨S400, .f32⟩
  | 105 => ⟨S100, .f32⟩
  | 106 => ⟨S100, .f32⟩
  | 107 => ⟨S100, .f32⟩
  | 108 => ⟨S100, .f32⟩
  | 109 => ⟨S100, .f32⟩
  | 110 => ⟨S100, .f32⟩
  | 111 => ⟨S_, .f32⟩
  | 112 => ⟨S100, .f32⟩
  | 113 => ⟨S100, .f32⟩
  | 114 => ⟨S_, .f32⟩
  | 115 => ⟨S100, .f32⟩
  | 116 => ⟨S100, .f32⟩
  | 117 => ⟨S100, .f32⟩
  | 118 => ⟨S100, .f32⟩
  | 119 => ⟨S_, .f32⟩
  | 120 => ⟨S100, .f32⟩
  | 121 => ⟨S100, .f32⟩
  | 122 => ⟨S_, .f32⟩
  | 123 => ⟨S100, .f32⟩
  | 124 => ⟨S100, .f32⟩
  | 125 => ⟨S100, .f32⟩
  | 126 => ⟨S100, .f32⟩
  | 127 => ⟨S100, .f32⟩
  | _ => ⟨S4096x100, .f32⟩

abbrev hbmTy0_1 (i : Nat) : BufTy := match i % 128 with
  | 0 => ⟨S_, .f32⟩
  | 1 => ⟨S100, .f32⟩
  | 2 => ⟨S100, .f32⟩
  | 3 => ⟨S_, .f32⟩
  | 4 => ⟨S100, .f32⟩
  | 5 => ⟨S100, .f32⟩
  | 6 => ⟨S100, .f32⟩
  | 7 => ⟨S100, .f32⟩
  | 8 => ⟨S100, .f32⟩
  | 9 => ⟨S100, .f32⟩
  | 10 => ⟨S100, .f32⟩
  | 11 => ⟨S1x100, .f32⟩
  | 12 => ⟨S_, .i32⟩
  | 13 => ⟨S4096x100, .f32⟩
  | 14 => ⟨S_, .i32⟩
  | 15 => ⟨S_, .i32⟩
  | 16 => ⟨S4096x100, .f32⟩
  | 17 => ⟨S4096x200, .f32⟩
  | 18 => ⟨S1x4096x200, .f32⟩
  | 19 => ⟨S200x100, .f32⟩
  | 20 => ⟨S_, .f32⟩
  | 21 => ⟨S100, .f32⟩
  | 22 => ⟨S_, .f32⟩
  | 23 => ⟨S100, .f32⟩
  | 24 => ⟨S_, .f32⟩
  | 25 => ⟨S200x100, .f32⟩
  | 26 => ⟨S_, .i32⟩
  | 27 => ⟨S200x100, .f32⟩
  | 28 => ⟨S100x400, .f32⟩
  | 29 => ⟨S100x400, .f32⟩
  | 30 => ⟨S400, .f32⟩
  | 31 => ⟨S_, .i32⟩
  | 32 => ⟨S100, .f32⟩
  | 33 => ⟨S100, .f32⟩
  | 34 => ⟨S200x100, .f32⟩
  | 35 => ⟨S_, .i32⟩
  | 36 => ⟨S_, .i1⟩
  | 37 => ⟨S_, .i32⟩
  | 38 => ⟨S1x100, .f32⟩
  | 39 => ⟨S100, .f32⟩
  | 40 => ⟨S400, .f32⟩
  | 41 => ⟨S400, .f32⟩
  | 42 => ⟨S400, .f32⟩
  | 43 => ⟨S400, .f32⟩
  | 44 => ⟨S100, .f32⟩
  | 45 => ⟨S100, .f32⟩
  | 46 => ⟨S100, .f32⟩
  | 47 => ⟨S100, .f32⟩
  | 48 => ⟨S100, .f32⟩
  | 49 => ⟨S100, .f32⟩
  | 50 => ⟨S_, .f32⟩
  | 51 => ⟨S100, .f32⟩
  | 52 => ⟨S100, .f32⟩
  | 53 => ⟨S_, .f32⟩
  | 54 => ⟨S100, .f32⟩
  | 55 => ⟨S100, .f32⟩
  | 56 => ⟨S100, .f32⟩
  | 57 => ⟨S100, .f32⟩
  | 58 => ⟨S_, .f32⟩
  | 59 => ⟨S100, .f32⟩
  | 60 => ⟨S100, .f32⟩
  | 61 => ⟨S_, .f32⟩
  | 62 => ⟨S100, .f32⟩
  | 63 => ⟨S100, .f32⟩
  | 64 => ⟨S100, .f32⟩
  | 65 => ⟨S100, .f32⟩
  | 66 => ⟨S100, .f32⟩
  | 67 => ⟨S_, .f32⟩
  | 68 => ⟨S100, .f32⟩
  | 69 => ⟨S100, .f32⟩
  | 70 => ⟨S_, .f32⟩
  | 71 => ⟨S100, .f32⟩
  | 72 => ⟨S100, .f32⟩
  | 73 => ⟨S100, .f32⟩
  | 74 => ⟨S100, .f32⟩
  | 75 => ⟨S100, .f32⟩
  | 76 => ⟨S100, .f32⟩
  | 77 => ⟨S100, .f32⟩
  | 78 => ⟨S1x100, .f32⟩
  | 79 => ⟨S_, .i32⟩
  | 80 => ⟨S200x100, .f32⟩
  | 81 => ⟨S_, .i32⟩
  | 82 => ⟨S_, .i32⟩
  | 83 => ⟨S200x100, .f32⟩
  | 84 => ⟨S_, .f32⟩
  | 85 => ⟨S100, .f32⟩
  | 86 => ⟨S_, .f32⟩
  | 87 => ⟨S100, .f32⟩
  | 88 => ⟨S_, .f32⟩
  | 89 => ⟨S200x100, .f32⟩
  | 90 => ⟨S_, .i32⟩
  | 91 => ⟨S200x100, .f32⟩
  | 92 => ⟨S100x400, .f32⟩
  | 93 => ⟨S100x400, .f32⟩
  | 94 => ⟨S400, .f32⟩
  | 95 => ⟨S_, .i32⟩
  | 96 => ⟨S100, .f32⟩
  | 97 => ⟨S100, .f32⟩
  | 98 => ⟨S200x100, .f32⟩
  | 99 => ⟨S_, .i32⟩
  | 100 => ⟨S_, .i1⟩
  | 101 => ⟨S_, .i32⟩
  | 102 => ⟨S1x100, .f32⟩
  | 103 => ⟨S100, .f32⟩
  | 104 => ⟨S400, .f32⟩
  | 105 => ⟨S400, .f32⟩
  | 106 => ⟨S400, .f32⟩
  | 107 => ⟨S400, .f32⟩
  | 108 => ⟨S100, .f32⟩
  | 109 => ⟨S100, .f32⟩
  | 110 => ⟨S100, .f32⟩
  | 111 => ⟨S100, .f32⟩
  | 112 => ⟨S100, .f32⟩
  | 113 => ⟨S100, .f32⟩
  | 114 => ⟨S_, .f32⟩
  | 115 => ⟨S100, .f32⟩
  | 116 => ⟨S100, .f32⟩
  | 117 => ⟨S_, .f32⟩
  | 118 => ⟨S100, .f32⟩
  | 119 => ⟨S100, .f32⟩
  | 120 => ⟨S100, .f32⟩
  | 121 => ⟨S100, .f32⟩
  | 122 => ⟨S_, .f32⟩
  | 123 => ⟨S100, .f32⟩
  | 124 => ⟨S100, .f32⟩
  | 125 => ⟨S_, .f32⟩
  | 126 => ⟨S100, .f32⟩
  | 127 => ⟨S100, .f32⟩
  | _ => ⟨S4096x100, .f32⟩

abbrev hbmTy0_2 (i : Nat) : BufTy := match i % 128 with
  | 0 => ⟨S100, .f32⟩
  | 1 => ⟨S100, .f32⟩
  | 2 => ⟨S100, .f32⟩
  | 3 => ⟨S_, .f32⟩
  | 4 => ⟨S100, .f32⟩
  | 5 => ⟨S100, .f32⟩
  | 6 => ⟨S_, .f32⟩
  | 7 => ⟨S100, .f32⟩
  | 8 => ⟨S100, .f32⟩
  | 9 => ⟨S100, .f32⟩
  | 10 => ⟨S100, .f32⟩
  | 11 => ⟨S100, .f32⟩
  | 12 => ⟨S100, .f32⟩
  | 13 => ⟨S100, .f32⟩
  | 14 => ⟨S1x100, .f32⟩
  | 15 => ⟨S_, .i32⟩
  | 16 => ⟨S200x100, .f32⟩
  | 17 => ⟨S_, .i32⟩
  | 18 => ⟨S_, .i32⟩
  | 19 => ⟨S200x100, .f32⟩
  | 20 => ⟨S200x200, .f32⟩
  | 21 => ⟨S1x200x200, .f32⟩
  | _ => ⟨S4096x100, .f32⟩

abbrev hbmTy (i : Nat) : BufTy := match i / 128 with
  | 0 => hbmTy0_0 i
  | 1 => hbmTy0_1 i
  | 2 => hbmTy0_2 i
  | _ => ⟨S4096x100, .f32⟩

abbrev bufTy : (tb : Table) → Fin (tcTables nBuf tb) → BufTy
  | .hbm, ⟨i, _⟩ => hbmTy i
  | _, _ => ⟨S4096x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_c : Ref sig .tc := ⟨.hbm, 23, rfl⟩
abbrev main_v6_0 : Ref sig .tc := ⟨.hbm, 24, rfl⟩
abbrev main_v6_1 : Ref sig .tc := ⟨.hbm, 25, rfl⟩
abbrev main_v6_2 : Ref sig .tc := ⟨.hbm, 26, rfl⟩
abbrev main_v6_3 : Ref sig .tc := ⟨.hbm, 27, rfl⟩
abbrev main_v6_4 : Ref sig .tc := ⟨.hbm, 28, rfl⟩
abbrev main_v6_5 : Ref sig .tc := ⟨.hbm, 29, rfl⟩
abbrev main_v6_6 : Ref sig .tc := ⟨.hbm, 30, rfl⟩
abbrev main_v6_7 : Ref sig .tc := ⟨.hbm, 31, rfl⟩
abbrev main_while0c_c_21 : Ref sig .tc := ⟨.hbm, 32, rfl⟩
abbrev main_while0c_v28 : Ref sig .tc := ⟨.hbm, 33, rfl⟩
abbrev main_while0b_call0_c : Ref sig .tc := ⟨.hbm, 34, rfl⟩
abbrev main_while0b_call0_v0 : Ref sig .tc := ⟨.hbm, 35, rfl⟩
abbrev main_while0b_v28 : Ref sig .tc := ⟨.hbm, 36, rfl⟩
abbrev main_while0b_v29 : Ref sig .tc := ⟨.hbm, 37, rfl⟩
abbrev main_while0b_v30 : Ref sig .tc := ⟨.hbm, 38, rfl⟩
abbrev main_while0b_v31 : Ref sig .tc := ⟨.hbm, 39, rfl⟩
abbrev main_while0b_v32 : Ref sig .tc := ⟨.hbm, 40, rfl⟩
abbrev main_while0b_v33 : Ref sig .tc := ⟨.hbm, 41, rfl⟩
abbrev main_while0b_v34 : Ref sig .tc := ⟨.hbm, 42, rfl⟩
abbrev main_while0b_v35 : Ref sig .tc := ⟨.hbm, 43, rfl⟩
abbrev main_while0b_v36 : Ref sig .tc := ⟨.hbm, 44, rfl⟩
abbrev main_while0b_v37 : Ref sig .tc := ⟨.hbm, 45, rfl⟩
abbrev main_while0b_v38 : Ref sig .tc := ⟨.hbm, 46, rfl⟩
abbrev main_while0b_cst_21 : Ref sig .tc := ⟨.hbm, 47, rfl⟩
abbrev main_while0b_v39 : Ref sig .tc := ⟨.hbm, 48, rfl⟩
abbrev main_while0b_v40 : Ref sig .tc := ⟨.hbm, 49, rfl⟩
abbrev main_while0b_cst_22 : Ref sig .tc := ⟨.hbm, 50, rfl⟩
abbrev main_while0b_v41 : Ref sig .tc := ⟨.hbm, 51, rfl⟩
abbrev main_while0b_v42 : Ref sig .tc := ⟨.hbm, 52, rfl⟩
abbrev main_while0b_v43 : Ref sig .tc := ⟨.hbm, 53, rfl⟩
abbrev main_while0b_v44 : Ref sig .tc := ⟨.hbm, 54, rfl⟩
abbrev main_while0b_cst_23 : Ref sig .tc := ⟨.hbm, 55, rfl⟩
abbrev main_while0b_v45 : Ref sig .tc := ⟨.hbm, 56, rfl⟩
abbrev main_while0b_v46 : Ref sig .tc := ⟨.hbm, 57, rfl⟩
abbrev main_while0b_cst_24 : Ref sig .tc := ⟨.hbm, 58, rfl⟩
abbrev main_while0b_v47 : Ref sig .tc := ⟨.hbm, 59, rfl⟩
abbrev main_while0b_v48 : Ref sig .tc := ⟨.hbm, 60, rfl⟩
abbrev main_while0b_v49 : Ref sig .tc := ⟨.hbm, 61, rfl⟩
abbrev main_while0b_v50 : Ref sig .tc := ⟨.hbm, 62, rfl⟩
abbrev main_while0b_v51 : Ref sig .tc := ⟨.hbm, 63, rfl⟩
abbrev main_while0b_cst_25 : Ref sig .tc := ⟨.hbm, 64, rfl⟩
abbrev main_while0b_v52 : Ref sig .tc := ⟨.hbm, 65, rfl⟩
abbrev main_while0b_v53 : Ref sig .tc := ⟨.hbm, 66, rfl⟩
abbrev main_while0b_cst_26 : Ref sig .tc := ⟨.hbm, 67, rfl⟩
abbrev main_while0b_v54 : Ref sig .tc := ⟨.hbm, 68, rfl⟩
abbrev main_while0b_v55 : Ref sig .tc := ⟨.hbm, 69, rfl⟩
abbrev main_while0b_v56 : Ref sig .tc := ⟨.hbm, 70, rfl⟩
abbrev main_while0b_v57 : Ref sig .tc := ⟨.hbm, 71, rfl⟩
abbrev main_while0b_v58 : Ref sig .tc := ⟨.hbm, 72, rfl⟩
abbrev main_while0b_v59 : Ref sig .tc := ⟨.hbm, 73, rfl⟩
abbrev main_while0b_v60 : Ref sig .tc := ⟨.hbm, 74, rfl⟩
abbrev main_while0b_call1_v0 : Ref sig .tc := ⟨.hbm, 75, rfl⟩
abbrev main_while0b_call1_c : Ref sig .tc := ⟨.hbm, 76, rfl⟩
abbrev main_while0b_v61 : Ref sig .tc := ⟨.hbm, 77, rfl⟩
abbrev main_while0b_c_27 : Ref sig .tc := ⟨.hbm, 78, rfl⟩
abbrev main_while0b_v62 : Ref sig .tc := ⟨.hbm, 79, rfl⟩
abbrev main_v7 : Ref sig .tc := ⟨.hbm, 80, rfl⟩
abbrev main_cst_2 : Ref sig .tc := ⟨.hbm, 81, rfl⟩
abbrev main_v8 : Ref sig .tc := ⟨.hbm, 82, rfl⟩
abbrev main_cst_3 : Ref sig .tc := ⟨.hbm, 83, rfl⟩
abbrev main_v9 : Ref sig .tc := ⟨.hbm, 84, rfl⟩
abbrev main_cst_4 : Ref sig .tc := ⟨.hbm, 85, rfl⟩
abbrev main_v10 : Ref sig .tc := ⟨.hbm, 86, rfl⟩
abbrev main_c_5 : Ref sig .tc := ⟨.hbm, 87, rfl⟩
abbrev main_v11_0 : Ref sig .tc := ⟨.hbm, 88, rfl⟩
abbrev main_v11_1 : Ref sig .tc := ⟨.hbm, 89, rfl⟩
abbrev main_v11_2 : Ref sig .tc := ⟨.hbm, 90, rfl⟩
abbrev main_v11_3 : Ref sig .tc := ⟨.hbm, 91, rfl⟩
abbrev main_v11_4 : Ref sig .tc := ⟨.hbm, 92, rfl⟩
abbrev main_v11_5 : Ref sig .tc := ⟨.hbm, 93, rfl⟩
abbrev main_v11_6 : Ref sig .tc := ⟨.hbm, 94, rfl⟩
abbrev main_v11_7 : Ref sig .tc := ⟨.hbm, 95, rfl⟩
abbrev main_while1c_c_21 : Ref sig .tc := ⟨.hbm, 96, rfl⟩
abbrev main_while1c_v28 : Ref sig .tc := ⟨.hbm, 97, rfl⟩
abbrev main_while1b_call2_c : Ref sig .tc := ⟨.hbm, 98, rfl⟩
abbrev main_while1b_call2_v0 : Ref sig .tc := ⟨.hbm, 99, rfl⟩
abbrev main_while1b_v28 : Ref sig .tc := ⟨.hbm, 100, rfl⟩
abbrev main_while1b_v29 : Ref sig .tc := ⟨.hbm, 101, rfl⟩
abbrev main_while1b_v30 : Ref sig .tc := ⟨.hbm, 102, rfl⟩
abbrev main_while1b_v31 : Ref sig .tc := ⟨.hbm, 103, rfl⟩
abbrev main_while1b_v32 : Ref sig .tc := ⟨.hbm, 104, rfl⟩
abbrev main_while1b_v33 : Ref sig .tc := ⟨.hbm, 105, rfl⟩
abbrev main_while1b_v34 : Ref sig .tc := ⟨.hbm, 106, rfl⟩
abbrev main_while1b_v35 : Ref sig .tc := ⟨.hbm, 107, rfl⟩
abbrev main_while1b_v36 : Ref sig .tc := ⟨.hbm, 108, rfl⟩
abbrev main_while1b_v37 : Ref sig .tc := ⟨.hbm, 109, rfl⟩
abbrev main_while1b_v38 : Ref sig .tc := ⟨.hbm, 110, rfl⟩
abbrev main_while1b_cst_21 : Ref sig .tc := ⟨.hbm, 111, rfl⟩
abbrev main_while1b_v39 : Ref sig .tc := ⟨.hbm, 112, rfl⟩
abbrev main_while1b_v40 : Ref sig .tc := ⟨.hbm, 113, rfl⟩
abbrev main_while1b_cst_22 : Ref sig .tc := ⟨.hbm, 114, rfl⟩
abbrev main_while1b_v41 : Ref sig .tc := ⟨.hbm, 115, rfl⟩
abbrev main_while1b_v42 : Ref sig .tc := ⟨.hbm, 116, rfl⟩
abbrev main_while1b_v43 : Ref sig .tc := ⟨.hbm, 117, rfl⟩
abbrev main_while1b_v44 : Ref sig .tc := ⟨.hbm, 118, rfl⟩
abbrev main_while1b_cst_23 : Ref sig .tc := ⟨.hbm, 119, rfl⟩
abbrev main_while1b_v45 : Ref sig .tc := ⟨.hbm, 120, rfl⟩
abbrev main_while1b_v46 : Ref sig .tc := ⟨.hbm, 121, rfl⟩
abbrev main_while1b_cst_24 : Ref sig .tc := ⟨.hbm, 122, rfl⟩
abbrev main_while1b_v47 : Ref sig .tc := ⟨.hbm, 123, rfl⟩
abbrev main_while1b_v48 : Ref sig .tc := ⟨.hbm, 124, rfl⟩
abbrev main_while1b_v49 : Ref sig .tc := ⟨.hbm, 125, rfl⟩
abbrev main_while1b_v50 : Ref sig .tc := ⟨.hbm, 126, rfl⟩
abbrev main_while1b_v51 : Ref sig .tc := ⟨.hbm, 127, rfl⟩
abbrev main_while1b_cst_25 : Ref sig .tc := ⟨.hbm, 128, rfl⟩
abbrev main_while1b_v52 : Ref sig .tc := ⟨.hbm, 129, rfl⟩
abbrev main_while1b_v53 : Ref sig .tc := ⟨.hbm, 130, rfl⟩
abbrev main_while1b_cst_26 : Ref sig .tc := ⟨.hbm, 131, rfl⟩
abbrev main_while1b_v54 : Ref sig .tc := ⟨.hbm, 132, rfl⟩
abbrev main_while1b_v55 : Ref sig .tc := ⟨.hbm, 133, rfl⟩
abbrev main_while1b_v56 : Ref sig .tc := ⟨.hbm, 134, rfl⟩
abbrev main_while1b_v57 : Ref sig .tc := ⟨.hbm, 135, rfl⟩
abbrev main_while1b_v58 : Ref sig .tc := ⟨.hbm, 136, rfl⟩
abbrev main_while1b_v59 : Ref sig .tc := ⟨.hbm, 137, rfl⟩
abbrev main_while1b_v60 : Ref sig .tc := ⟨.hbm, 138, rfl⟩
abbrev main_while1b_call3_v0 : Ref sig .tc := ⟨.hbm, 139, rfl⟩
abbrev main_while1b_call3_c : Ref sig .tc := ⟨.hbm, 140, rfl⟩
abbrev main_while1b_v61 : Ref sig .tc := ⟨.hbm, 141, rfl⟩
abbrev main_while1b_c_27 : Ref sig .tc := ⟨.hbm, 142, rfl⟩
abbrev main_while1b_v62 : Ref sig .tc := ⟨.hbm, 143, rfl⟩
abbrev main_v12 : Ref sig .tc := ⟨.hbm, 144, rfl⟩
abbrev main_v13 : Ref sig .tc := ⟨.hbm, 145, rfl⟩
abbrev main_v14 : Ref sig .tc := ⟨.hbm, 146, rfl⟩
abbrev main_v15 : Ref sig .tc := ⟨.hbm, 147, rfl⟩
abbrev main_cst_6 : Ref sig .tc := ⟨.hbm, 148, rfl⟩
abbrev main_v16 : Ref sig .tc := ⟨.hbm, 149, rfl⟩
abbrev main_cst_7 : Ref sig .tc := ⟨.hbm, 150, rfl⟩
abbrev main_v17 : Ref sig .tc := ⟨.hbm, 151, rfl⟩
abbrev main_cst_8 : Ref sig .tc := ⟨.hbm, 152, rfl⟩
abbrev main_v18 : Ref sig .tc := ⟨.hbm, 153, rfl⟩
abbrev main_c_9 : Ref sig .tc := ⟨.hbm, 154, rfl⟩
abbrev main_v19_0 : Ref sig .tc := ⟨.hbm, 155, rfl⟩
abbrev main_v19_1 : Ref sig .tc := ⟨.hbm, 156, rfl⟩
abbrev main_v19_2 : Ref sig .tc := ⟨.hbm, 157, rfl⟩
abbrev main_v19_3 : Ref sig .tc := ⟨.hbm, 158, rfl⟩
abbrev main_v19_4 : Ref sig .tc := ⟨.hbm, 159, rfl⟩
abbrev main_v19_5 : Ref sig .tc := ⟨.hbm, 160, rfl⟩
abbrev main_v19_6 : Ref sig .tc := ⟨.hbm, 161, rfl⟩
abbrev main_v19_7 : Ref sig .tc := ⟨.hbm, 162, rfl⟩
abbrev main_while2c_c_21 : Ref sig .tc := ⟨.hbm, 163, rfl⟩
abbrev main_while2c_v28 : Ref sig .tc := ⟨.hbm, 164, rfl⟩
abbrev main_while2b_call4_c : Ref sig .tc := ⟨.hbm, 165, rfl⟩
abbrev main_while2b_call4_v0 : Ref sig .tc := ⟨.hbm, 166, rfl⟩
abbrev main_while2b_v28 : Ref sig .tc := ⟨.hbm, 167, rfl⟩
abbrev main_while2b_v29 : Ref sig .tc := ⟨.hbm, 168, rfl⟩
abbrev main_while2b_v30 : Ref sig .tc := ⟨.hbm, 169, rfl⟩
abbrev main_while2b_v31 : Ref sig .tc := ⟨.hbm, 170, rfl⟩
abbrev main_while2b_v32 : Ref sig .tc := ⟨.hbm, 171, rfl⟩
abbrev main_while2b_v33 : Ref sig .tc := ⟨.hbm, 172, rfl⟩
abbrev main_while2b_v34 : Ref sig .tc := ⟨.hbm, 173, rfl⟩
abbrev main_while2b_v35 : Ref sig .tc := ⟨.hbm, 174, rfl⟩
abbrev main_while2b_v36 : Ref sig .tc := ⟨.hbm, 175, rfl⟩
abbrev main_while2b_v37 : Ref sig .tc := ⟨.hbm, 176, rfl⟩
abbrev main_while2b_v38 : Ref sig .tc := ⟨.hbm, 177, rfl⟩
abbrev main_while2b_cst_21 : Ref sig .tc := ⟨.hbm, 178, rfl⟩
abbrev main_while2b_v39 : Ref sig .tc := ⟨.hbm, 179, rfl⟩
abbrev main_while2b_v40 : Ref sig .tc := ⟨.hbm, 180, rfl⟩
abbrev main_while2b_cst_22 : Ref sig .tc := ⟨.hbm, 181, rfl⟩
abbrev main_while2b_v41 : Ref sig .tc := ⟨.hbm, 182, rfl⟩
abbrev main_while2b_v42 : Ref sig .tc := ⟨.hbm, 183, rfl⟩
abbrev main_while2b_v43 : Ref sig .tc := ⟨.hbm, 184, rfl⟩
abbrev main_while2b_v44 : Ref sig .tc := ⟨.hbm, 185, rfl⟩
abbrev main_while2b_cst_23 : Ref sig .tc := ⟨.hbm, 186, rfl⟩
abbrev main_while2b_v45 : Ref sig .tc := ⟨.hbm, 187, rfl⟩
abbrev main_while2b_v46 : Ref sig .tc := ⟨.hbm, 188, rfl⟩
abbrev main_while2b_cst_24 : Ref sig .tc := ⟨.hbm, 189, rfl⟩
abbrev main_while2b_v47 : Ref sig .tc := ⟨.hbm, 190, rfl⟩
abbrev main_while2b_v48 : Ref sig .tc := ⟨.hbm, 191, rfl⟩
abbrev main_while2b_v49 : Ref sig .tc := ⟨.hbm, 192, rfl⟩
abbrev main_while2b_v50 : Ref sig .tc := ⟨.hbm, 193, rfl⟩
abbrev main_while2b_v51 : Ref sig .tc := ⟨.hbm, 194, rfl⟩
abbrev main_while2b_cst_25 : Ref sig .tc := ⟨.hbm, 195, rfl⟩
abbrev main_while2b_v52 : Ref sig .tc := ⟨.hbm, 196, rfl⟩
abbrev main_while2b_v53 : Ref sig .tc := ⟨.hbm, 197, rfl⟩
abbrev main_while2b_cst_26 : Ref sig .tc := ⟨.hbm, 198, rfl⟩
abbrev main_while2b_v54 : Ref sig .tc := ⟨.hbm, 199, rfl⟩
abbrev main_while2b_v55 : Ref sig .tc := ⟨.hbm, 200, rfl⟩
abbrev main_while2b_v56 : Ref sig .tc := ⟨.hbm, 201, rfl⟩
abbrev main_while2b_v57 : Ref sig .tc := ⟨.hbm, 202, rfl⟩
abbrev main_while2b_v58 : Ref sig .tc := ⟨.hbm, 203, rfl⟩
abbrev main_while2b_v59 : Ref sig .tc := ⟨.hbm, 204, rfl⟩
abbrev main_while2b_v60 : Ref sig .tc := ⟨.hbm, 205, rfl⟩
abbrev main_while2b_call5_v0 : Ref sig .tc := ⟨.hbm, 206, rfl⟩
abbrev main_while2b_call5_c : Ref sig .tc := ⟨.hbm, 207, rfl⟩
abbrev main_while2b_v61 : Ref sig .tc := ⟨.hbm, 208, rfl⟩
abbrev main_while2b_c_27 : Ref sig .tc := ⟨.hbm, 209, rfl⟩
abbrev main_while2b_v62 : Ref sig .tc := ⟨.hbm, 210, rfl⟩
abbrev main_v20 : Ref sig .tc := ⟨.hbm, 211, rfl⟩
abbrev main_cst_10 : Ref sig .tc := ⟨.hbm, 212, rfl⟩
abbrev main_v21 : Ref sig .tc := ⟨.hbm, 213, rfl⟩
abbrev main_cst_11 : Ref sig .tc := ⟨.hbm, 214, rfl⟩
abbrev main_v22 : Ref sig .tc := ⟨.hbm, 215, rfl⟩
abbrev main_cst_12 : Ref sig .tc := ⟨.hbm, 216, rfl⟩
abbrev main_v23 : Ref sig .tc := ⟨.hbm, 217, rfl⟩
abbrev main_c_13 : Ref sig .tc := ⟨.hbm, 218, rfl⟩
abbrev main_v24_0 : Ref sig .tc := ⟨.hbm, 219, rfl⟩
abbrev main_v24_1 : Ref sig .tc := ⟨.hbm, 220, rfl⟩
abbrev main_v24_2 : Ref sig .tc := ⟨.hbm, 221, rfl⟩
abbrev main_v24_3 : Ref sig .tc := ⟨.hbm, 222, rfl⟩
abbrev main_v24_4 : Ref sig .tc := ⟨.hbm, 223, rfl⟩
abbrev main_v24_5 : Ref sig .tc := ⟨.hbm, 224, rfl⟩
abbrev main_v24_6 : Ref sig .tc := ⟨.hbm, 225, rfl⟩
abbrev main_v24_7 : Ref sig .tc := ⟨.hbm, 226, rfl⟩
abbrev main_while3c_c_21 : Ref sig .tc := ⟨.hbm, 227, rfl⟩
abbrev main_while3c_v28 : Ref sig .tc := ⟨.hbm, 228, rfl⟩
abbrev main_while3b_call6_c : Ref sig .tc := ⟨.hbm, 229, rfl⟩
abbrev main_while3b_call6_v0 : Ref sig .tc := ⟨.hbm, 230, rfl⟩
abbrev main_while3b_v28 : Ref sig .tc := ⟨.hbm, 231, rfl⟩
abbrev main_while3b_v29 : Ref sig .tc := ⟨.hbm, 232, rfl⟩
abbrev main_while3b_v30 : Ref sig .tc := ⟨.hbm, 233, rfl⟩
abbrev main_while3b_v31 : Ref sig .tc := ⟨.hbm, 234, rfl⟩
abbrev main_while3b_v32 : Ref sig .tc := ⟨.hbm, 235, rfl⟩
abbrev main_while3b_v33 : Ref sig .tc := ⟨.hbm, 236, rfl⟩
abbrev main_while3b_v34 : Ref sig .tc := ⟨.hbm, 237, rfl⟩
abbrev main_while3b_v35 : Ref sig .tc := ⟨.hbm, 238, rfl⟩
abbrev main_while3b_v36 : Ref sig .tc := ⟨.hbm, 239, rfl⟩
abbrev main_while3b_v37 : Ref sig .tc := ⟨.hbm, 240, rfl⟩
abbrev main_while3b_v38 : Ref sig .tc := ⟨.hbm, 241, rfl⟩
abbrev main_while3b_cst_21 : Ref sig .tc := ⟨.hbm, 242, rfl⟩
abbrev main_while3b_v39 : Ref sig .tc := ⟨.hbm, 243, rfl⟩
abbrev main_while3b_v40 : Ref sig .tc := ⟨.hbm, 244, rfl⟩
abbrev main_while3b_cst_22 : Ref sig .tc := ⟨.hbm, 245, rfl⟩
abbrev main_while3b_v41 : Ref sig .tc := ⟨.hbm, 246, rfl⟩
abbrev main_while3b_v42 : Ref sig .tc := ⟨.hbm, 247, rfl⟩
abbrev main_while3b_v43 : Ref sig .tc := ⟨.hbm, 248, rfl⟩
abbrev main_while3b_v44 : Ref sig .tc := ⟨.hbm, 249, rfl⟩
abbrev main_while3b_cst_23 : Ref sig .tc := ⟨.hbm, 250, rfl⟩
abbrev main_while3b_v45 : Ref sig .tc := ⟨.hbm, 251, rfl⟩
abbrev main_while3b_v46 : Ref sig .tc := ⟨.hbm, 252, rfl⟩
abbrev main_while3b_cst_24 : Ref sig .tc := ⟨.hbm, 253, rfl⟩
abbrev main_while3b_v47 : Ref sig .tc := ⟨.hbm, 254, rfl⟩
abbrev main_while3b_v48 : Ref sig .tc := ⟨.hbm, 255, rfl⟩
abbrev main_while3b_v49 : Ref sig .tc := ⟨.hbm, 256, rfl⟩
abbrev main_while3b_v50 : Ref sig .tc := ⟨.hbm, 257, rfl⟩
abbrev main_while3b_v51 : Ref sig .tc := ⟨.hbm, 258, rfl⟩
abbrev main_while3b_cst_25 : Ref sig .tc := ⟨.hbm, 259, rfl⟩
abbrev main_while3b_v52 : Ref sig .tc := ⟨.hbm, 260, rfl⟩
abbrev main_while3b_v53 : Ref sig .tc := ⟨.hbm, 261, rfl⟩
abbrev main_while3b_cst_26 : Ref sig .tc := ⟨.hbm, 262, rfl⟩
abbrev main_while3b_v54 : Ref sig .tc := ⟨.hbm, 263, rfl⟩
abbrev main_while3b_v55 : Ref sig .tc := ⟨.hbm, 264, rfl⟩
abbrev main_while3b_v56 : Ref sig .tc := ⟨.hbm, 265, rfl⟩
abbrev main_while3b_v57 : Ref sig .tc := ⟨.hbm, 266, rfl⟩
abbrev main_while3b_v58 : Ref sig .tc := ⟨.hbm, 267, rfl⟩
abbrev main_while3b_v59 : Ref sig .tc := ⟨.hbm, 268, rfl⟩
abbrev main_while3b_v60 : Ref sig .tc := ⟨.hbm, 269, rfl⟩
abbrev main_while3b_call7_v0 : Ref sig .tc := ⟨.hbm, 270, rfl⟩
abbrev main_while3b_call7_c : Ref sig .tc := ⟨.hbm, 271, rfl⟩
abbrev main_while3b_v61 : Ref sig .tc := ⟨.hbm, 272, rfl⟩
abbrev main_while3b_c_27 : Ref sig .tc := ⟨.hbm, 273, rfl⟩
abbrev main_while3b_v62 : Ref sig .tc := ⟨.hbm, 274, rfl⟩
abbrev main_v25 : Ref sig .tc := ⟨.hbm, 275, rfl⟩
abbrev main_v26 : Ref sig .tc := ⟨.hbm, 276, rfl⟩
abbrev main_v27 : Ref sig .tc := ⟨.hbm, 277, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩

abbrev main_while2_count : Scf.Loop 32 := ⟨0#32, 200#32, 1#32⟩

abbrev main_while3_count : Scf.Loop 32 := ⟨0#32, 200#32, 1#32⟩
-- ==== Proof.KI.Model.lean ====
/- The recurrence that each direction of the kernel's loop computes, as a plain recursion over rows: from a
   carried pair (the cell state, the recurrent product of the last hidden state) and the row of the input
   product, one step yields the next pair and stores the hidden state. Both regions and both directions
   compute the same step. -/
module

public import proofs.«01_k».proof.Proof.Gen.KernelIdeal.Skeleton
public import Idealize.ShloMosaic.Lib.WritesUnit
public import Idealize.ShloMosaic.Lib.Pointwise.Index
public import Idealize.ShloMosaic.Lib.WordArith.Masks

@[expose] public section

noncomputable section

namespace Cert.KernelIdeal.Own

open Cert.KernelIdeal Cert.KernelIdeal.Gen
open Idealize.ShloMosaic

variable {F : FTy → Type} [FloatOps F]

/-- What a direction carries from row to row: the cell state and the recurrent product. -/
abbrev St (F : FTy → Type) : Type := Vec F S1x128 .f32 × Vec F S1x512 .f32

/-- One row: the next cell state and the next recurrent product. -/
def stp (U : Vec F S128x512 .bf16) (xw : Vec F S1x512 .f32) (s : St F) : St F :=
  (k0_pay2 s.1 s.2 xw, k0_pay4 s.1 s.2 xw U)

/-- The carried pair before row `k`, from `s`. -/
def chain (U : Vec F S128x512 .bf16) (xw : ℕ → Vec F S1x512 .f32) (s : St F) : ℕ → St F
  | 0 => s
  | k + 1 => stp U (xw k) (chain U xw s k)

/-- The hidden state that row `k` stores. -/
def hid (U : Vec F S128x512 .bf16) (xw : ℕ → Vec F S1x512 .f32) (s : St F) (k : ℕ) : Vec F S1x128 .f32 :=
  k0_pay3 (chain U xw s k).1 (chain U xw s k).2 (xw k)

/-- The chain over `a + b` rows is the chain over the last `b` rows from the chain over the first `a`. -/
theorem chain_add (U : Vec F S128x512 .bf16) (xw : ℕ → Vec F S1x512 .f32) (s : St F) (a b : ℕ) :
    chain U xw s (a + b) = chain U (fun k => xw (a + k)) (chain U xw s a) b := by
  induction b with
  | zero => rfl
  | succ b ih => show stp U (xw (a + b)) (chain U xw s (a + b)) = _; rw [ih]; rfl

/-- The chain reads only the rows before its end. -/
theorem chain_congr (U : Vec F S128x512 .bf16) (xw xw' : ℕ → Vec F S1x512 .f32) (s : St F) (n : ℕ)
    (h : ∀ k < n, xw k = xw' k) : chain U xw s n = chain U xw' s n := by
  induction n with
  | zero => rfl
  | succ n ih =>
    show stp U (xw n) (chain U xw s n) = stp U (xw' n) (chain U xw' s n)
    rw [ih fun k hk => h k (by omega), h n (by omega)]

/-- The carried pair at the first grid point: zeros. -/
def s0 : St F := (k0_pay13, k0_pay14)

/-- Row `k` of a matrix of `n` rows of 512 lanes (row 0 past the end). -/
def row {n : ℕ} [NeZero n] (X : (⟨2, ![n, 512]⟩ : Shape).Idx → F .f32) (k : ℕ) : Vec F S1x512 .f32 :=
  fun j => X (ix2 (Fin.ofNat n k) (j 1))

/-- The matrix whose row `k` is `h k`. -/
def rows (n : ℕ) (h : ℕ → Vec F S1x128 .f32) : (⟨2, ![n, 128]⟩ : Shape).Idx → F .f32 :=
  fun i => h (i 0).val (ix2 0 (i 1))

end Cert.KernelIdeal.Own

end
-- ==== Proof.KI.Rows.lean ====
/- Loads and stores of single rows: what a row's load reads, and what the rows stored so far hold. -/
module

public import proofs.«01_k».proof.Proof.KI.Model

@[expose] public section

noncomputable section

namespace Cert.KernelIdeal.Own

open Cert.KernelIdeal Cert.KernelIdeal.Gen
open Idealize.ShloMosaic Idealize.ShloMosaic.TcCoe

variable {F : FTy → Type} [FloatOps F]

/-- A load of one row through a view is that row of what the view reads. -/
theorem readAt_row {n : ℕ} [NeZero n] {sp : Space} (v : View sig .tc sp (⟨2, ![n, 512]⟩ : Shape) .f32) {off : Fin 2 → ℕ} (k : ℕ) (hk : k < n) (ho : off = ![k, 0])
    (inb : ∀ a, off a + S1x512.size a ≤ (⟨2, ![n, 512]⟩ : Shape).size a) (f : v.ty.Contents (Elt F)) :
    (v.readAt (Elt F) (Rect.unit (s := (⟨2, ![n, 512]⟩ : Shape)) off S1x512.size inb).toLoadRect f : Vec F S1x512 .f32) = row (n := n) (v.read (Elt F) f) k := by
  subst ho
  funext j
  rw [View.readAt_apply]
  show v.read (Elt F) f _ = v.read (Elt F) f _
  congr 1
  funext a; apply Fin.ext
  have h0 : (j 0).val < 1 := (j 0).isLt
  match a with
  | ⟨0, _⟩ => show k + 1 * (j 0).val = k % n; rw [Nat.mod_eq_of_lt hk]; omega
  | ⟨1, _⟩ => show 0 + 1 * (j 1).val = (j 1).val; omega

/-- A load of the whole matrix is what the view reads. -/
theorem readAt_whole {sp : Space} (v : View sig .tc sp S128x512 .bf16) (f : v.ty.Contents (Elt F)) :
    (v.readAt (Elt F) (Rect.unit (s := S128x512) ![0, 0] S128x512.size inb_S128x512_S128x512_0_0).toLoadRect f : Vec F S128x512 .bf16) = v.read (Elt F) f := by
  funext j
  rw [View.readAt_apply]
  congr 1
  funext a; apply Fin.ext
  match a with
  | ⟨0, _⟩ => show 0 + 1 * (j 0).val = (j 0).val; omega
  | ⟨1, _⟩ => show 0 + 1 * (j 1).val = (j 1).val; omega

/-- The rows written over `g` before row `k`. -/
def paint {n : ℕ} (g : Vec F (⟨2, ![n, 128]⟩ : Shape) .f32) (h : ℕ → Vec F S1x128 .f32) (k : ℕ) : Vec F (⟨2, ![n, 128]⟩ : Shape) .f32 :=
  fun i => if (i 0).val < k then rows n h i else g i

/-- With every row painted nothing of the old contents is left. -/
theorem paint_full {n : ℕ} (g : Vec F (⟨2, ![n, 128]⟩ : Shape) .f32) (h : ℕ → Vec F S1x128 .f32) : paint g h n = rows n h :=
  funext fun i => if_pos (i 0).isLt

/-- Storing row `k` over the rows before it. -/
theorem paint_step {n : ℕ} {sp : Space} (v : View sig .tc sp (⟨2, ![n, 128]⟩ : Shape) .f32) (f : v.ty.Contents (Elt F)) (g : Vec F (⟨2, ![n, 128]⟩ : Shape) .f32) (h : ℕ → Vec F S1x128 .f32)
    {off : Fin 2 → ℕ} (k : ℕ) (ho : off = ![k, 0]) (inb : ∀ a, off a + S1x128.size a ≤ (⟨2, ![n, 128]⟩ : Shape).size a) (w : Vec F S1x128 .f32)
    (hw : w = h k) (L : List (View.Piece (Elt F) (⟨2, ![n, 128]⟩ : Shape) .f32)) (hL : v.read (Elt F) (v.writes (Elt F) f L) = paint g h k) :
    v.read (Elt F) (v.writes (Elt F) f (⟨Rect.unit (s := (⟨2, ![n, 128]⟩ : Shape)) off S1x128.size inb, w⟩ :: L)) = paint g h (k + 1) := by
  funext i
  have h1 : (i 1).val < 128 := (i 1).isLt
  by_cases hi : (i 0).val = k
  · rw [View.read_writes_cons_rows_of_mem (o := k) v f inb w L i (ix2 0 (i 1)) ho (by show _ = k + 0; omega) rfl]
    unfold paint; rw [if_pos (by omega)]
    unfold rows; rw [hi, hw]
  · rw [View.read_writes_cons_rows_of_not_mem (o := k) (W := 1) v f inb w L i ho rfl (by omega), hL]
    unfold paint
    by_cases h2 : (i 0).val < k
    · rw [if_pos h2, if_pos (by omega)]
    · rw [if_neg h2, if_neg (by omega)]

/-- The four carried values of the loop as two directions' pairs. -/
abbrev quad (s t : St F) : Vec F S1x128 .f32 × Vec F S1x512 .f32 × Vec F S1x128 .f32 × Vec F S1x512 .f32 := (s.1, s.2, t.1, t.2)

end Cert.KernelIdeal.Own

end
-- ==== Proof.KI.Loop0.lean ====
/- Region 0's loop: what its generated recursion holds before each trip, read as the rows of the recurrence. -/
module

public import proofs.«01_k».proof.Proof.KI.Rows
public import proofs.«01_k».proof.Proof.Gen.KernelIdeal.Loops

@[expose] public section

noncomputable section

namespace Cert.KernelIdeal.Own

open Cert.KernelIdeal Cert.KernelIdeal.Gen
open Idealize.ShloMosaic Idealize.ShloMosaic.TcCoe

variable {F : FTy → Type} [FloatOps F]

/-- The context's loop makes 512 trips. -/
theorem trips0 : k0_t1_loop.trips = 512 := by decide +kernel

/-- Trip `k` reads its input row at row `k`. -/
theorem off1_0 (k : Fin k0_t1_loop.trips) : k0_off1 k = ![k.val, 0] := by
  have h : k.val < 512 := Nat.lt_of_lt_of_eq k.isLt trips0
  unfold k0_off1
  exact congrArg (fun n => ![n, 0]) (WordArith.toNat_iv_zero_one k.val (by omega))

/-- Trip `k` writes its output row at row `k`. -/
theorem off2_0 (k : Fin k0_t1_loop.trips) : k0_off2 k = ![k.val, 0] := off1_0 k

variable (c : Dev nD) (i : grid0.Coords) (arg1 : Memref sig .tc .vmem S512x128 .f32) (harg1 : arg1.IsWhole) (arg2 : Memref sig .tc .vmem S512x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x128 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S512x512 .f32) (harg16 : arg16.IsWhole)

/-- THE LOOP'S STATE BEFORE TRIP `k`: each direction's carried pair is the recurrence's, and the pieces stored so
    far put the hidden states of the rows before `k` over what was there. -/
theorem st0_spec (X5 : BufTy.Contents (Elt F) arg5.view.ty) (X6 : BufTy.Contents (Elt F) arg6.view.ty) (X15 : BufTy.Contents (Elt F) arg15.view.ty) (X16 : BufTy.Contents (Elt F) arg16.view.ty)
    (Uf Ub : Vec F S128x512 .bf16) (h5 : arg5.view.read (Elt F) X5 = Uf) (h6 : arg6.view.read (Elt F) X6 = Ub)
    (Xf Xb : Vec F S512x512 .f32) (h15 : arg15.view.read (Elt F) X15 = Xf) (h16 : arg16.view.read (Elt F) X16 = Xb)
    (sf sb : St F) (k : ℕ) (hk : k ≤ 512) :
    let st := st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 (quad sf sb) k
    st.1 = quad (chain Uf (row (n := 512) Xf) sf k) (chain Ub (row (n := 512) Xb) sb k)
      ∧ (∀ f, arg9.view.read (Elt F) (arg9.view.writes (Elt F) f st.2.1) = paint (arg9.view.read (Elt F) f) (hid Uf (row (n := 512) Xf) sf) k)
      ∧ (∀ f, arg10.view.read (Elt F) (arg10.view.writes (Elt F) f st.2.2) = paint (arg10.view.read (Elt F) f) (hid Ub (row (n := 512) Xb) sb) k) := by
  induction k with
  | zero => exact ⟨rfl, fun f => funext fun i => (if_neg (Nat.not_lt_zero _)).symm, fun f => funext fun i => (if_neg (Nat.not_lt_zero _)).symm⟩
  | succ k ih =>
    have hk' : k < 512 := hk
    have ht : k < k0_t1_loop.trips := by rw [trips0]; omega
    obtain ⟨e1, e2, e3⟩ := ih (by omega)
    have hs := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 (quad sf sb) ⟨k, ht⟩
    intro st
    rw [show st = _ from hs]
    unfold tripR_k0_t1 tripL_k0_t1 trip_k0_t1
    dsimp only
    rw [e1]
    have r15 := readAt_row (F := F) arg15.view k hk' (off1_0 ⟨k, ht⟩) (k0_off1_inb ⟨k, ht⟩) X15
    have r16 := readAt_row (F := F) arg16.view k hk' (off1_0 ⟨k, ht⟩) (k0_off1_inb ⟨k, ht⟩) X16
    have r5 := readAt_whole (F := F) arg5.view X5
    have r6 := readAt_whole (F := F) arg6.view X6
    rw [h15] at r15; rw [h16] at r16; rw [h5] at r5; rw [h6] at r6
    refine ⟨?_, fun f => ?_, fun f => ?_⟩
    · rw [show View.readAt (Elt F) arg15.view _ X15 = _ from r15, show View.readAt (Elt F) arg16.view _ X16 = _ from r16,
        show View.readAt (Elt F) arg5.view _ X5 = _ from r5, show View.readAt (Elt F) arg6.view _ X6 = _ from r6]
      rfl
    · exact paint_step (F := F) arg9.view f _ _ k (off2_0 ⟨k, ht⟩) _ _ (by rw [show View.readAt (Elt F) arg15.view _ X15 = _ from r15]; rfl) _ (e2 f)
    · exact paint_step (F := F) arg10.view f _ _ k (off2_0 ⟨k, ht⟩) _ _ (by rw [show View.readAt (Elt F) arg16.view _ X16 = _ from r16]; rfl) _ (e3 f)

end Cert.KernelIdeal.Own

end
-- ==== Proof.KI.Body0.lean ====
/- Region 0's body at any staging memrefs: what it leaves, as the rows of the recurrence. -/
module

public import proofs.«01_k».proof.Proof.KI.Loop0
public import Idealize.ShloMosaic.Lib.Tactic
public import Idealize.ShloMosaic.Lib.VecWindow
public import Idealize.ShloMosaic.Lib.Pipeline.Value

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The certificate's resource algebra: the frame kit's. -/
abbrev UU : Type := UR sig nD τ

local notation "𝕄" => MT nD τ sig Unit (Elt F) ℕ UU ℕ

/-- The word that guards the kernel's initialisation. -/
def guard (n : ℕ) : BitVec 1 := Scalar.cmpi .ne (Scalar.extui (Scalar.cmpi .eq (BitVec.ofNat 32 n) 0#32) : BitVec 32) 0#32

/-- The condition that guards the kernel's initialisation holds at the first grid point alone. -/
theorem guard_iff : ∀ n : Fin 8, Iff (guard n.val = 1#1) (n.val = 0) := by decide

variable (c : Dev nD) (i : grid0.Coords) (arg1 : Memref sig .tc .vmem S512x128 .f32) (harg1 : arg1.IsWhole) (arg2 : Memref sig .tc .vmem S512x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x128 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S512x512 .f32) (harg16 : arg16.IsWhole)

/-- What the loop leaves: the carried values are the chain after the chunk's 512 rows, and each output's rows are the hidden states. -/
theorem after0 (X5 : BufTy.Contents (Elt F) arg5.view.ty) (X6 : BufTy.Contents (Elt F) arg6.view.ty) (X15 : BufTy.Contents (Elt F) arg15.view.ty) (X16 : BufTy.Contents (Elt F) arg16.view.ty)
    (Uf Ub : Vec F S128x512 .bf16) (h5 : arg5.view.read (Elt F) X5 = Uf) (h6 : arg6.view.read (Elt F) X6 = Ub)
    (Xf Xb : Vec F S512x512 .f32) (h15 : arg15.view.read (Elt F) X15 = Xf) (h16 : arg16.view.read (Elt F) X16 = Xb)
    (sf sb : St F) (q : Vec F S1x128 .f32 × Vec F S1x512 .f32 × Vec F S1x128 .f32 × Vec F S1x512 .f32) (hq : q = quad sf sb) :
    let st := st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 q (Scf.trips k0_t1_loop.lb k0_t1_loop.ub k0_t1_loop.st)
    (k0_pay9 st.1.1 = (chain Uf (row (n := 512) Xf) sf 512).1 ∧ k0_pay10 st.1.2.1 = (chain Uf (row (n := 512) Xf) sf 512).2
      ∧ k0_pay11 st.1.2.2.1 = (chain Ub (row (n := 512) Xb) sb 512).1 ∧ k0_pay12 st.1.2.2.2 = (chain Ub (row (n := 512) Xb) sb 512).2)
      ∧ (∀ f, arg9.view.read (Elt F) (arg9.view.writes (Elt F) f st.2.1) = rows 512 (hid Uf (row (n := 512) Xf) sf))
      ∧ (∀ f, arg10.view.read (Elt F) (arg10.view.writes (Elt F) f st.2.2) = rows 512 (hid Ub (row (n := 512) Xb) sb)) := by
  subst hq
  intro st
  obtain ⟨q1, q2, q3⟩ := st0_spec (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 Uf Ub h5 h6 Xf Xb h15 h16 sf sb 512 le_rfl
  have hst : st = st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 (quad sf sb) 512 :=
    congrArg (fun n => st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 (quad sf sb) n) trips0
  rw [hst]
  refine ⟨?_, fun f => (q2 f).trans (paint_full _ _), fun f => (q3 f).trans (paint_full _ _)⟩
  rw [q1]
  exact ⟨shapeCast_self _ _, shapeCast_self _ _, shapeCast_self _ _, shapeCast_self _ _⟩

/-- The body at the first grid point: it clears the carried pairs. -/
theorem body0_init
    (x1 x2 : Vec F S512x128 .f32) (x3 x4 : Vec F S128x512 .f32) (x5 x6 : Vec F S128x512 .bf16) (x7 x8 : Vec F S1x512 .f32)
    (sf sb : St F) (d11 : Vec F S1x128 .f32) (d12 : Vec F S1x512 .f32) (d13 : Vec F S1x128 .f32) (d14 : Vec F S1x512 .f32)
    (h0 : (i 0).val = 0) (hs : sf = s0 ∧ sb = s0) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7 ∗ owns (c : Thread nD τ) arg8 fullShare x8
      ∗ (∃ d, owns (c : Thread nD τ) arg9 fullShare d) ∗ (∃ d, owns (c : Thread nD τ) arg10 fullShare d)
      ∗ owns (c : Thread nD τ) arg11 fullShare d11 ∗ owns (c : Thread nD τ) arg12 fullShare d12 ∗ owns (c : Thread nD τ) arg13 fullShare d13 ∗ owns (c : Thread nD τ) arg14 fullShare d14
      ∗ (∃ d, owns (c : Thread nD τ) arg15 fullShare d) ∗ (∃ d, owns (c : Thread nD τ) arg16 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (rows 512 (hid x5 (row (n := 512) (k0_pay17 x1 x3 x7)) sf) : Vec F S512x128 .f32)
          ∗ owns (c : Thread nD τ) arg10 fullShare (rows 512 (hid x6 (row (n := 512) (k0_pay17 x2 x4 x8)) sb) : Vec F S512x128 .f32)
          ∗ owns (c : Thread nD τ) arg11 fullShare (chain x5 (row (n := 512) (k0_pay17 x1 x3 x7)) sf 512).1 ∗ owns (c : Thread nD τ) arg12 fullShare (chain x5 (row (n := 512) (k0_pay17 x1 x3 x7)) sf 512).2
          ∗ owns (c : Thread nD τ) arg13 fullShare (chain x6 (row (n := 512) (k0_pay17 x2 x4 x8)) sb 512).1 ∗ owns (c : Thread nD τ) arg14 fullShare (chain x6 (row (n := 512) (k0_pay17 x2 x4 x8)) sb 512).2
          ∗ (∃ d, owns (c : Thread nD τ) arg15 fullShare d) ∗ (∃ d, owns (c : Thread nD τ) arg16 fullShare d)) -∗ K ⟨⟩))
    ⊢ wp frame (wpE (defs₀ (F := F)) Variants.none c none) E (cc0__lstm_pair_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hc : Scalar.cmpi .ne (Scalar.extui (Scalar.cmpi .eq (BitVec.ofNat 32 (i 0).val) 0#32) : BitVec 32) 0#32 = 1#1 := (guard_iff (i 0)).mpr h0
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%d10, %f10, -, H10⟩, ⟨%f11, %e11, H11⟩, ⟨%f12, %e12, H12⟩, ⟨%f13, %e13, H13⟩, ⟨%f14, %e14, H14⟩, ⟨%d15, %f15, -, H15⟩, ⟨%d16, %f16, -, H16⟩, Hk⟩
  sl_unfold [cc0__lstm_pair_kernel]
  sl_exec (disch := sl_exact hc)
  obtain ⟨rfl, rfl⟩ := hs
  obtain ⟨⟨a1, a2, a3, a4⟩, a5, a6⟩ := after0 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f5 f6
    (arg15.view.writes (Elt F) arg15.view.junk (body0_init.sl.H15_1 c arg1 arg3 arg7 f1 f3 f7)) (arg16.view.writes (Elt F) arg16.view.junk (body0_init.sl.H16_1 c arg2 arg4 arg8 f2 f4 f8))
    x5 x6 e5 e6 (k0_pay17 x1 x3 x7) (k0_pay18 x2 x4 x8)
    ((View.read_writes_full _ _ _ _ _).trans (by rw [← e1, ← e3, ← e7, ← View.readAt_full, ← View.readAt_full, ← View.readAt_full]))
    ((View.read_writes_full _ _ _ _ _).trans (by rw [← e2, ← e4, ← e8, ← View.readAt_full, ← View.readAt_full, ← View.readAt_full]))
    s0 s0 (body0_init.sl.v27 c arg11, body0_init.sl.v28 c arg12, body0_init.sl.v29 c arg13, body0_init.sl.v30 c arg14)
    (by
      refine Prod.ext ?_ (Prod.ext ?_ (Prod.ext ?_ ?_))
      · exact View.readCov_full (Val := Elt F) arg11.view _ _ _ _
      · exact View.readCov_full (Val := Elt F) arg12.view _ _ _ _
      · exact View.readCov_full (Val := Elt F) arg13.view _ _ _ _
      · exact View.readCov_full (Val := Elt F) arg14.view _ _ _ _)
  sl_step
  iapply Hk
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  isplitl [H5]
  · iexists f5; isplitr
    · ipureintro; exact e5
    · iexact H5
  isplitl [H6]
  · iexists f6; isplitr
    · ipureintro; exact e6
    · iexact H6
  isplitl [H7]
  · iexists f7; isplitr
    · ipureintro; exact e7
    · iexact H7
  isplitl [H8]
  · iexists f8; isplitr
    · ipureintro; exact e8
    · iexact H8
  isplitl [H9]
  · iexists _; isplitr; swap
    · iexact H9
    · ipureintro; exact a5 f9
  isplitl [H10]
  · iexists _; isplitr; swap
    · iexact H10
    · ipureintro; exact a6 f10
  isplitl [H11]
  · iexists _; isplitr; swap
    · iexact H11
    · ipureintro; exact (View.read_writes_full _ _ _ _ _).trans a1
  isplitl [H12]
  · iexists _; isplitr; swap
    · iexact H12
    · ipureintro; exact (View.read_writes_full _ _ _ _ _).trans a2
  isplitl [H13]
  · iexists _; isplitr; swap
    · iexact H13
    · ipureintro; exact (View.read_writes_full _ _ _ _ _).trans a3
  isplitl [H14]
  · iexists _; isplitr; swap
    · iexact H14
    · ipureintro; exact (View.read_writes_full _ _ _ _ _).trans a4
  isplitl [H15]
  · iexists _, (arg15.view.writes (Elt F) arg15.view.junk (body0_init.sl.H15_1 c arg1 arg3 arg7 f1 f3 f7)); isplitr
    · ipureintro; rfl
    · iexact H15
  · iexists _, (arg16.view.writes (Elt F) arg16.view.junk (body0_init.sl.H16_1 c arg2 arg4 arg8 f2 f4 f8)); isplitr
    · ipureintro; rfl
    · iexact H16

/-- The body at a later grid point: it goes on from the carried pairs. -/
theorem body0_next
    (x1 x2 : Vec F S512x128 .f32) (x3 x4 : Vec F S128x512 .f32) (x5 x6 : Vec F S128x512 .bf16) (x7 x8 : Vec F S1x512 .f32)
    (sf sb : St F) (d11 : Vec F S1x128 .f32) (d12 : Vec F S1x512 .f32) (d13 : Vec F S1x128 .f32) (d14 : Vec F S1x512 .f32)
    (h0 : ¬ (i 0).val = 0) (hs : sf = (d11, d12) ∧ sb = (d13, d14)) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7 ∗ owns (c : Thread nD τ) arg8 fullShare x8
      ∗ (∃ d, owns (c : Thread nD τ) arg9 fullShare d) ∗ (∃ d, owns (c : Thread nD τ) arg10 fullShare d)
      ∗ owns (c : Thread nD τ) arg11 fullShare d11 ∗ owns (c : Thread nD τ) arg12 fullShare d12 ∗ owns (c : Thread nD τ) arg13 fullShare d13 ∗ owns (c : Thread nD τ) arg14 fullShare d14
      ∗ (∃ d, owns (c : Thread nD τ) arg15 fullShare d) ∗ (∃ d, owns (c : Thread nD τ) arg16 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (rows 512 (hid x5 (row (n := 512) (k0_pay17 x1 x3 x7)) sf) : Vec F S512x128 .f32)
          ∗ owns (c : Thread nD τ) arg10 fullShare (rows 512 (hid x6 (row (n := 512) (k0_pay17 x2 x4 x8)) sb) : Vec F S512x128 .f32)
          ∗ owns (c : Thread nD τ) arg11 fullShare (chain x5 (row (n := 512) (k0_pay17 x1 x3 x7)) sf 512).1 ∗ owns (c : Thread nD τ) arg12 fullShare (chain x5 (row (n := 512) (k0_pay17 x1 x3 x7)) sf 512).2
          ∗ owns (c : Thread nD τ) arg13 fullShare (chain x6 (row (n := 512) (k0_pay17 x2 x4 x8)) sb 512).1 ∗ owns (c : Thread nD τ) arg14 fullShare (chain x6 (row (n := 512) (k0_pay17 x2 x4 x8)) sb 512).2
          ∗ (∃ d, owns (c : Thread nD τ) arg15 fullShare d) ∗ (∃ d, owns (c : Thread nD τ) arg16 fullShare d)) -∗ K ⟨⟩))
    ⊢ wp frame (wpE (defs₀ (F := F)) Variants.none c none) E (cc0__lstm_pair_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hc : ¬ Scalar.cmpi .ne (Scalar.extui (Scalar.cmpi .eq (BitVec.ofNat 32 (i 0).val) 0#32) : BitVec 32) 0#32 = 1#1 := mt (guard_iff (i 0)).mp h0
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%d10, %f10, -, H10⟩, ⟨%f11, %e11, H11⟩, ⟨%f12, %e12, H12⟩, ⟨%f13, %e13, H13⟩, ⟨%f14, %e14, H14⟩, ⟨%d15, %f15, -, H15⟩, ⟨%d16, %f16, -, H16⟩, Hk⟩
  sl_unfold [cc0__lstm_pair_kernel]
  sl_exec (disch := sl_exact hc)
  obtain ⟨rfl, rfl⟩ := hs
  obtain ⟨⟨a1, a2, a3, a4⟩, a5, a6⟩ := after0 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f5 f6
    (arg15.view.writes (Elt F) arg15.view.junk (body0_next.sl.H15_1 c arg1 arg3 arg7 f1 f3 f7)) (arg16.view.writes (Elt F) arg16.view.junk (body0_next.sl.H16_1 c arg2 arg4 arg8 f2 f4 f8))
    x5 x6 e5 e6 (k0_pay17 x1 x3 x7) (k0_pay18 x2 x4 x8)
    ((View.read_writes_full _ _ _ _ _).trans (by rw [← e1, ← e3, ← e7, ← View.readAt_full, ← View.readAt_full, ← View.readAt_full]))
    ((View.read_writes_full _ _ _ _ _).trans (by rw [← e2, ← e4, ← e8, ← View.readAt_full, ← View.readAt_full, ← View.readAt_full]))
    (d11, d12) (d13, d14) (body0_next.sl.r c arg11 f11, body0_next.sl.r_1 c arg12 f12, body0_next.sl.r_2 c arg13 f13,
      View.readAt (Elt F) arg14.view (Rect.unit ![0, 0] S1x512.size inb_S1x512_S1x512_0_0).toLoadRect f14)
    (by
      rw [← e11, ← e12, ← e13, ← e14]
      refine Prod.ext ?_ (Prod.ext ?_ (Prod.ext ?_ ?_))
      · exact View.readAt_full (Val := Elt F) arg11.view _ _
      · exact View.readAt_full (Val := Elt F) arg12.view _ _
      · exact View.readAt_full (Val := Elt F) arg13.view _ _
      · exact View.readAt_full (Val := Elt F) arg14.view _ _)
  sl_step
  iapply Hk
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  isplitl [H5]
  · iexists f5; isplitr
    · ipureintro; exact e5
    · iexact H5
  isplitl [H6]
  · iexists f6; isplitr
    · ipureintro; exact e6
    · iexact H6
  isplitl [H7]
  · iexists f7; isplitr
    · ipureintro; exact e7
    · iexact H7
  isplitl [H8]
  · iexists f8; isplitr
    · ipureintro; exact e8
    · iexact H8
  isplitl [H9]
  · iexists _; isplitr; swap
    · iexact H9
    · ipureintro; exact a5 f9
  isplitl [H10]
  · iexists _; isplitr; swap
    · iexact H10
    · ipureintro; exact a6 f10
  isplitl [H11]
  · iexists _; isplitr; swap
    · iexact H11
    · ipureintro; exact (View.read_writes_full _ _ _ _ _).trans a1
  isplitl [H12]
  · iexists _; isplitr; swap
    · iexact H12
    · ipureintro; exact (View.read_writes_full _ _ _ _ _).trans a2
  isplitl [H13]
  · iexists _; isplitr; swap
    · iexact H13
    · ipureintro; exact (View.read_writes_full _ _ _ _ _).trans a3
  isplitl [H14]
  · iexists _; isplitr; swap
    · iexact H14
    · ipureintro; exact (View.read_writes_full _ _ _ _ _).trans a4
  isplitl [H15]
  · iexists _, (arg15.view.writes (Elt F) arg15.view.junk (body0_next.sl.H15_1 c arg1 arg3 arg7 f1 f3 f7)); isplitr
    · ipureintro; rfl
    · iexact H15
  · iexists _, (arg16.view.writes (Elt F) arg16.view.junk (body0_next.sl.H16_1 c arg2 arg4 arg8 f2 f4 f8)); isplitr
    · ipureintro; rfl
    · iexact H16

/-- THE BODY AT A GRID POINT: from the input blocks and the carried pairs (zeros at the first point), the outputs hold the hidden states of the chunk's rows and the
    scratch the carried pairs after them. -/
theorem body0
    (x1 x2 : Vec F S512x128 .f32) (x3 x4 : Vec F S128x512 .f32) (x5 x6 : Vec F S128x512 .bf16) (x7 x8 : Vec F S1x512 .f32)
    (sf sb : St F) (d11 : Vec F S1x128 .f32) (d12 : Vec F S1x512 .f32) (d13 : Vec F S1x128 .f32) (d14 : Vec F S1x512 .f32)
    (hs : if (i 0).val = 0 then sf = s0 ∧ sb = s0 else sf = (d11, d12) ∧ sb = (d13, d14)) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7 ∗ owns (c : Thread nD τ) arg8 fullShare x8
      ∗ (∃ d, owns (c : Thread nD τ) arg9 fullShare d) ∗ (∃ d, owns (c : Thread nD τ) arg10 fullShare d)
      ∗ owns (c : Thread nD τ) arg11 fullShare d11 ∗ owns (c : Thread nD τ) arg12 fullShare d12 ∗ owns (c : Thread nD τ) arg13 fullShare d13 ∗ owns (c : Thread nD τ) arg14 fullShare d14
      ∗ (∃ d, owns (c : Thread nD τ) arg15 fullShare d) ∗ (∃ d, owns (c : Thread nD τ) arg16 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (rows 512 (hid x5 (row (n := 512) (k0_pay17 x1 x3 x7)) sf) : Vec F S512x128 .f32)
          ∗ owns (c : Thread nD τ) arg10 fullShare (rows 512 (hid x6 (row (n := 512) (k0_pay17 x2 x4 x8)) sb) : Vec F S512x128 .f32)
          ∗ owns (c : Thread nD τ) arg11 fullShare (chain x5 (row (n := 512) (k0_pay17 x1 x3 x7)) sf 512).1 ∗ owns (c : Thread nD τ) arg12 fullShare (chain x5 (row (n := 512) (k0_pay17 x1 x3 x7)) sf 512).2
          ∗ owns (c : Thread nD τ) arg13 fullShare (chain x6 (row (n := 512) (k0_pay17 x2 x4 x8)) sb 512).1 ∗ owns (c : Thread nD τ) arg14 fullShare (chain x6 (row (n := 512) (k0_pay17 x2 x4 x8)) sb 512).2
          ∗ (∃ d, owns (c : Thread nD τ) arg15 fullShare d) ∗ (∃ d, owns (c : Thread nD τ) arg16 fullShare d)) -∗ K ⟨⟩))
    ⊢ wp frame (wpE (defs₀ (F := F)) Variants.none c none) E (cc0__lstm_pair_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases h0 : (i 0).val = 0
  · rw [if_pos h0] at hs
    exact body0_init c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 sf sb d11 d12 d13 d14 h0 hs E K
  · rw [if_neg h0] at hs
    exact body0_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 sf sb d11 d12 d13 d14 h0 hs E K

end Cert.KernelIdeal.Own

end
-- ==== Proof.KI.Region0.lean ====
/- Region 0 (the context's call): its proof data at an entry valuation and the body obligation. At point `t` the carried scratch
   holds each direction's pair after the chunks before `t`; the body leaves each output's block at the chunk's hidden states. -/
module

public import proofs.«01_k».proof.Proof.KI.Body0
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Contents of every buffer of each core, by reference. -/
abbrev Vals (F : FTy → Type) [FloatOps F] : Type := (c : Dev nD) → (b : Ref sig .tc) → Buf (Elt F) ((c : Thread nD τ).loc b)

/-- No core owes another anything: no level is assigned. -/
abbrev L : GSem nD τ sig → Finset Unit := fun _ => ∅
/-- Every semaphore has level zero. -/
abbrev lv : GSem nD τ sig → Unit → ℕ := fun _ _ => 0
/-- There are no loop variants. -/
abbrev 𝒱₀ : Variants := Variants.none

/-- A scoped buffer held at something, as a whole memref owned at something: both ways. -/
theorem owns_of_some (c : Dev nD) (b : Ref sig .tc) :
    iprop(∃ f : Buf (Elt F) ((c : Thread nD τ).loc b), ((c : Thread nD τ).loc b) ↦{fullShare} f)
      ⊢ (iprop(∃ d, owns (c : Thread nD τ) (Memref.whole b) fullShare d) : sProp 𝕄) := by
  iintro ⟨%f, H⟩; iexists f; rw [owns_whole]; iexact H
/-- A buffer owned at known contents is owned at some. -/
theorem some_of_owns (c : Dev nD) (b : Ref sig .tc) (d : b.ty.Contents (Elt F)) :
    owns (c : Thread nD τ) (Memref.whole b) fullShare d
      ⊢ (iprop(∃ f : Buf (Elt F) ((c : Thread nD τ).loc b), ((c : Thread nD τ).loc b) ↦{fullShare} f) : sProp 𝕄) := by
  rw [owns_whole]; iintro H; iexists d; iexact H

section

variable (V : Vals F)

/-- Window `w`'s block at point `t`, read of the array's entry contents. -/
abbrev blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Point `t` of the grid of 8 (wrapping round past the end). -/
def pt0 (t : ℕ) : Fin cfg0.N := ⟨t % 8, Nat.lt_of_lt_of_eq (Nat.mod_lt _ (by decide)) N_0.symm⟩

/-- The point of a point's number is the point. -/
theorem pt0_val (t : Fin cfg0.N) : pt0 t.val = t :=
  Fin.ext (Nat.mod_eq_of_lt (Nat.lt_of_lt_of_eq t.isLt N_0))

/-- The rows of each direction's input product at point `t`. -/
def xwF (c : Dev nD) (t : Fin cfg0.N) : ℕ → Vec F S1x512 .f32 := row (n := 512) (k0_pay17 (blk0 V c 0 t) (blk0 V c 2 t) (blk0 V c 6 t))
/-- The backward rows of the input product at a point. -/
def xwB (c : Dev nD) (t : Fin cfg0.N) : ℕ → Vec F S1x512 .f32 := row (n := 512) (k0_pay18 (blk0 V c 1 t) (blk0 V c 3 t) (blk0 V c 7 t))

/-- Each direction's carried pair before point `t`: zeros at the first, then the chain over the chunks. -/
def carF (c : Dev nD) : ℕ → St F
  | 0 => s0
  | t + 1 => chain (blk0 V c 4 (pt0 t)) (xwF V c (pt0 t)) (carF c t) 512
/-- The backward pair carried into a point. -/
def carB (c : Dev nD) : ℕ → St F
  | 0 => s0
  | t + 1 => chain (blk0 V c 5 (pt0 t)) (xwB V c (pt0 t)) (carB c t) 512

/-- The six buffers of scratch the kernel is called with. -/
abbrev scr0 : List (Ref sig .tc) := [cc0_scratch0, cc0_scratch1, cc0_scratch2, cc0_scratch3, cc0_scratch4, cc0_scratch5]

/-- The scoped buffers the pipeline does not stage, at point `t`: the carried pairs (known past the first point), the two input products at something,
    the rest at something. -/
def Φ0 (c : Dev nD) (t : ℕ) : sProp 𝕄 :=
  iprop(∃ (sf sb : St F), ⌜t ≠ 0 → sf = carF V c t ∧ sb = carB V c t⌝
    ∗ owns (c : Thread nD τ) (Memref.whole cc0_scratch0) fullShare sf.1 ∗ owns (c : Thread nD τ) (Memref.whole cc0_scratch1) fullShare sf.2
    ∗ owns (c : Thread nD τ) (Memref.whole cc0_scratch2) fullShare sb.1 ∗ owns (c : Thread nD τ) (Memref.whole cc0_scratch3) fullShare sb.2
    ∗ (∃ d, owns (c : Thread nD τ) (Memref.whole cc0_scratch4) fullShare d) ∗ (∃ d, owns (c : Thread nD τ) (Memref.whole cc0_scratch5) fullShare d)
    ∗ Pipeline.scopedRestBut (Ix := Unit) (Name := ℕ) (U := UU) (Lvl := ℕ) (Val := Elt F) spec0 c scr0)

/-- The proof data of region 0 from `V`: the inputs are left as they were, each output's block holds the chunk's hidden states. -/
def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => rows 512 (hid (blk0 V c 4 t) (xwF V c t) (carF V c t.val))
    | ⟨9, _⟩ => rows 512 (hid (blk0 V c 5 t) (xwB V c t) (carB V c t.val))
  Φ t := Φ0 V c t.val
  q _ := fullShare
  owed _ := 0

/-- The grid is one axis: the point's coordinate is the point. -/
theorem coord0 : ∀ t : Fin grid0.N, (grid0.coords t 0).val = t.val := by decide +kernel

/-- Each input's buffer holds the block when the body runs. -/
theorem before0_0 (c : Dev nD) (t : Fin cfg0.N) (d : (cfg0.win 0).block.Idx → Elt F (cfg0.win 0).elt) : (dat0 V c).before 0 t d = blk0 V c 0 t :=
  (dat0 V c).before_in_eq_fetched 0 rfl (fun _ => rfl) (fun _ _ _ => rfl) (fun _ => rfl) t d
/-- Input 1's buffer holds its block when the body runs. -/
theorem before0_1 (c : Dev nD) (t : Fin cfg0.N) (d : (cfg0.win 1).block.Idx → Elt F (cfg0.win 1).elt) : (dat0 V c).before 1 t d = blk0 V c 1 t :=
  (dat0 V c).before_in_eq_fetched 1 rfl (fun _ => rfl) (fun _ _ _ => rfl) (fun _ => rfl) t d
/-- Input 2's buffer holds its block when the body runs. -/
theorem before0_2 (c : Dev nD) (t : Fin cfg0.N) (d : (cfg0.win 2).block.Idx → Elt F (cfg0.win 2).elt) : (dat0 V c).before 2 t d = blk0 V c 2 t :=
  (dat0 V c).before_in_eq_fetched 2 rfl (fun _ => rfl) (fun _ _ _ => rfl) (fun _ => rfl) t d
/-- Input 3's buffer holds its block when the body runs. -/
theorem before0_3 (c : Dev nD) (t : Fin cfg0.N) (d : (cfg0.win 3).block.Idx → Elt F (cfg0.win 3).elt) : (dat0 V c).before 3 t d = blk0 V c 3 t :=
  (dat0 V c).before_in_eq_fetched 3 rfl (fun _ => rfl) (fun _ _ _ => rfl) (fun _ => rfl) t d
/-- Input 4's buffer holds its block when the body runs. -/
theorem before0_4 (c : Dev nD) (t : Fin cfg0.N) (d : (cfg0.win 4).block.Idx → Elt F (cfg0.win 4).elt) : (dat0 V c).before 4 t d = blk0 V c 4 t :=
  (dat0 V c).before_in_eq_fetched 4 rfl (fun _ => rfl) (fun _ _ _ => rfl) (fun _ => rfl) t d
/-- Input 5's buffer holds its block when the body runs. -/
theorem before0_5 (c : Dev nD) (t : Fin cfg0.N) (d : (cfg0.win 5).block.Idx → Elt F (cfg0.win 5).elt) : (dat0 V c).before 5 t d = blk0 V c 5 t :=
  (dat0 V c).before_in_eq_fetched 5 rfl (fun _ => rfl) (fun _ _ _ => rfl) (fun _ => rfl) t d
/-- Input 6's buffer holds its block when the body runs. -/
theorem before0_6 (c : Dev nD) (t : Fin cfg0.N) (d : (cfg0.win 6).block.Idx → Elt F (cfg0.win 6).elt) : (dat0 V c).before 6 t d = blk0 V c 6 t :=
  (dat0 V c).before_in_eq_fetched 6 rfl (fun _ => rfl) (fun _ _ _ => rfl) (fun _ => rfl) t d
/-- Input 7's buffer holds its block when the body runs. -/
theorem before0_7 (c : Dev nD) (t : Fin cfg0.N) (d : (cfg0.win 7).block.Idx → Elt F (cfg0.win 7).elt) : (dat0 V c).before 7 t d = blk0 V c 7 t :=
  (dat0 V c).before_in_eq_fetched 7 rfl (fun _ => rfl) (fun _ _ _ => rfl) (fun _ => rfl) t d

/-- The body obligation of region 0. -/
theorem obl0 (c : Dev nD) : BodyObligation (dat0 V c) (defs₀ (F := F)) 𝒱₀ () Set.univ := fun t => by
  rw [bigSep_W0, bigSep_W0]
  simp only [before0_0, before0_1, before0_2, before0_3, before0_4, before0_5, before0_6, before0_7]
  rw [show (dat0 V c).Φ t.castSucc = Φ0 V c t.val from rfl, show (dat0 V c).Φ t.succ = Φ0 V c (t.val + 1) from rfl,
    show (dat0 V c).owesAt () t.succ = (dat0 V c).owesAt () t.castSucc from rfl]
  unfold Φ0
  iintro ⟨⟨%sf, %sb, %hs, S0, S1, S2, S3, S4, S5, Hr⟩, Howes, ⟨%_, H0⟩, ⟨%_, H1⟩, ⟨%_, H2⟩, ⟨%_, H3⟩, ⟨%_, H4⟩, ⟨%_, H5⟩, ⟨%_, H6⟩, ⟨%_, H7⟩, ⟨%d8, H8⟩, ⟨%d9, H9⟩⟩
  have hi : (if (grid0.coords t 0).val = 0 then carF V c t.val = s0 ∧ carB V c t.val = s0
      else carF V c t.val = (sf.1, sf.2) ∧ carB V c t.val = (sb.1, sb.2)) := by
    rw [coord0 t]
    split
    · next h => rw [h]; exact ⟨rfl, rfl⟩
    · next h => exact ⟨(hs h).1.symm, (hs h).2.symm⟩
  iapply (body0 (F := F) c (grid0.coords t) _ _ _ _ _ _ _ _ _ _ _ _ _ _ _ _ _ _ _ _ _ _ _ _ _ _ _ _ _ _ _ _
    (blk0 V c 0 t) (blk0 V c 1 t) (blk0 V c 2 t) (blk0 V c 3 t) (blk0 V c 4 t) (blk0 V c 5 t) (blk0 V c 6 t) (blk0 V c 7 t)
    (carF V c t.val) (carB V c t.val) sf.1 sf.2 sb.1 sb.2 hi Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, S0, S1, S2, S3, S4, S5⟩
  isplitl [S0 S1 S2 S3 S4 S5 Hr]
  · iexists (carF V c (t.val + 1)), (carB V c (t.val + 1))
    have e : pt0 t.val = t := pt0_val t
    rw [show carF V c (t.val + 1) = chain (blk0 V c 4 (pt0 t.val)) (xwF V c (pt0 t.val)) (carF V c t.val) 512 from rfl,
      show carB V c (t.val + 1) = chain (blk0 V c 5 (pt0 t.val)) (xwB V c (pt0 t.val)) (carB V c t.val) 512 from rfl, e]
    isplitr; · ipureintro; exact fun _ => ⟨rfl, rfl⟩
    isplitl [S0]; · iexact S0
    isplitl [S1]; · iexact S1
    isplitl [S2]; · iexact S2
    isplitl [S3]; · iexact S3
    isplitl [S4]; · iexact S4
    isplitl [S5]; · iexact S5
    iexact Hr
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end

end Cert.KernelIdeal.Own

end
-- ==== Proof.KI.Loop1.lean ====
/- Region 1's loop: what its generated recursion holds before each trip, read as the rows of the recurrence. -/
module

public import proofs.«01_k».proof.Proof.KI.Rows
public import proofs.«01_k».proof.Proof.Gen.KernelIdeal.Loops

@[expose] public section

noncomputable section

namespace Cert.KernelIdeal.Own

open Cert.KernelIdeal Cert.KernelIdeal.Gen
open Idealize.ShloMosaic Idealize.ShloMosaic.TcCoe

variable {F : FTy → Type} [FloatOps F]

/-- The query's loop makes 200 trips. -/
theorem trips1 : k1_t1_loop.trips = 200 := by decide +kernel

/-- Trip `k` reads its input row at row `k`. -/
theorem offs1_1 (k : Fin k1_t1_loop.trips) : k1_off1 k = ![k.val, 0] := by
  have h : k.val < 200 := Nat.lt_of_lt_of_eq k.isLt trips1
  unfold k1_off1
  exact congrArg (fun n => ![n, 0]) (WordArith.toNat_iv_zero_one k.val (by omega))

/-- Trip `k` writes its output row at row `k`. -/
theorem offs2_1 (k : Fin k1_t1_loop.trips) : k1_off2 k = ![k.val, 0] := offs1_1 k

variable (c : Dev nD) (i : grid1.Coords) (arg1 : Memref sig .tc .vmem S200x128 .f32) (harg1 : arg1.IsWhole) (arg2 : Memref sig .tc .vmem S200x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x128 .f32) (harg13 : arg13.IsWhole) (arg14 : Memref sig .tc .vmem S1x512 .f32) (harg14 : arg14.IsWhole) (arg15 : Memref sig .tc .vmem S200x512 .f32) (harg15 : arg15.IsWhole) (arg16 : Memref sig .tc .vmem S200x512 .f32) (harg16 : arg16.IsWhole)

/-- THE LOOP'S STATE BEFORE TRIP `k`: each direction's carried pair is the recurrence's, and the pieces stored so
    far put the hidden states of the rows before `k` over what was there. -/
theorem st1_spec (X5 : BufTy.Contents (Elt F) arg5.view.ty) (X6 : BufTy.Contents (Elt F) arg6.view.ty) (X15 : BufTy.Contents (Elt F) arg15.view.ty) (X16 : BufTy.Contents (Elt F) arg16.view.ty)
    (Uf Ub : Vec F S128x512 .bf16) (h5 : arg5.view.read (Elt F) X5 = Uf) (h6 : arg6.view.read (Elt F) X6 = Ub)
    (Xf Xb : Vec F S200x512 .f32) (h15 : arg15.view.read (Elt F) X15 = Xf) (h16 : arg16.view.read (Elt F) X16 = Xb)
    (sf sb : St F) (k : ℕ) (hk : k ≤ 200) :
    let st := st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 (quad sf sb) k
    st.1 = quad (chain Uf (row (n := 200) Xf) sf k) (chain Ub (row (n := 200) Xb) sb k)
      ∧ (∀ f, arg9.view.read (Elt F) (arg9.view.writes (Elt F) f st.2.1) = paint (arg9.view.read (Elt F) f) (hid Uf (row (n := 200) Xf) sf) k)
      ∧ (∀ f, arg10.view.read (Elt F) (arg10.view.writes (Elt F) f st.2.2) = paint (arg10.view.read (Elt F) f) (hid Ub (row (n := 200) Xb) sb) k) := by
  induction k with
  | zero => exact ⟨rfl, fun f => funext fun i => (if_neg (Nat.not_lt_zero _)).symm, fun f => funext fun i => (if_neg (Nat.not_lt_zero _)).symm⟩
  | succ k ih =>
    have hk' : k < 200 := hk
    have ht : k < k1_t1_loop.trips := by rw [trips1]; omega
    obtain ⟨e1, e2, e3⟩ := ih (by omega)
    have hs := st_k1_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 (quad sf sb) ⟨k, ht⟩
    intro st
    rw [show st = _ from hs]
    unfold tripR_k1_t1 tripL_k1_t1 trip_k1_t1
    dsimp only
    rw [e1]
    have r15 := readAt_row (F := F) arg15.view k hk' (offs1_1 ⟨k, ht⟩) (k1_off1_inb ⟨k, ht⟩) X15
    have r16 := readAt_row (F := F) arg16.view k hk' (offs1_1 ⟨k, ht⟩) (k1_off1_inb ⟨k, ht⟩) X16
    have r5 := readAt_whole (F := F) arg5.view X5
    have r6 := readAt_whole (F := F) arg6.view X6
    rw [h15] at r15; rw [h16] at r16; rw [h5] at r5; rw [h6] at r6
    refine ⟨?_, fun f => ?_, fun f => ?_⟩
    · rw [show View.readAt (Elt F) arg15.view _ X15 = _ from r15, show View.readAt (Elt F) arg16.view _ X16 = _ from r16,
        show View.readAt (Elt F) arg5.view _ X5 = _ from r5, show View.readAt (Elt F) arg6.view _ X6 = _ from r6]
      rfl
    · exact paint_step (F := F) arg9.view f _ _ k (offs2_1 ⟨k, ht⟩) _ _ (by rw [show View.readAt (Elt F) arg15.view _ X15 = _ from r15]; rfl) _ (e2 f)
    · exact paint_step (F := F) arg10.view f _ _ k (offs2_1 ⟨k, ht⟩) _ _ (by rw [show View.readAt (Elt F) arg16.view _ X16 = _ from r16]; rfl) _ (e3 f)

end Cert.KernelIdeal.Own

end
-- ==== Proof.KI.Body1.lean ====
/- Region 1's body at any staging memrefs: what it leaves, as the rows of the recurrence. -/
module

public import proofs.«01_k».proof.Proof.KI.Loop1
public import proofs.«01_k».proof.Proof.KI.Body0
public import Idealize.ShloMosaic.Lib.Tactic
public import Idealize.ShloMosaic.Lib.VecWindow
public import Idealize.ShloMosaic.Lib.Pipeline.Value

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD) (i : grid1.Coords) (arg1 : Memref sig .tc .vmem S200x128 .f32) (harg1 : arg1.IsWhole) (arg2 : Memref sig .tc .vmem S200x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x128 .f32) (harg13 : arg13.IsWhole) (arg14 : Memref sig .tc .vmem S1x512 .f32) (harg14 : arg14.IsWhole) (arg15 : Memref sig .tc .vmem S200x512 .f32) (harg15 : arg15.IsWhole) (arg16 : Memref sig .tc .vmem S200x512 .f32) (harg16 : arg16.IsWhole)

/-- What the loop leaves: the carried values are the chain after the 200 rows, and each output's rows are the hidden states. -/
theorem after1 (X5 : BufTy.Contents (Elt F) arg5.view.ty) (X6 : BufTy.Contents (Elt F) arg6.view.ty) (X15 : BufTy.Contents (Elt F) arg15.view.ty) (X16 : BufTy.Contents (Elt F) arg16.view.ty)
    (Uf Ub : Vec F S128x512 .bf16) (h5 : arg5.view.read (Elt F) X5 = Uf) (h6 : arg6.view.read (Elt F) X6 = Ub)
    (Xf Xb : Vec F S200x512 .f32) (h15 : arg15.view.read (Elt F) X15 = Xf) (h16 : arg16.view.read (Elt F) X16 = Xb)
    (sf sb : St F) (q : Vec F S1x128 .f32 × Vec F S1x512 .f32 × Vec F S1x128 .f32 × Vec F S1x512 .f32) (hq : q = quad sf sb) :
    let st := st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 q (Scf.trips k1_t1_loop.lb k1_t1_loop.ub k1_t1_loop.st)
    (k1_pay9 st.1.1 = (chain Uf (row (n := 200) Xf) sf 200).1 ∧ k1_pay10 st.1.2.1 = (chain Uf (row (n := 200) Xf) sf 200).2
      ∧ k1_pay11 st.1.2.2.1 = (chain Ub (row (n := 200) Xb) sb 200).1 ∧ k1_pay12 st.1.2.2.2 = (chain Ub (row (n := 200) Xb) sb 200).2)
      ∧ (∀ f, arg9.view.read (Elt F) (arg9.view.writes (Elt F) f st.2.1) = rows 200 (hid Uf (row (n := 200) Xf) sf))
      ∧ (∀ f, arg10.view.read (Elt F) (arg10.view.writes (Elt F) f st.2.2) = rows 200 (hid Ub (row (n := 200) Xb) sb)) := by
  subst hq
  intro st
  obtain ⟨q1, q2, q3⟩ := st1_spec (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 Uf Ub h5 h6 Xf Xb h15 h16 sf sb 200 le_rfl
  have hst : st = st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 (quad sf sb) 200 :=
    congrArg (fun n => st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X5 X6 X15 X16 (quad sf sb) n) trips1
  rw [hst]
  refine ⟨?_, fun f => (q2 f).trans (paint_full _ _), fun f => (q3 f).trans (paint_full _ _)⟩
  rw [q1]
  exact ⟨shapeCast_self _ _, shapeCast_self _ _, shapeCast_self _ _, shapeCast_self _ _⟩

/-- The body at the one grid point: it clears the carried pairs. -/
theorem body1
    (x1 x2 : Vec F S200x128 .f32) (x3 x4 : Vec F S128x512 .f32) (x5 x6 : Vec F S128x512 .bf16) (x7 x8 : Vec F S1x512 .f32)
    (sf sb : St F) (d11 : Vec F S1x128 .f32) (d12 : Vec F S1x512 .f32) (d13 : Vec F S1x128 .f32) (d14 : Vec F S1x512 .f32)
    (hs : sf = s0 ∧ sb = s0) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7 ∗ owns (c : Thread nD τ) arg8 fullShare x8
      ∗ (∃ d, owns (c : Thread nD τ) arg9 fullShare d) ∗ (∃ d, owns (c : Thread nD τ) arg10 fullShare d)
      ∗ owns (c : Thread nD τ) arg11 fullShare d11 ∗ owns (c : Thread nD τ) arg12 fullShare d12 ∗ owns (c : Thread nD τ) arg13 fullShare d13 ∗ owns (c : Thread nD τ) arg14 fullShare d14
      ∗ (∃ d, owns (c : Thread nD τ) arg15 fullShare d) ∗ (∃ d, owns (c : Thread nD τ) arg16 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (rows 200 (hid x5 (row (n := 200) (k1_pay17 x1 x3 x7)) sf) : Vec F S200x128 .f32)
          ∗ owns (c : Thread nD τ) arg10 fullShare (rows 200 (hid x6 (row (n := 200) (k1_pay17 x2 x4 x8)) sb) : Vec F S200x128 .f32)
          ∗ owns (c : Thread nD τ) arg11 fullShare (chain x5 (row (n := 200) (k1_pay17 x1 x3 x7)) sf 200).1 ∗ owns (c : Thread nD τ) arg12 fullShare (chain x5 (row (n := 200) (k1_pay17 x1 x3 x7)) sf 200).2
          ∗ owns (c : Thread nD τ) arg13 fullShare (chain x6 (row (n := 200) (k1_pay17 x2 x4 x8)) sb 200).1 ∗ owns (c : Thread nD τ) arg14 fullShare (chain x6 (row (n := 200) (k1_pay17 x2 x4 x8)) sb 200).2
          ∗ (∃ d, owns (c : Thread nD τ) arg15 fullShare d) ∗ (∃ d, owns (c : Thread nD τ) arg16 fullShare d)) -∗ K ⟨⟩))
    ⊢ wp frame (wpE (defs₀ (F := F)) Variants.none c none) E (cc1__lstm_pair_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hc : Scalar.cmpi .ne (Scalar.extui (Scalar.cmpi .eq (BitVec.ofNat 32 (i 0).val) 0#32) : BitVec 32) 0#32 = 1#1 := by
    have h : (i 0).val = 0 := by have := (i 0).isLt; change (i 0).val < 1 at this; omega
    rw [h]; exact (guard_iff 0).mpr rfl
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%d10, %f10, -, H10⟩, ⟨%f11, %e11, H11⟩, ⟨%f12, %e12, H12⟩, ⟨%f13, %e13, H13⟩, ⟨%f14, %e14, H14⟩, ⟨%d15, %f15, -, H15⟩, ⟨%d16, %f16, -, H16⟩, Hk⟩
  sl_unfold [cc1__lstm_pair_kernel]
  sl_exec (disch := sl_exact hc)
  obtain ⟨rfl, rfl⟩ := hs
  obtain ⟨⟨a1, a2, a3, a4⟩, a5, a6⟩ := after1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f5 f6
    (arg15.view.writes (Elt F) arg15.view.junk (body1.sl.H15_1 c arg1 arg3 arg7 f1 f3 f7)) (arg16.view.writes (Elt F) arg16.view.junk (body1.sl.H16_1 c arg2 arg4 arg8 f2 f4 f8))
    x5 x6 e5 e6 (k1_pay17 x1 x3 x7) (k1_pay18 x2 x4 x8)
    ((View.read_writes_full _ _ _ _ _).trans (by rw [← e1, ← e3, ← e7, ← View.readAt_full, ← View.readAt_full, ← View.readAt_full]))
    ((View.read_writes_full _ _ _ _ _).trans (by rw [← e2, ← e4, ← e8, ← View.readAt_full, ← View.readAt_full, ← View.readAt_full]))
    s0 s0 (body1.sl.v27 c arg11, body1.sl.v28 c arg12, body1.sl.v29 c arg13, body1.sl.v30 c arg14)
    (by
      refine Prod.ext ?_ (Prod.ext ?_ (Prod.ext ?_ ?_))
      · exact View.readCov_full (Val := Elt F) arg11.view _ _ _ _
      · exact View.readCov_full (Val := Elt F) arg12.view _ _ _ _
      · exact View.readCov_full (Val := Elt F) arg13.view _ _ _ _
      · exact View.readCov_full (Val := Elt F) arg14.view _ _ _ _)
  sl_step
  iapply Hk
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  isplitl [H5]
  · iexists f5; isplitr
    · ipureintro; exact e5
    · iexact H5
  isplitl [H6]
  · iexists f6; isplitr
    · ipureintro; exact e6
    · iexact H6
  isplitl [H7]
  · iexists f7; isplitr
    · ipureintro; exact e7
    · iexact H7
  isplitl [H8]
  · iexists f8; isplitr
    · ipureintro; exact e8
    · iexact H8
  isplitl [H9]
  · iexists _; isplitr; swap
    · iexact H9
    · ipureintro; exact a5 f9
  isplitl [H10]
  · iexists _; isplitr; swap
    · iexact H10
    · ipureintro; exact a6 f10
  isplitl [H11]
  · iexists _; isplitr; swap
    · iexact H11
    · ipureintro; exact (View.read_writes_full _ _ _ _ _).trans a1
  isplitl [H12]
  · iexists _; isplitr; swap
    · iexact H12
    · ipureintro; exact (View.read_writes_full _ _ _ _ _).trans a2
  isplitl [H13]
  · iexists _; isplitr; swap
    · iexact H13
    · ipureintro; exact (View.read_writes_full _ _ _ _ _).trans a3
  isplitl [H14]
  · iexists _; isplitr; swap
    · iexact H14
    · ipureintro; exact (View.read_writes_full _ _ _ _ _).trans a4
  isplitl [H15]
  · iexists _, (arg15.view.writes (Elt F) arg15.view.junk (body1.sl.H15_1 c arg1 arg3 arg7 f1 f3 f7)); isplitr
    · ipureintro; rfl
    · iexact H15
  · iexists _, (arg16.view.writes (Elt F) arg16.view.junk (body1.sl.H16_1 c arg2 arg4 arg8 f2 f4 f8)); isplitr
    · ipureintro; rfl
    · iexact H16

end Cert.KernelIdeal.Own

end
-- ==== Proof.KI.Region1.lean ====
/- Region 1 (the query's call): its proof data at an entry valuation and the body obligation. The grid has one point, so the
   scratch carries nothing; the body leaves each output at the hidden states of the 200 rows. -/
module

public import proofs.«01_k».proof.Proof.KI.Body1
public import proofs.«01_k».proof.Proof.KI.Region0
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

/-- Window `w`'s block at the one point, read of the array's entry contents. -/
abbrev blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of each direction's input product. -/
def xwF1 (c : Dev nD) (t : Fin cfg1.N) : ℕ → Vec F S1x512 .f32 := row (n := 200) (k1_pay17 (blk1 V c 0 t) (blk1 V c 2 t) (blk1 V c 6 t))
/-- The backward rows of the input product. -/
def xwB1 (c : Dev nD) (t : Fin cfg1.N) : ℕ → Vec F S1x512 .f32 := row (n := 200) (k1_pay17 (blk1 V c 1 t) (blk1 V c 3 t) (blk1 V c 7 t))

/-- The proof data of region 1 from `V`: the inputs are left as they were, each output holds its direction's hidden states. -/
def dat1 (c : Dev nD) : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => rows 200 (hid (blk1 V c 4 t) (xwF1 V c t) s0)
    | ⟨9, _⟩ => rows 200 (hid (blk1 V c 5 t) (xwB1 V c t) s0)
  Φ _ := Pipeline.scopedRest (Ix := Unit) (Name := ℕ) (U := UU) (Lvl := ℕ) (Val := Elt F) spec1 c
  q _ := fullShare
  owed _ := 0

/-- Each input's buffer holds the block when the body runs. -/
theorem before1_0 (c : Dev nD) (t : Fin cfg1.N) (d : (cfg1.win 0).block.Idx → Elt F (cfg1.win 0).elt) : (dat1 V c).before 0 t d = blk1 V c 0 t :=
  (dat1 V c).before_in_eq_fetched 0 rfl (fun _ => rfl) (fun _ _ _ => rfl) (fun _ => rfl) t d
/-- Input 1's buffer holds its block when the body runs. -/
theorem before1_1 (c : Dev nD) (t : Fin cfg1.N) (d : (cfg1.win 1).block.Idx → Elt F (cfg1.win 1).elt) : (dat1 V c).before 1 t d = blk1 V c 1 t :=
  (dat1 V c).before_in_eq_fetched 1 rfl (fun _ => rfl) (fun _ _ _ => rfl) (fun _ => rfl) t d
/-- Input 2's buffer holds its block when the body runs. -/
theorem before1_2 (c : Dev nD) (t : Fin cfg1.N) (d : (cfg1.win 2).block.Idx → Elt F (cfg1.win 2).elt) : (dat1 V c).before 2 t d = blk1 V c 2 t :=
  (dat1 V c).before_in_eq_fetched 2 rfl (fun _ => rfl) (fun _ _ _ => rfl) (fun _ => rfl) t d
/-- Input 3's buffer holds its block when the body runs. -/
theorem before1_3 (c : Dev nD) (t : Fin cfg1.N) (d : (cfg1.win 3).block.Idx → Elt F (cfg1.win 3).elt) : (dat1 V c).before 3 t d = blk1 V c 3 t :=
  (dat1 V c).before_in_eq_fetched 3 rfl (fun _ => rfl) (fun _ _ _ => rfl) (fun _ => rfl) t d
/-- Input 4's buffer holds its block when the body runs. -/
theorem before1_4 (c : Dev nD) (t : Fin cfg1.N) (d : (cfg1.win 4).block.Idx → Elt F (cfg1.win 4).elt) : (dat1 V c).before 4 t d = blk1 V c 4 t :=
  (dat1 V c).before_in_eq_fetched 4 rfl (fun _ => rfl) (fun _ _ _ => rfl) (fun _ => rfl) t d
/-- Input 5's buffer holds its block when the body runs. -/
theorem before1_5 (c : Dev nD) (t : Fin cfg1.N) (d : (cfg1.win 5).block.Idx → Elt F (cfg1.win 5).elt) : (dat1 V c).before 5 t d = blk1 V c 5 t :=
  (dat1 V c).before_in_eq_fetched 5 rfl (fun _ => rfl) (fun _ _ _ => rfl) (fun _ => rfl) t d
/-- Input 6's buffer holds its block when the body runs. -/
theorem before1_6 (c : Dev nD) (t : Fin cfg1.N) (d : (cfg1.win 6).block.Idx → Elt F (cfg1.win 6).elt) : (dat1 V c).before 6 t d = blk1 V c 6 t :=
  (dat1 V c).before_in_eq_fetched 6 rfl (fun _ => rfl) (fun _ _ _ => rfl) (fun _ => rfl) t d
/-- Input 7's buffer holds its block when the body runs. -/
theorem before1_7 (c : Dev nD) (t : Fin cfg1.N) (d : (cfg1.win 7).block.Idx → Elt F (cfg1.win 7).elt) : (dat1 V c).before 7 t d = blk1 V c 7 t :=
  (dat1 V c).before_in_eq_fetched 7 rfl (fun _ => rfl) (fun _ _ _ => rfl) (fun _ => rfl) t d

/-- The body obligation of region 1. -/
theorem obl1 (c : Dev nD) : BodyObligation (dat1 V c) (defs₀ (F := F)) 𝒱₀ () Set.univ := fun t => by
  rw [bigSep_W1, bigSep_W1]
  simp only [before1_0, before1_1, before1_2, before1_3, before1_4, before1_5, before1_6, before1_7]
  rw [show (dat1 V c).Φ t.castSucc = Pipeline.scopedRest (Ix := Unit) (Name := ℕ) (U := UU) (Lvl := ℕ) (Val := Elt F) spec1 c from rfl,
    show (dat1 V c).Φ t.succ = Pipeline.scopedRest (Ix := Unit) (Name := ℕ) (U := UU) (Lvl := ℕ) (Val := Elt F) spec1 c from rfl,
    show (dat1 V c).owesAt () t.succ = (dat1 V c).owesAt () t.castSucc from rfl, scopedRest1_split]
  iintro ⟨⟨⟨S0, S1, S2, S3, S4, S5⟩, Hr⟩, Howes, ⟨%_, H0⟩, ⟨%_, H1⟩, ⟨%_, H2⟩, ⟨%_, H3⟩, ⟨%_, H4⟩, ⟨%_, H5⟩, ⟨%_, H6⟩, ⟨%_, H7⟩, ⟨%d8, H8⟩, ⟨%d9, H9⟩⟩
  ihave S0 := (owns_of_some (F := F) c cc1_scratch0) $$ S0
  ihave S1 := (owns_of_some (F := F) c cc1_scratch1) $$ S1
  ihave S2 := (owns_of_some (F := F) c cc1_scratch2) $$ S2
  ihave S3 := (owns_of_some (F := F) c cc1_scratch3) $$ S3
  ihave S4 := (owns_of_some (F := F) c cc1_scratch4) $$ S4
  ihave S5 := (owns_of_some (F := F) c cc1_scratch5) $$ S5
  icases S0 with ⟨%e0, S0⟩
  icases S1 with ⟨%e1, S1⟩
  icases S2 with ⟨%e2, S2⟩
  icases S3 with ⟨%e3, S3⟩
  iapply (body1 (F := F) c (grid1.coords t) _ _ _ _ _ _ _ _ _ _ _ _ _ _ _ _ _ _ _ _ _ _ _ _ _ _ _ _ _ _ _ _
    (blk1 V c 0 t) (blk1 V c 1 t) (blk1 V c 2 t) (blk1 V c 3 t) (blk1 V c 4 t) (blk1 V c 5 t) (blk1 V c 6 t) (blk1 V c 7 t)
    s0 s0 e0 e1 e2 e3 ⟨rfl, rfl⟩ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, S0, S1, S2, S3, ⟨%e4, S4⟩, ⟨%e5, S5⟩⟩
  isplitl [S0 S1 S2 S3 S4 S5 Hr]
  · isplitr [Hr]
    · isplitl [S0]; · iapply (some_of_owns (F := F) c cc1_scratch0 _); iexact S0
      isplitl [S1]; · iapply (some_of_owns (F := F) c cc1_scratch1 _); iexact S1
      isplitl [S2]; · iapply (some_of_owns (F := F) c cc1_scratch2 _); iexact S2
      isplitl [S3]; · iapply (some_of_owns (F := F) c cc1_scratch3 _); iexact S3
      isplitl [S4]; · iapply (some_of_owns (F := F) c cc1_scratch4 _); iexact S4
      iapply (some_of_owns (F := F) c cc1_scratch5 _); iexact S5
    iexact Hr
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Own

end
-- ==== Proof.KI.Run.lean ====
/- The run of the whole kernel: both regions as segments between the host stretches, and what every unscoped buffer holds at the
   end of every fair execution. -/
module

public import proofs.«01_k».proof.Proof.KI.Region0
public import proofs.«01_k».proof.Proof.KI.Region1
public import Idealize.ShloMosaic.Lib.StableHlo.RunHlo
public import proofs.«01_k».proof.Proof.Gen.KernelIdeal.Regions
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A valuation's contents by reference. -/
abbrev vals (V : Dev nD → Valuation τ sig (Elt F)) : Vals F := fun c b => V c (Proc.devRef .tc b)

/-- What region 0 leaves: its outputs' arrays after the last point. -/
def outsA : Outs (F := F) := fun _ r c =>
  (Function.update (Function.update (V1 m c) main_call0_v135_0 ((dat0 (vals (V1 m)) c).arrAt 8 cfg0.N)) main_call0_v135_1 ((dat0 (vals (V1 m)) c).arrAt 9 cfg0.N)) r
/-- What region 1 leaves, on top of what region 0 left. -/
def outsB : Outs (F := F) := fun _ r c =>
  (Function.update (Function.update (V3 m (outsA m) c) main_call0_v275_0 ((dat1 (vals (V3 m (outsA m))) c).arrAt 8 cfg1.N)) main_call0_v275_1 ((dat1 (vals (V3 m (outsA m))) c).arrAt 9 cfg1.N)) r
/-- What the regions leave. -/
def outs : Outs (F := F) := fun J => if J = 2 then outsA m J else outsB m J

/-- The contents after region 0 are what region 0 leaves. -/
theorem outs_two : outs m 2 = outsA m 2 := if_pos rfl
/-- The contents after region 1 are what region 1 leaves. -/
theorem outs_four : outs m 4 = outsB m 4 := if_neg (by decide)

/-- Region 1 is entered at contents that depend on region 0's outputs only. -/
theorem V3_outs : V3 m (outs m) = V3 m (outsA m) := by
  funext c
  exact congrArg (fun o : (r : Ref sig .tc) → (c : Dev nD) → Buf (Elt F) ((c : Thread nD τ).loc r) =>
    StableHlo.after hostOps1 (Function.update (Function.update (V1 m c) main_call0_v135_0 (o main_call0_v135_0 c)) main_call0_v135_1 (o main_call0_v135_1 c))) (outs_two m)

/-- Each region's proof data, at entry contents. -/
def pdats (V W : Vals F) : (p : Fin 2) → (c : Dev nD) → Dat τ (Elt F) Unit ℕ UU ℕ (cfgs p) c
  | 0 => dat0 V
  | 1 => dat1 W

/-- A valuation changed at two buffers, read at each of them. -/
theorem upd_fst (V : Valuation τ sig (Elt F)) (a b : DevRef τ sig) (h : a ≠ b) (x : a.ty.Contents (Elt F)) (y : b.ty.Contents (Elt F)) :
    Function.update (Function.update V a x) b y a = x := by
  rw [Function.update_of_ne h, Function.update_self]
/-- The contents at the buffer changed last. -/
theorem upd_snd (V : Valuation τ sig (Elt F)) (b : DevRef τ sig) (y : b.ty.Contents (Elt F)) :
    Function.update V b y b = y := Function.update_self ..

/-- After region 0 its output buffer holds the array after the last point. -/
theorem V2_out0 (c : Dev nD) : V2 m (outs m) c main_call0_v135_0 = (dat0 (vals (V1 m)) c).arrAt 8 cfg0.N :=
  (upd_fst _ _ _ (by decide) _ _).trans ((congrFun (congrFun (outs_two m) _) c).trans (upd_fst _ _ _ (by decide) _ _))
/-- After region 0 its output buffer holds the array after the last point. -/
theorem V2_out1 (c : Dev nD) : V2 m (outs m) c main_call0_v135_1 = (dat0 (vals (V1 m)) c).arrAt 9 cfg0.N :=
  (upd_snd _ _ _).trans ((congrFun (congrFun (outs_two m) _) c).trans (upd_snd _ _ _))
/-- After region 1 its output buffer holds the array after the last point. -/
theorem V4_out0 (c : Dev nD) : V4 m (outs m) c main_call0_v275_0 = (dat1 (vals (V3 m (outsA m))) c).arrAt 8 cfg1.N :=
  (upd_fst _ _ _ (by decide) _ _).trans ((congrFun (congrFun (outs_four m) _) c).trans (upd_fst _ _ _ (by decide) _ _))
/-- After region 1 its output buffer holds the array after the last point. -/
theorem V4_out1 (c : Dev nD) : V4 m (outs m) c main_call0_v275_1 = (dat1 (vals (V3 m (outsA m))) c).arrAt 9 cfg1.N :=
  (upd_snd _ _ _).trans ((congrFun (congrFun (outs_four m) _) c).trans (upd_snd _ _ _))

/-- Region 1 changes its two outputs only. -/
theorem V4_ne (c : Dev nD) (r : Ref sig .tc) (h : r ∉ ([main_call0_v275_0, main_call0_v275_1] : List (Ref sig .tc))) : V4 m (outs m) c r = V3 m (outsA m) c r :=
  (V4_of m (outs m) c r h).trans (congrFun (congrFun (V3_outs m) c) _)

/-- What rides beside the buffers: the core owes nothing. -/
abbrev idle (c : Dev nD) : sProp 𝕄 := iprop(∃ W, owes (c : Thread nD τ) (0 : CellTallies nD τ sig Unit) W)

/-- Region 0's scoped rest: the six buffers of scratch, and the others. -/
theorem rest0 (c : Dev nD) : (Pipeline.scopedRest (Ix := Unit) (Name := ℕ) (U := UU) (Lvl := ℕ) (Val := Elt F) spec0 c : sProp 𝕄)
    = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))
        ∗ Pipeline.scopedRestBut (Ix := Unit) (Name := ℕ) (U := UU) (Lvl := ℕ) (Val := Elt F) spec0 c scr0) :=
  Pipeline.scopedRest_split_of_list spec0 c scr0 (by decide) (by decide)

/-- The scoped buffers at something, as the carried invariant before the first point, and back after the last. -/
theorem Φ0_in (V : Vals F) (c : Dev nD) : (Pipeline.scopedRest (Ix := Unit) (Name := ℕ) (U := UU) (Lvl := ℕ) (Val := Elt F) spec0 c : sProp 𝕄) ⊢ Φ0 V c 0 := by
  rw [rest0]
  unfold Φ0
  iintro ⟨⟨S0, S1, S2, S3, S4, S5⟩, Hr⟩
  ihave S0 := (owns_of_some (F := F) c cc0_scratch0) $$ S0
  ihave S1 := (owns_of_some (F := F) c cc0_scratch1) $$ S1
  ihave S2 := (owns_of_some (F := F) c cc0_scratch2) $$ S2
  ihave S3 := (owns_of_some (F := F) c cc0_scratch3) $$ S3
  ihave S4 := (owns_of_some (F := F) c cc0_scratch4) $$ S4
  ihave S5 := (owns_of_some (F := F) c cc0_scratch5) $$ S5
  icases S0 with ⟨%e0, S0⟩
  icases S1 with ⟨%e1, S1⟩
  icases S2 with ⟨%e2, S2⟩
  icases S3 with ⟨%e3, S3⟩
  iexists ((e0, e1) : St F), ((e2, e3) : St F)
  isplitr; · ipureintro; exact fun h => absurd rfl h
  isplitl [S0]; · iexact S0
  isplitl [S1]; · iexact S1
  isplitl [S2]; · iexact S2
  isplitl [S3]; · iexact S3
  isplitl [S4]; · iexact S4
  isplitl [S5]; · iexact S5
  iexact Hr
/-- The carried invariant gives the scoped buffers back. -/
theorem Φ0_out (V : Vals F) (c : Dev nD) (t : ℕ) : Φ0 V c t ⊢ (Pipeline.scopedRest (Ix := Unit) (Name := ℕ) (U := UU) (Lvl := ℕ) (Val := Elt F) spec0 c : sProp 𝕄) := by
  rw [rest0]
  unfold Φ0
  iintro ⟨%sf, %sb, -, S0, S1, S2, S3, ⟨%e4, S4⟩, ⟨%e5, S5⟩, Hr⟩
  isplitr [Hr]
  · isplitl [S0]; · iapply (some_of_owns (F := F) c cc0_scratch0 _); iexact S0
    isplitl [S1]; · iapply (some_of_owns (F := F) c cc0_scratch1 _); iexact S1
    isplitl [S2]; · iapply (some_of_owns (F := F) c cc0_scratch2 _); iexact S2
    isplitl [S3]; · iapply (some_of_owns (F := F) c cc0_scratch3 _); iexact S3
    isplitl [S4]; · iapply (some_of_owns (F := F) c cc0_scratch4 _); iexact S4
    iapply (some_of_owns (F := F) c cc0_scratch5 _); iexact S5
  iexact Hr

/-- Region 0's first eight windows are inputs, over other arrays than the outputs'. -/
theorem ins0 : ∀ w : Fin 10, w.val < 8 → (cfg0.win w).isOut = false ∧ Pipeline.arrRef spec0 w ∉ ([main_call0_v135_0, main_call0_v135_1] : List (Ref sig .tc)) := by decide

/-- Region 0's arrays after its last point, at contents `T` that hold the outputs' and are otherwise the entry's. -/
theorem arr0 (V T : Vals F) (c : Dev nD) (h8 : T c main_call0_v135_0 = (dat0 V c).arrAt 8 cfg0.N) (h9 : T c main_call0_v135_1 = (dat0 V c).arrAt 9 cfg0.N)
    (hne : ∀ r, r ∉ ([main_call0_v135_0, main_call0_v135_1] : List (Ref sig .tc)) → T c r = V c r) (w : Fin 10) : (dat0 V c).arrAt w cfg0.N = T c (Pipeline.arrRef spec0 w) := by
  by_cases h : w.val < 8
  · exact ((dat0 V c).arrAt_in w (ins0 w h).1 _).trans (hne _ (ins0 w h).2).symm
  · have : w = 8 ∨ w = 9 := by have := w.isLt; rcases w with ⟨k, hk⟩; rw [Fin.ext_iff, Fin.ext_iff]; change k = 8 ∨ k = 9; change ¬ k < 8 at h; omega
    rcases this with rfl | rfl
    · exact h8.symm
    · exact h9.symm

/-- Region 0 as a segment: entered with the unscoped buffers at `V`, left with them at `T`. -/
def reg0 (V W T : Vals F) (h8 : ∀ c, T c main_call0_v135_0 = (dat0 V c).arrAt 8 cfg0.N) (h9 : ∀ c, T c main_call0_v135_1 = (dat0 V c).arrAt 9 cfg0.N)
    (hne : ∀ c r, r ∉ ([main_call0_v135_0, main_call0_v135_1] : List (Ref sig .tc)) → T c r = V c r) : Pipeline.RegionSeg (pcfgs (F := F)) adm (pdats V W) () defs₀ 𝒱₀ L lv 0 where
  win := (launch0).win.to₀
  block_pos := (launch0).block_pos
  stage_whole := (launch0).stage_whole
  K := PEmpty
  osem k := k.elim
  ho := Pipeline.OwnSemFacts.none _
  hbody c := (obl0 V c).loose
  hwaits := Pipeline.hwaits_of_owed_zero _ _ _ _ L lv 0 fun _ _ => rfl
  pre c := iprop(unscopedBufs c (V c) ∗ idle c)
  post c := iprop(unscopedBufs c (T c) ∗ idle c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats V W) (launch0).win (launch0).arr_whole c
      ((pdats V W 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 0 c).Φ 0 = Φ0 V c 0 from rfl]
    iintro ⟨-, -, Hr⟩
    iapply (Φ0_in V c)
    iexact Hr
  hout c := by
    rw [Pipeline.ownSems0_none, show (pdats V W 0 c).Φ (Fin.last _) = Φ0 V c cfg0.N from rfl]
    iintro Hr
    isplitr; · iempintro
    isplitr; · iempintro
    iapply (Φ0_out V c cfg0.N)
    iexact Hr
  hexit c := by
    have hjoin := Pipeline.unscopedBufs_of_arrays (p := 0) (pcfgs (F := F)) adm (Ix := Unit) (Name := ℕ) (U := UU) (Lvl := ℕ) (launch0).win (launch0).arr_whole c
      (pdats V W) ((pdats V W 0 c).share_full fun _ => rfl) (V c) (T c) ((pdats V W 0 c).arrAt · cfg0.N)
      (arr0 V T c (h8 c) (h9 c) (hne c))
      (fun b hb => hne c b (by
        intro h
        rcases List.mem_cons.mp h with h | h
        · exact hb (h ▸ Finset.mem_image.mpr ⟨8, Finset.mem_univ _, rfl⟩)
        · exact hb (List.mem_singleton.mp h ▸ Finset.mem_image.mpr ⟨9, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- Region 1's first eight windows are inputs, over other arrays than the outputs'. -/
theorem ins1 : ∀ w : Fin 10, w.val < 8 → (cfg1.win w).isOut = false ∧ Pipeline.arrRef spec1 w ∉ ([main_call0_v275_0, main_call0_v275_1] : List (Ref sig .tc)) := by decide

/-- Region 1's arrays after its last point, at contents `T` that hold the outputs' and are otherwise the entry's. -/
theorem arr1 (V T : Vals F) (c : Dev nD) (h8 : T c main_call0_v275_0 = (dat1 V c).arrAt 8 cfg1.N) (h9 : T c main_call0_v275_1 = (dat1 V c).arrAt 9 cfg1.N)
    (hne : ∀ r, r ∉ ([main_call0_v275_0, main_call0_v275_1] : List (Ref sig .tc)) → T c r = V c r) (w : Fin 10) : (dat1 V c).arrAt w cfg1.N = T c (Pipeline.arrRef spec1 w) := by
  by_cases h : w.val < 8
  · exact ((dat1 V c).arrAt_in w (ins1 w h).1 _).trans (hne _ (ins1 w h).2).symm
  · have : w = 8 ∨ w = 9 := by have := w.isLt; rcases w with ⟨k, hk⟩; rw [Fin.ext_iff, Fin.ext_iff]; change k = 8 ∨ k = 9; change ¬ k < 8 at h; omega
    rcases this with rfl | rfl
    · exact h8.symm
    · exact h9.symm

/-- Region 1 as a segment: entered with the unscoped buffers at `W`, left with them at `T`. -/
def reg1 (V W T : Vals F) (h8 : ∀ c, T c main_call0_v275_0 = (dat1 W c).arrAt 8 cfg1.N) (h9 : ∀ c, T c main_call0_v275_1 = (dat1 W c).arrAt 9 cfg1.N)
    (hne : ∀ c r, r ∉ ([main_call0_v275_0, main_call0_v275_1] : List (Ref sig .tc)) → T c r = W c r) : Pipeline.RegionSeg (pcfgs (F := F)) adm (pdats V W) () defs₀ 𝒱₀ L lv 1 where
  win := (launch1).win.to₀
  block_pos := (launch1).block_pos
  stage_whole := (launch1).stage_whole
  K := PEmpty
  osem k := k.elim
  ho := Pipeline.OwnSemFacts.none _
  hbody c := (obl1 W c).loose
  hwaits := Pipeline.hwaits_of_owed_zero _ _ _ _ L lv 1 fun _ _ => rfl
  pre c := iprop(unscopedBufs c (W c) ∗ idle c)
  post c := iprop(unscopedBufs c (T c) ∗ idle c)
  X _ := BI.emp
  Y _ := BI.emp
  Z c := Pipeline.unscopedRest (Ix := Unit) (Name := ℕ) (U := UU) (Lvl := ℕ) spec1 c (W c)
  hentry c := by
    rw [Pipeline.ownSems0_none]
    have hsplit := Pipeline.arrays_of_unscopedBufs (p := 1) (pcfgs (F := F)) adm (pdats V W) (launch1).win (launch1).arr_whole c
      ((pdats V W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 1 c).Φ 0 = Pipeline.scopedRest (Ix := Unit) (Name := ℕ) (U := UU) (Lvl := ℕ) (Val := Elt F) spec1 c from rfl]
    iintro ⟨-, -, Hr⟩
    iexact Hr
  hout c := by
    rw [Pipeline.ownSems0_none, show (pdats V W 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) (launch1).win (launch1).arr_whole c
      (pdats V W) ((pdats V W 1 c).share_full fun _ => rfl) (W c) (T c) ((pdats V W 1 c).arrAt · cfg1.N)
      (arr1 W T c (h8 c) (h9 c) (hne c))
      (fun b hb => hne c b (by
        intro h
        rcases List.mem_cons.mp h with h | h
        · exact hb (h ▸ Finset.mem_image.mpr ⟨8, Finset.mem_univ _, rfl⟩)
        · exact hb (List.mem_singleton.mp h ▸ Finset.mem_image.mpr ⟨9, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The two regions at this kernel's valuations. -/
abbrev pd : (p : Fin 2) → (c : Dev nD) → Dat τ (Elt F) Unit ℕ UU ℕ (cfgs p) c := pdats (vals (V1 m)) (vals (V3 m (outsA m)))
/-- Region 0 of this run. -/
def R0 : Pipeline.RegionSeg (pcfgs (F := F)) adm (pd m) () defs₀ 𝒱₀ L lv 0 :=
  reg0 (vals (V1 m)) (vals (V3 m (outsA m))) (vals (V2 m (outs m))) (V2_out0 m) (V2_out1 m) (fun c r h => V2_of m (outs m) c r h)
/-- Region 1 of this run. -/
def R1 : Pipeline.RegionSeg (pcfgs (F := F)) adm (pd m) () defs₀ 𝒱₀ L lv 1 :=
  reg1 (vals (V1 m)) (vals (V3 m (outsA m))) (vals (V4 m (outs m))) (V4_out0 m) (V4_out1 m) (fun c r h => V4_ne m c r h)

-- the launch theorem's implicit arguments are found by unifying its conclusion, which takes unfolding plain definitions
set_option backward.isDefEq.respectTransparency.types false in
/-- The run: every fair execution ends, with every semaphore at zero and every unscoped buffer at the last valuation. -/
theorem run (ρ : Dev nD → PrngReg) :
    θ_run defs (onTc (τ := τ) (main (F := F))) ⟨m, fun _ => 0, ρ⟩ (fun r =>
      (∀ (c : Dev nD) (b : Ref sig .tc), (Proc.devRef .tc b : DevRef τ sig) ∈ Pipeline.ucRefs τ sig → r.2.mem ((c.tc : Thread nD τ).loc b) = V5 m (outs m) c b)
      ∧ r.2.sem = fun _ => 0) := by
  refine Pipeline.θ_run_regions_kit_dev_sems (pcfgs (F := F)) adm (pd m) () cellOf_inj emb₁ defs₀ 𝒱₀ L lv m ρ main
    (segs m (outs m) 𝒱₀ L lv (fun _ c => idle c) () (pd m) (R0 m) (R1 m))
    (fun c Q => by
      rewrite [main_chain c, Pipeline.Seg.run_eq_chain,
        show (segs m (outs m) 𝒱₀ L lv (fun _ c => idle c) () (pd m) (R0 m) (R1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (fun _ => 0) (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ idle c))
    (Tₙ := fun c => StableHlo.held (c : Thread nD τ) (Pipeline.ucRefs τ sig) (V5 m (outs m) c))
    (hch := fun c => ⟨.rfl, ?_, ?_, ?_, ?_, .rfl⟩)
    (hinit := ?_) (QY := fun c s => ∀ b : DevRef τ sig, b ∈ Pipeline.ucRefs τ sig → s.mem (c, b) = V5 m (outs m) c b)
    (hfin := fun c s' => ?_) (hQ := fun _ h hz => ⟨fun c b hb => h c (Proc.devRef .tc b) hb, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · exact sep_mono (by rw [← Pipeline.unscopedBufs_held (Ix := Unit) (Name := ℕ) (U := UU) (Lvl := ℕ) c (V1 m c)]) .rfl
  · exact sep_mono (by rw [← Pipeline.unscopedBufs_held (Ix := Unit) (Name := ℕ) (U := UU) (Lvl := ℕ) c (V2 m (outs m) c)]) .rfl
  · exact sep_mono (by rw [← Pipeline.unscopedBufs_held (Ix := Unit) (Name := ℕ) (U := UU) (Lvl := ℕ) c (V3 m (outs m) c), V3_outs]) .rfl
  · exact sep_mono (by rw [← Pipeline.unscopedBufs_held (Ix := Unit) (Name := ℕ) (U := UU) (Lvl := ℕ) c (V4 m (outs m) c)]) .rfl
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UU) (Lvl := ℕ) c (V0 m c)]
    iintro ⟨⟨Hh, -, HO, -, -, -⟩, -⟩
    imodintro
    isplitl [Hh]; · iexact Hh
    iexists _; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro; exact h
    · iexact HSI

/-- The arguments in the last valuation: each as launched. -/
abbrev kept (c : Dev nD) (s : (ℓ : Loc nD τ sig) → Buf (Elt F) ℓ) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)
  ∧ s ((c.tc : Thread nD τ).loc main_arg13) = m ((c.tc : Thread nD τ).loc main_arg13)

/-- An unscoped buffer is among those the run speaks of. -/
theorem mem_uc (b : Ref sig .tc) (h : ¬ ((Proc.devRef .tc b : DevRef τ sig).isScoped = true)) : (Proc.devRef .tc b : DevRef τ sig) ∈ Pipeline.ucRefs τ sig :=
  Finset.mem_filter.mpr ⟨StableHlo.devRef_mem_tcRefs b, h⟩

/-- The run, at the arguments and the two results. -/
theorem run_at (ρ : Dev nD → PrngReg) :
    θ_run defs (onTc (τ := τ) (main (F := F))) ⟨m, fun _ => 0, ρ⟩ (fun r =>
      (∀ c : Dev nD, r.2.mem ((c.tc : Thread nD τ).loc main_v0_0) = V5 m (outs m) c main_v0_0 ∧ r.2.mem ((c.tc : Thread nD τ).loc main_v0_1) = V5 m (outs m) c main_v0_1
        ∧ kept m c r.2.mem) ∧ r.2.sem = fun _ => 0) := by
  refine θ_run_mono (run m ρ) fun r h => ⟨fun c => ⟨h.1 c _ (mem_uc _ (by decide)), h.1 c _ (mem_uc _ (by decide)), ?_, ?_, ?_, ?_, ?_, ?_, ?_, ?_, ?_, ?_, ?_, ?_, ?_, ?_⟩, h.2⟩
  · exact (h.1 c _ (mem_uc _ (by decide))).trans (V5_main_arg0 m (outs m) c)
  · exact (h.1 c _ (mem_uc _ (by decide))).trans (V5_main_arg1 m (outs m) c)
  · exact (h.1 c _ (mem_uc _ (by decide))).trans (V5_main_arg2 m (outs m) c)
  · exact (h.1 c _ (mem_uc _ (by decide))).trans (V5_main_arg3 m (outs m) c)
  · exact (h.1 c _ (mem_uc _ (by decide))).trans (V5_main_arg4 m (outs m) c)
  · exact (h.1 c _ (mem_uc _ (by decide))).trans (V5_main_arg5 m (outs m) c)
  · exact (h.1 c _ (mem_uc _ (by decide))).trans (V5_main_arg6 m (outs m) c)
  · exact (h.1 c _ (mem_uc _ (by decide))).trans (V5_main_arg7 m (outs m) c)
  · exact (h.1 c _ (mem_uc _ (by decide))).trans (V5_main_arg8 m (outs m) c)
  · exact (h.1 c _ (mem_uc _ (by decide))).trans (V5_main_arg9 m (outs m) c)
  · exact (h.1 c _ (mem_uc _ (by decide))).trans (V5_main_arg10 m (outs m) c)
  · exact (h.1 c _ (mem_uc _ (by decide))).trans (V5_main_arg11 m (outs m) c)
  · exact (h.1 c _ (mem_uc _ (by decide))).trans (V5_main_arg12 m (outs m) c)
  · exact (h.1 c _ (mem_uc _ (by decide))).trans (V5_main_arg13 m (outs m) c)

/-- The frame: every fair execution ends with the arguments as they were and every semaphore at zero. -/
theorem frame (ρ : Dev nD → PrngReg) :
    θ_run defs (onTc (τ := τ) (main (F := F))) ⟨m, fun _ => 0, ρ⟩ (fun r => (∀ c : Dev nD, kept m c r.2.mem) ∧ r.2.sem = fun _ => 0) :=
  θ_run_mono (run_at m ρ) fun r h => ⟨fun c => (h.1 c).2.2, h.2⟩

end Cert.KernelIdeal.Own

end
-- ==== Proof.RI.Ops.lean ====
/- A loop of the reference as lists of host operations over a record of its buffers. The four loops have the same
   body text; the buffers, and the number of rows, are what differs. -/
module

public import proofs.«01_k».proof.Proof.Gen.ReferenceIdeal
public import Idealize.ShloMosaic.Lib.Pipeline.RegionsLoop
public import Idealize.ShloMosaic.Lib.StableHlo.RunLoop

@[expose] public section

noncomputable section

namespace Cert.ReferenceIdeal.Own

open Idealize.ShloMosaic Idealize.ShloMosaic.StableHlo Idealize.SL.Sem
open Cert.ReferenceIdeal.Gen

variable {F : FTy → Type} [FloatOps F]

/-- A sequence of `n` rows. -/
abbrev Sn (n : ℕ) : Shape := ⟨2, ![n, 100]⟩

/-- The buffers of one loop over a sequence of `n` rows: the carried ones (the sequence, the two weights, the bias,
    the trip counter, the two states, the rows written so far), the condition's two, and the body's. -/
structure Lp (n : ℕ) where
  x : TRef sig ⟨Sn n, .f32⟩
  W : TRef sig ⟨S100x400, .f32⟩
  U : TRef sig ⟨S100x400, .f32⟩
  b : TRef sig ⟨S400, .f32⟩
  i : TRef sig ⟨S_, .i32⟩
  h : TRef sig ⟨S100, .f32⟩
  c : TRef sig ⟨S100, .f32⟩
  ys : TRef sig ⟨Sn n, .f32⟩
  (bound : TRef sig ⟨S_, .i32⟩)
  (lt : TRef sig ⟨S_, .i1⟩)
  (z0 : TRef sig ⟨S_, .i32⟩)
  (x1 : TRef sig ⟨S1x100, .f32⟩)
  (v28 : TRef sig ⟨S100, .f32⟩)
  (v29 v30 v31 v32 : TRef sig ⟨S400, .f32⟩)
  (v33 v34 v35 v36 v37 v38 : TRef sig ⟨S100, .f32⟩)
  (cst_21 : TRef sig ⟨S_, .f32⟩)
  (v39 v40 : TRef sig ⟨S100, .f32⟩)
  (cst_22 : TRef sig ⟨S_, .f32⟩)
  (v41 v42 v43 v44 : TRef sig ⟨S100, .f32⟩)
  (cst_23 : TRef sig ⟨S_, .f32⟩)
  (v45 v46 : TRef sig ⟨S100, .f32⟩)
  (cst_24 : TRef sig ⟨S_, .f32⟩)
  (v47 v48 v49 v50 v51 : TRef sig ⟨S100, .f32⟩)
  (cst_25 : TRef sig ⟨S_, .f32⟩)
  (v52 v53 : TRef sig ⟨S100, .f32⟩)
  (cst_26 : TRef sig ⟨S_, .f32⟩)
  (v54 v55 v56 v57 v58 v59 v60 : TRef sig ⟨S100, .f32⟩)
  (u1 : TRef sig ⟨S1x100, .f32⟩)
  (z1 : TRef sig ⟨S_, .i32⟩)
  (v61 : TRef sig ⟨Sn n, .f32⟩)
  (c_27 v62 : TRef sig ⟨S_, .i32⟩)

variable {n : ℕ}

/-- The condition's two operations: the bound (the word `w`) and the comparison of the counter with it. -/
abbrev condOf (B : Lp n) (w : BitVec 32) : List (HloOp τ sig (Elt F)) :=
  [ TRef.nullary B.bound (constantI S_ 32 w),
    TRef.binary B.i B.bound B.lt (cmpi .slt) ]

/-- The body's first three operations: row `i` of the sequence. -/
abbrev lookOf (fit : (Sn n).Slices (fun _ => 0) S1x100) (B : Lp n) : List (HloOp τ sig (Elt F)) :=
  [ TRef.nullary B.z0 (constantI S_ 32 0#32),
    TRef.unaryIndexed B.x ![B.i, B.z0] B.x1 (fun (x : (⟨Sn n, .f32⟩ : BufTy).Contents (Elt F)) (i : Fin 2 → (⟨S_, .i32⟩ : BufTy).Contents (Elt F)) => Host.dynamicSlice S1x100 x (fun k => (i k (Shape.Idx.first h_S_)).toInt) fit),
    TRef.reshape B.x1 B.v28 (rfl : (.f32 : EltTy) = .f32) shapeCasts_S1x100_S100 ]

/-- The body's next operations: the gates, the new cell state `v58` and the new hidden state `v60`. -/
abbrev gatesOf (B : Lp n) : List (HloOp τ sig (Elt F)) :=
  [ TRef.binary B.v28 B.W B.v29 (fun l r => Host.dotGeneral dot_S100_S100x400_S400_0_0_n_1_n_n none l r),
    TRef.binary B.h B.U B.v30 (fun l r => Host.dotGeneral dot_S100_S100x400_S400_0_0_n_1_n_n none l r),
    TRef.binary B.v29 B.v30 B.v31 (addf),
    TRef.binary B.v31 B.b B.v32 (addf),
    TRef.unary B.v32 B.v33 (extractStridedSlice S100 ![0] · slices_S400_S100_0),
    TRef.unary B.v32 B.v34 (extractStridedSlice S100 ![100] · slices_S400_S100_100),
    TRef.unary B.v32 B.v35 (extractStridedSlice S100 ![200] · slices_S400_S100_200),
    TRef.unary B.v32 B.v36 (extractStridedSlice S100 ![300] · slices_S400_S100_300),
    TRef.unary B.v33 B.v37 (Host.negf),
    TRef.unary B.v37 B.v38 (Host.exp),
    TRef.nullary B.cst_21 (constant S_ .f32 0x3F800000#32),
    TRef.unary B.cst_21 B.v39 (broadcastInDim S100 ![] bcast_S_S100),
    TRef.binary B.v39 B.v38 B.v40 (addf),
    TRef.nullary B.cst_22 (constant S_ .f32 0x3F800000#32),
    TRef.unary B.cst_22 B.v41 (broadcastInDim S100 ![] bcast_S_S100),
    TRef.binary B.v41 B.v40 B.v42 (Host.divf),
    TRef.unary B.v34 B.v43 (Host.negf),
    TRef.unary B.v43 B.v44 (Host.exp),
    TRef.nullary B.cst_23 (constant S_ .f32 0x3F800000#32),
    TRef.unary B.cst_23 B.v45 (broadcastInDim S100 ![] bcast_S_S100),
    TRef.binary B.v45 B.v44 B.v46 (addf),
    TRef.nullary B.cst_24 (constant S_ .f32 0x3F800000#32),
    TRef.unary B.cst_24 B.v47 (broadcastInDim S100 ![] bcast_S_S100),
    TRef.binary B.v47 B.v46 B.v48 (Host.divf),
    TRef.unary B.v35 B.v49 (Host.tanh),
    TRef.unary B.v36 B.v50 (Host.negf),
    TRef.unary B.v50 B.v51 (Host.exp),
    TRef.nullary B.cst_25 (constant S_ .f32 0x3F800000#32),
    TRef.unary B.cst_25 B.v52 (broadcastInDim S100 ![] bcast_S_S100),
    TRef.binary B.v52 B.v51 B.v53 (addf),
    TRef.nullary B.cst_26 (constant S_ .f32 0x3F800000#32),
    TRef.unary B.cst_26 B.v54 (broadcastInDim S100 ![] bcast_S_S100),
    TRef.binary B.v54 B.v53 B.v55 (Host.divf),
    TRef.binary B.v48 B.c B.v56 (mulf),
    TRef.binary B.v42 B.v49 B.v57 (mulf),
    TRef.binary B.v56 B.v57 B.v58 (addf),
    TRef.unary B.v58 B.v59 (Host.tanh),
    TRef.binary B.v55 B.v59 B.v60 (mulf) ]

/-- The hidden state written as row `i` of the rows so far. -/
abbrev putOf (fit : (Sn n).Slices (fun _ => 0) S1x100) (B : Lp n) : List (HloOp τ sig (Elt F)) :=
  [ TRef.unary B.v60 B.u1 (broadcastInDim S1x100 ![1] bcast_S100_S1x100_1),
    TRef.nullary B.z1 (constantI S_ 32 0#32),
    TRef.binaryIndexed B.ys B.u1 ![B.i, B.z1] B.v61 (fun (x : (⟨Sn n, .f32⟩ : BufTy).Contents (Elt F)) (u : (⟨S1x100, .f32⟩ : BufTy).Contents (Elt F)) (i : Fin 2 → (⟨S_, .i32⟩ : BufTy).Contents (Elt F)) => Host.dynamicUpdateSlice x u (fun k => (i k (Shape.Idx.first h_S_)).toInt) fit) ]

/-- The counter's step and the copies into the carried buffers. -/
abbrev nextOf (B : Lp n) : List (HloOp τ sig (Elt F)) :=
  [ TRef.nullary B.c_27 (constantI S_ 32 1#32),
    TRef.binary B.i B.c_27 B.v62 (addi),
    TRef.unary B.v62 B.i id,
    TRef.unary B.v60 B.h id,
    TRef.unary B.v58 B.c id,
    TRef.unary B.v61 B.ys id ]

/-- The body's lists in order. -/
abbrev bodyOf (fit : (Sn n).Slices (fun _ => 0) S1x100) (B : Lp n) : List (List (HloOp τ sig (Elt F))) :=
  [lookOf fit B, gatesOf B, putOf fit B, nextOf B]

/-- The context forward. -/
abbrev lp0 : Lp 4096 :=
  ⟨.of main_v6_0, .of main_v6_1, .of main_v6_2, .of main_v6_3, .of main_v6_4, .of main_v6_5,
   .of main_v6_6, .of main_v6_7, .of main_while0c_c_21, .of main_while0c_v28, .of main_while0b_call0_c, .of main_while0b_call0_v0,
   .of main_while0b_v28, .of main_while0b_v29, .of main_while0b_v30, .of main_while0b_v31, .of main_while0b_v32, .of main_while0b_v33,
   .of main_while0b_v34, .of main_while0b_v35, .of main_while0b_v36, .of main_while0b_v37, .of main_while0b_v38, .of main_while0b_cst_21,
   .of main_while0b_v39, .of main_while0b_v40, .of main_while0b_cst_22, .of main_while0b_v41, .of main_while0b_v42, .of main_while0b_v43,
   .of main_while0b_v44, .of main_while0b_cst_23, .of main_while0b_v45, .of main_while0b_v46, .of main_while0b_cst_24, .of main_while0b_v47,
   .of main_while0b_v48, .of main_while0b_v49, .of main_while0b_v50, .of main_while0b_v51, .of main_while0b_cst_25, .of main_while0b_v52,
   .of main_while0b_v53, .of main_while0b_cst_26, .of main_while0b_v54, .of main_while0b_v55, .of main_while0b_v56, .of main_while0b_v57,
   .of main_while0b_v58, .of main_while0b_v59, .of main_while0b_v60, .of main_while0b_call1_v0, .of main_while0b_call1_c, .of main_while0b_v61,
   .of main_while0b_c_27, .of main_while0b_v62⟩

/-- The context backward. -/
abbrev lp1 : Lp 4096 :=
  ⟨.of main_v11_0, .of main_v11_1, .of main_v11_2, .of main_v11_3, .of main_v11_4, .of main_v11_5,
   .of main_v11_6, .of main_v11_7, .of main_while1c_c_21, .of main_while1c_v28, .of main_while1b_call2_c, .of main_while1b_call2_v0,
   .of main_while1b_v28, .of main_while1b_v29, .of main_while1b_v30, .of main_while1b_v31, .of main_while1b_v32, .of main_while1b_v33,
   .of main_while1b_v34, .of main_while1b_v35, .of main_while1b_v36, .of main_while1b_v37, .of main_while1b_v38, .of main_while1b_cst_21,
   .of main_while1b_v39, .of main_while1b_v40, .of main_while1b_cst_22, .of main_while1b_v41, .of main_while1b_v42, .of main_while1b_v43,
   .of main_while1b_v44, .of main_while1b_cst_23, .of main_while1b_v45, .of main_while1b_v46, .of main_while1b_cst_24, .of main_while1b_v47,
   .of main_while1b_v48, .of main_while1b_v49, .of main_while1b_v50, .of main_while1b_v51, .of main_while1b_cst_25, .of main_while1b_v52,
   .of main_while1b_v53, .of main_while1b_cst_26, .of main_while1b_v54, .of main_while1b_v55, .of main_while1b_v56, .of main_while1b_v57,
   .of main_while1b_v58, .of main_while1b_v59, .of main_while1b_v60, .of main_while1b_call3_v0, .of main_while1b_call3_c, .of main_while1b_v61,
   .of main_while1b_c_27, .of main_while1b_v62⟩

/-- The query forward. -/
abbrev lp2 : Lp 200 :=
  ⟨.of main_v19_0, .of main_v19_1, .of main_v19_2, .of main_v19_3, .of main_v19_4, .of main_v19_5,
   .of main_v19_6, .of main_v19_7, .of main_while2c_c_21, .of main_while2c_v28, .of main_while2b_call4_c, .of main_while2b_call4_v0,
   .of main_while2b_v28, .of main_while2b_v29, .of main_while2b_v30, .of main_while2b_v31, .of main_while2b_v32, .of main_while2b_v33,
   .of main_while2b_v34, .of main_while2b_v35, .of main_while2b_v36, .of main_while2b_v37, .of main_while2b_v38, .of main_while2b_cst_21,
   .of main_while2b_v39, .of main_while2b_v40, .of main_while2b_cst_22, .of main_while2b_v41, .of main_while2b_v42, .of main_while2b_v43,
   .of main_while2b_v44, .of main_while2b_cst_23, .of main_while2b_v45, .of main_while2b_v46, .of main_while2b_cst_24, .of main_while2b_v47,
   .of main_while2b_v48, .of main_while2b_v49, .of main_while2b_v50, .of main_while2b_v51, .of main_while2b_cst_25, .of main_while2b_v52,
   .of main_while2b_v53, .of main_while2b_cst_26, .of main_while2b_v54, .of main_while2b_v55, .of main_while2b_v56, .of main_while2b_v57,
   .of main_while2b_v58, .of main_while2b_v59, .of main_while2b_v60, .of main_while2b_call5_v0, .of main_while2b_call5_c, .of main_while2b_v61,
   .of main_while2b_c_27, .of main_while2b_v62⟩

/-- The query backward. -/
abbrev lp3 : Lp 200 :=
  ⟨.of main_v24_0, .of main_v24_1, .of main_v24_2, .of main_v24_3, .of main_v24_4, .of main_v24_5,
   .of main_v24_6, .of main_v24_7, .of main_while3c_c_21, .of main_while3c_v28, .of main_while3b_call6_c, .of main_while3b_call6_v0,
   .of main_while3b_v28, .of main_while3b_v29, .of main_while3b_v30, .of main_while3b_v31, .of main_while3b_v32, .of main_while3b_v33,
   .of main_while3b_v34, .of main_while3b_v35, .of main_while3b_v36, .of main_while3b_v37, .of main_while3b_v38, .of main_while3b_cst_21,
   .of main_while3b_v39, .of main_while3b_v40, .of main_while3b_cst_22, .of main_while3b_v41, .of main_while3b_v42, .of main_while3b_v43,
   .of main_while3b_v44, .of main_while3b_cst_23, .of main_while3b_v45, .of main_while3b_v46, .of main_while3b_cst_24, .of main_while3b_v47,
   .of main_while3b_v48, .of main_while3b_v49, .of main_while3b_v50, .of main_while3b_v51, .of main_while3b_cst_25, .of main_while3b_v52,
   .of main_while3b_v53, .of main_while3b_cst_26, .of main_while3b_v54, .of main_while3b_v55, .of main_while3b_v56, .of main_while3b_v57,
   .of main_while3b_v58, .of main_while3b_v59, .of main_while3b_v60, .of main_while3b_call7_v0, .of main_while3b_call7_c, .of main_while3b_v61,
   .of main_while3b_c_27, .of main_while3b_v62⟩

/-- The body of loop 0 is its lists in order. -/
theorem body0 : main_while0_body (F := F) = Pipeline.chain ((bodyOf sliceFits_S4096x100_S1x100 lp0).map fun ops => (seq ops : Prog _ PUnit)) := by
  rw [List.map_cons, List.map_cons, List.map_cons, List.map_cons, List.map_nil]
  rewrite [Pipeline.chain_cons, chain_seq_cons, Pipeline.chain_cons, chain_seq_cons]
  chain_rfl

/-- The body of loop 1 is its lists in order. -/
theorem body1 : main_while1_body (F := F) = Pipeline.chain ((bodyOf sliceFits_S4096x100_S1x100 lp1).map fun ops => (seq ops : Prog _ PUnit)) := by
  rw [List.map_cons, List.map_cons, List.map_cons, List.map_cons, List.map_nil]
  rewrite [Pipeline.chain_cons, chain_seq_cons, Pipeline.chain_cons, chain_seq_cons]
  chain_rfl

/-- The body of loop 2 is its lists in order. -/
theorem body2 : main_while2_body (F := F) = Pipeline.chain ((bodyOf sliceFits_S200x100_S1x100 lp2).map fun ops => (seq ops : Prog _ PUnit)) := by
  rw [List.map_cons, List.map_cons, List.map_cons, List.map_cons, List.map_nil]
  rewrite [Pipeline.chain_cons, chain_seq_cons, Pipeline.chain_cons, chain_seq_cons]
  chain_rfl

/-- The body of loop 3 is its lists in order. -/
theorem body3 : main_while3_body (F := F) = Pipeline.chain ((bodyOf sliceFits_S200x100_S1x100 lp3).map fun ops => (seq ops : Prog _ PUnit)) := by
  rw [List.map_cons, List.map_cons, List.map_cons, List.map_cons, List.map_nil]
  rewrite [Pipeline.chain_cons, chain_seq_cons, Pipeline.chain_cons, chain_seq_cons]
  chain_rfl

end Cert.ReferenceIdeal.Own

end
-- ==== Proof.RI.Steps.lean ====
/- What one trip of a loop of the reference does to the carried buffers, and from it what they hold before each trip. -/
module

public import proofs.«01_k».proof.Proof.RI.Ops
public import Idealize.ShloMosaic.Lib.StableHlo.ReadAt
public import Idealize.ShloMosaic.Lib.StableHlo.RunRead
public import Idealize.ShloMosaic.Lib.Scf.Counter

@[expose] public section

noncomputable section

namespace Cert.ReferenceIdeal.Own

open Idealize.ShloMosaic Idealize.ShloMosaic.StableHlo Idealize.SL.Sem
open Cert.ReferenceIdeal.Gen

variable {F : FTy → Type} [FloatOps F] {n : ℕ}

/-- What a typed buffer holds, at its value's type. -/
abbrev rd {T : BufTy} (r : TRef sig T) (V : Valuation τ sig (Elt F)) : T.Contents (Elt F) := r.ofBuf (V (Proc.devRef .tc r.ref))

/-- Vectors of the reference's arithmetic: a row, a row of the four gates, the weights, a sequence, a word. -/
abbrev V100 (F : FTy → Type) [FloatOps F] := (⟨S100, .f32⟩ : BufTy).Contents (Elt F)
/-- A row of the four gates. -/
abbrev V400 (F : FTy → Type) [FloatOps F] := (⟨S400, .f32⟩ : BufTy).Contents (Elt F)
/-- The weights. -/
abbrev M400 (F : FTy → Type) [FloatOps F] := (⟨S100x400, .f32⟩ : BufTy).Contents (Elt F)
/-- A sequence of rows. -/
abbrev Seq (F : FTy → Type) [FloatOps F] (n : ℕ) := (⟨Sn n, .f32⟩ : BufTy).Contents (Elt F)
/-- A word. -/
abbrev Wrd (F : FTy → Type) [FloatOps F] := (⟨S_, .i32⟩ : BufTy).Contents (Elt F)

/-- The offset of row `i`. -/
def offOf (i : Wrd F) : Fin 2 → ℤ := fun k => ((![i, constantI S_ 32 0#32] : Fin 2 → Wrd F) k (Shape.Idx.first h_S_)).toInt

/-- Row `i` of a sequence. -/
def rowAt (fit : (Sn n).Slices (fun _ => 0) S1x100) (X : Seq F n) (i : Wrd F) : V100 F :=
  shapeCast S100 (Host.dynamicSlice S1x100 X (offOf i) fit) shapeCasts_S1x100_S100

/-- The four gates before their activations. -/
def zR (W U : M400 F) (b : V400 F) (x h : V100 F) : V400 F :=
  addf (addf (Host.dotGeneral dot_S100_S100x400_S400_0_0_n_1_n_n none x W) (Host.dotGeneral dot_S100_S100x400_S400_0_0_n_1_n_n none h U)) b

/-- The logistic function as the reference writes it. -/
def sgR (v : V100 F) : V100 F :=
  Host.divf (broadcastInDim S100 ![] bcast_S_S100 (constant S_ .f32 0x3F800000#32)) (addf (broadcastInDim S100 ![] bcast_S_S100 (constant S_ .f32 0x3F800000#32)) (Host.exp (Host.negf v)))

/-- The new cell state. -/
def cR (z : V400 F) (c : V100 F) : V100 F :=
  addf (mulf (sgR (extractStridedSlice S100 ![100] z slices_S400_S100_100)) c)
    (mulf (sgR (extractStridedSlice S100 ![0] z slices_S400_S100_0)) (Host.tanh (extractStridedSlice S100 ![200] z slices_S400_S100_200)))

/-- The new hidden state, of the gates and the new cell state. -/
def hR (z : V400 F) (c : V100 F) : V100 F := mulf (sgR (extractStridedSlice S100 ![300] z slices_S400_S100_300)) (Host.tanh c)

/-- The rows with row `i` replaced. -/
def putAt (fit : (Sn n).Slices (fun _ => 0) S1x100) (Y : Seq F n) (h : V100 F) (i : Wrd F) : Seq F n :=
  Host.dynamicUpdateSlice Y (broadcastInDim S1x100 ![1] bcast_S100_S1x100_1 h) (offOf i) fit

/-- The carried buffers. -/
abbrev car (B : Lp n) : List (Ref sig .tc) := [B.x.ref, B.W.ref, B.U.ref, B.b.ref, B.i.ref, B.h.ref, B.c.ref, B.ys.ref]
/-- The carried buffers with the two new states. -/
abbrev carN (B : Lp n) : List (Ref sig .tc) := B.v58.ref :: B.v60.ref :: car B
/-- The carried buffers that no trip changes. -/
abbrev stay (B : Lp n) : List (Ref sig .tc) := [B.x.ref, B.W.ref, B.U.ref, B.b.ref]

/-- What each list of a loop leaves: the row looked up, the two new states, the rows with one replaced, the copies; and that
    each leaves the buffers it does not write. -/
structure Reads (B : Lp n) (w : BitVec 32) (fit : (Sn n).Slices (fun _ => 0) S1x100) : Prop where
  cond : ∀ V : Valuation τ sig (Elt F), ∀ r ∈ car B, after (condOf B w) V (Proc.devRef .tc r) = V (Proc.devRef .tc r)
  lt : ∀ V : Valuation τ sig (Elt F), rd B.lt (after (condOf B w) V) = cmpi .slt (rd B.i V) (constantI S_ 32 w)
  look : ∀ V : Valuation τ sig (Elt F), rd B.v28 (after (lookOf fit B) V) = rowAt fit (rd B.x V) (rd B.i V)
  lookK : ∀ V : Valuation τ sig (Elt F), ∀ r ∈ car B, after (lookOf fit B) V (Proc.devRef .tc r) = V (Proc.devRef .tc r)
  gatesC : ∀ V : Valuation τ sig (Elt F), rd B.v58 (after (gatesOf B) V) = cR (zR (rd B.W V) (rd B.U V) (rd B.b V) (rd B.v28 V) (rd B.h V)) (rd B.c V)
  gatesH : ∀ V : Valuation τ sig (Elt F), rd B.v60 (after (gatesOf B) V) = hR (zR (rd B.W V) (rd B.U V) (rd B.b V) (rd B.v28 V) (rd B.h V)) (rd B.v58 (after (gatesOf B) V))
  gatesK : ∀ V : Valuation τ sig (Elt F), ∀ r ∈ car B, after (gatesOf B) V (Proc.devRef .tc r) = V (Proc.devRef .tc r)
  put : ∀ V : Valuation τ sig (Elt F), rd B.v61 (after (putOf fit B) V) = putAt fit (rd B.ys V) (rd B.v60 V) (rd B.i V)
  putK : ∀ V : Valuation τ sig (Elt F), ∀ r ∈ carN B, after (putOf fit B) V (Proc.devRef .tc r) = V (Proc.devRef .tc r)
  nextI : ∀ V : Valuation τ sig (Elt F), rd B.i (after (nextOf B) V) = addi (rd B.i V) (constantI S_ 32 1#32)
  nextH : ∀ V : Valuation τ sig (Elt F), rd B.h (after (nextOf B) V) = rd B.v60 V
  nextC : ∀ V : Valuation τ sig (Elt F), rd B.c (after (nextOf B) V) = rd B.v58 V
  nextY : ∀ V : Valuation τ sig (Elt F), rd B.ys (after (nextOf B) V) = rd B.v61 V
  nextK : ∀ V : Valuation τ sig (Elt F), ∀ r ∈ stay B, after (nextOf B) V (Proc.devRef .tc r) = V (Proc.devRef .tc r)

/-- The buffers the gates' list writes. -/
abbrev gatesW (B : Lp n) : List (Ref sig .tc) :=
  [B.v29.ref, B.v30.ref, B.v31.ref, B.v32.ref, B.v33.ref, B.v34.ref, B.v35.ref, B.v36.ref,
   B.v37.ref, B.v38.ref, B.cst_21.ref, B.v39.ref, B.v40.ref, B.cst_22.ref, B.v41.ref, B.v42.ref,
   B.v43.ref, B.v44.ref, B.cst_23.ref, B.v45.ref, B.v46.ref, B.cst_24.ref, B.v47.ref, B.v48.ref,
   B.v49.ref, B.v50.ref, B.v51.ref, B.cst_25.ref, B.v52.ref, B.v53.ref, B.cst_26.ref, B.v54.ref,
   B.v55.ref, B.v56.ref, B.v57.ref, B.v58.ref, B.v59.ref, B.v60.ref]

/-- The buffers the other lists write. -/
abbrev condW (B : Lp n) : List (Ref sig .tc) := [B.bound.ref, B.lt.ref]
/-- What the reading of a row writes. -/
abbrev lookW (B : Lp n) : List (Ref sig .tc) := [B.z0.ref, B.x1.ref, B.v28.ref]
/-- What the writing of a row writes. -/
abbrev putW (B : Lp n) : List (Ref sig .tc) := [B.u1.ref, B.z1.ref, B.v61.ref]
/-- What the last list of a trip writes. -/
abbrev nextW (B : Lp n) : List (Ref sig .tc) := [B.c_27.ref, B.v62.ref, B.i.ref, B.h.ref, B.c.ref, B.ys.ref]

set_option maxHeartbeats 4000000 in
/-- The four loops read so. -/
theorem reads : Reads (F := F) lp0 4096#32 sliceFits_S4096x100_S1x100 ∧ Reads (F := F) lp1 4096#32 sliceFits_S4096x100_S1x100
    ∧ Reads (F := F) lp2 200#32 sliceFits_S200x100_S1x100 ∧ Reads (F := F) lp3 200#32 sliceFits_S200x100_S1x100 := by
  refine ⟨?_, ?_, ?_, ?_⟩ <;> exact {
    cond := fun V r hr => after_of_writes_sub (W := condW _) _ V (forall_writes_sub_of_map rfl) (by revert r; decide)
    lt := fun V => by
      unfold rd condOf
      simp only [lp0, lp1, lp2, lp3]
      after_reads_simp
      rfl
    look := fun V => by
      unfold rd lookOf
      simp only [after_cons, after_nil, lp0, lp1, lp2, lp3]
      after_results_simp
      refine congrArg (fun o => shapeCast S100 (Host.dynamicSlice S1x100 _ o _) shapeCasts_S1x100_S100) (funext fun k => ?_)
      unfold offOf
      fin_cases k <;> rfl
    lookK := fun V r hr => after_of_writes_sub (W := lookW _) _ V (forall_writes_sub_of_map rfl) (by revert r; decide)
    gatesC := fun V => by
      unfold rd gatesOf
      simp only [lp0, lp1, lp2, lp3]
      after_reads_simp
      rfl
    gatesH := fun V => by
      unfold rd gatesOf
      simp only [lp0, lp1, lp2, lp3]
      after_reads_simp
      rfl
    gatesK := fun V r hr => after_of_writes_sub (W := gatesW _) _ V (forall_writes_sub_of_map rfl) (by revert r; decide)
    put := fun V => by
      unfold rd putOf
      simp only [after_cons, after_nil, lp0, lp1, lp2, lp3]
      after_results_simp
      refine congrArg (fun o => Host.dynamicUpdateSlice _ _ o _) (funext fun k => ?_)
      unfold offOf
      fin_cases k <;> rfl
    putK := fun V r hr => after_of_writes_sub (W := putW _) _ V (forall_writes_sub_of_map rfl) (by revert r; decide)
    nextI := fun V => by
      unfold rd nextOf
      simp only [lp0, lp1, lp2, lp3]
      after_reads_simp
      rfl
    nextH := fun V => by
      unfold rd nextOf
      simp only [lp0, lp1, lp2, lp3]
      after_reads_simp
      rfl
    nextC := fun V => by
      unfold rd nextOf
      simp only [lp0, lp1, lp2, lp3]
      after_reads_simp
      rfl
    nextY := fun V => by
      unfold rd nextOf
      simp only [lp0, lp1, lp2, lp3]
      after_reads_simp
      rfl
    nextK := fun V r hr => after_of_writes_sub (W := nextW _) _ V (forall_writes_sub_of_map rfl) (by revert r; decide) }

/-! ## Before each trip -/

/-- The counter's word before trip `k`. -/
abbrev iW (F : FTy → Type) [FloatOps F] (k : ℕ) : Wrd F := fun _ => Scf.iv 0#32 1#32 k

/-- The hidden and the cell state before trip `k`, from zeros or any other start `s`. -/
def stR (fit : (Sn n).Slices (fun _ => 0) S1x100) (W U : M400 F) (b : V400 F) (X : Seq F n) (s : V100 F × V100 F) : ℕ → V100 F × V100 F
  | 0 => s
  | k + 1 =>
    let t := stR fit W U b X s k
    let z := zR W U b (rowAt fit X (iW F k)) t.1
    (hR z (cR z t.2), cR z t.2)

/-- The rows written before trip `k`. -/
def ysR (fit : (Sn n).Slices (fun _ => 0) S1x100) (W U : M400 F) (b : V400 F) (X : Seq F n) (s : V100 F × V100 F) (Y : Seq F n) : ℕ → Seq F n
  | 0 => Y
  | k + 1 => putAt fit (ysR fit W U b X s Y k) (stR fit W U b X s (k + 1)).1 (iW F k)

/-- The carried buffers at `V` are those before trip `k` of the loop entered at `E`. -/
structure At (fit : (Sn n).Slices (fun _ => 0) S1x100) (B : Lp n) (E : Valuation τ sig (Elt F)) (k : ℕ) (V : Valuation τ sig (Elt F)) : Prop where
  x : rd B.x V = rd B.x E
  W : rd B.W V = rd B.W E
  U : rd B.U V = rd B.U E
  b : rd B.b V = rd B.b E
  i : rd B.i V = iW F k
  h : rd B.h V = (stR fit (rd B.W E) (rd B.U E) (rd B.b E) (rd B.x E) (rd B.h E, rd B.c E) k).1
  c : rd B.c V = (stR fit (rd B.W E) (rd B.U E) (rd B.b E) (rd B.x E) (rd B.h E, rd B.c E) k).2
  ys : rd B.ys V = ysR fit (rd B.W E) (rd B.U E) (rd B.b E) (rd B.x E) (rd B.h E, rd B.c E) (rd B.ys E) k

/-- A buffer that a list leaves reads as before it. -/
theorem rd_keep {T : BufTy} (r : TRef sig T) {V V' : Valuation τ sig (Elt F)} (h : V' (Proc.devRef .tc r.ref) = V (Proc.devRef .tc r.ref)) : rd r V' = rd r V :=
  congrArg r.ofBuf h

variable {B : Lp n} {w : BitVec 32} {fit : (Sn n).Slices (fun _ => 0) S1x100} {E : Valuation τ sig (Elt F)}

/-- The condition leaves the carried buffers. -/
theorem At.cond (R : Reads (F := F) B w fit) {k : ℕ} {V : Valuation τ sig (Elt F)} (h : At fit B E k V) : At fit B E k (after (condOf B w) V) where
  x := (rd_keep B.x (R.cond V _ (by simp))).trans h.x
  W := (rd_keep B.W (R.cond V _ (by simp))).trans h.W
  U := (rd_keep B.U (R.cond V _ (by simp))).trans h.U
  b := (rd_keep B.b (R.cond V _ (by simp))).trans h.b
  i := (rd_keep B.i (R.cond V _ (by simp))).trans h.i
  h := (rd_keep B.h (R.cond V _ (by simp))).trans h.h
  c := (rd_keep B.c (R.cond V _ (by simp))).trans h.c
  ys := (rd_keep B.ys (R.cond V _ (by simp))).trans h.ys

/-- The body takes them one trip on. -/
theorem At.body (R : Reads (F := F) B w fit) {k : ℕ} {V : Valuation τ sig (Elt F)} (h : At fit B E k V) : At fit B E (k + 1) (afterL (bodyOf fit B) V) := by
  simp only [bodyOf, afterL_cons, afterL_nil]
  set V1 := after (lookOf fit B) V with e1
  set V2 := after (gatesOf B) V1 with e2
  set V3 := after (putOf fit B) V2 with e3
  have k1 : ∀ {T : BufTy} (r : TRef sig T), r.ref ∈ car B → rd r V1 = rd r V := fun r hr => rd_keep r (R.lookK V _ hr)
  have k2 : ∀ {T : BufTy} (r : TRef sig T), r.ref ∈ car B → rd r V2 = rd r V := fun r hr => (rd_keep r (R.gatesK V1 _ hr)).trans (k1 r hr)
  have k3 : ∀ {T : BufTy} (r : TRef sig T), r.ref ∈ car B → rd r V3 = rd r V := fun r hr =>
    (rd_keep r (R.putK V2 _ (List.mem_cons_of_mem _ (List.mem_cons_of_mem _ hr)))).trans (k2 r hr)
  have k4 : ∀ {T : BufTy} (r : TRef sig T), r.ref ∈ stay B → r.ref ∈ car B → rd r (after (nextOf B) V3) = rd r V := fun r hs hr =>
    (rd_keep r (R.nextK V3 _ hs)).trans (k3 r hr)
  have hc : rd B.v58 V2 = (stR fit (rd B.W E) (rd B.U E) (rd B.b E) (rd B.x E) (rd B.h E, rd B.c E) (k + 1)).2 := by
    rw [e2, R.gatesC, k1 B.W (by simp), k1 B.U (by simp), k1 B.b (by simp), k1 B.h (by simp), k1 B.c (by simp), e1, R.look, h.W, h.U, h.b, h.h, h.c, h.x, h.i]
    rfl
  have hh : rd B.v60 V2 = (stR fit (rd B.W E) (rd B.U E) (rd B.b E) (rd B.x E) (rd B.h E, rd B.c E) (k + 1)).1 := by
    rw [e2, R.gatesH, ← e2, hc, k1 B.W (by simp), k1 B.U (by simp), k1 B.b (by simp), k1 B.h (by simp), e1, R.look, h.W, h.U, h.b, h.h, h.x, h.i]
    rfl
  refine ⟨(k4 B.x (by simp) (by simp)).trans h.x, (k4 B.W (by simp) (by simp)).trans h.W, (k4 B.U (by simp) (by simp)).trans h.U,
    (k4 B.b (by simp) (by simp)).trans h.b, ?_, ?_, ?_, ?_⟩
  · rw [R.nextI, k3 B.i (by simp), h.i]; exact funext fun _ => (Scf.iv_succ 0#32 1#32 k).symm
  · rw [R.nextH, ← hh]; exact rd_keep B.v60 (R.putK V2 _ (by simp))
  · rw [R.nextC, ← hc]; exact rd_keep B.v58 (R.putK V2 _ (by simp))
  · rw [R.nextY, e3, R.put, k2 B.ys (by simp), k2 B.i (by simp), hh, h.ys, h.i]; rfl

/-- Before trip `k`. -/
theorem at_trip (R : Reads (F := F) B w fit) (W₀ : Dev nD → Valuation τ sig (Elt F)) (c : Dev nD) (h0 : rd B.i (W₀ c) = iW F 0) :
    ∀ k, At fit B (W₀ c) k (atTrip (condOf B w) (bodyOf fit B) W₀ k c)
  | 0 => ⟨rfl, rfl, rfl, rfl, h0, rfl, rfl, rfl⟩
  | k + 1 => by
    rw [atTrip_succ]
    exact ((at_trip R W₀ c h0 k).cond R).body R

end Cert.ReferenceIdeal.Own

end
-- ==== Proof.RI.Run.lean ====
/- The run of the reference: its stretches of host operations and its four loops in order, what every buffer holds at the end,
   and the frame. -/
module

public import proofs.«01_k».proof.Proof.RI.Steps
public import Idealize.ShloMosaic.Lib.Scf.ExitTest
public import Idealize.ShloMosaic.Lib.StableHlo.RunHlo

@[expose] public section

noncomputable section

namespace Cert.ReferenceIdeal.Own

open Idealize.ShloMosaic Idealize.ShloMosaic.StableHlo Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal.Gen
open Idealize.ShloMosaic.Pipeline (ucRefs sub_ucRefs CSeg)

variable {F : FTy → Type} [FloatOps F]

/-! ## @main's stretches -/

/-- Before the first loop. -/
abbrev pre0 : List (HloOp τ sig (Elt F)) :=
  [ unary main_arg0 main_v0 (broadcastInDim S1x4096x100 ![1, 2] bcast_S4096x100_S1x4096x100_1_2),
    unary main_arg1 main_v1 (broadcastInDim S1x200x100 ![1, 2] bcast_S200x100_S1x200x100_1_2),
    reshape main_v0 main_v2 (rfl : (.f32 : EltTy) = .f32) shapeCasts_S1x4096x100_S4096x100,
    nullary main_cst (constant S_ .f32 0x00000000#32),
    unary main_cst main_v3 (broadcastInDim S100 ![] bcast_S_S100),
    nullary main_cst_0 (constant S_ .f32 0x00000000#32),
    unary main_cst_0 main_v4 (broadcastInDim S100 ![] bcast_S_S100),
    nullary main_cst_1 (constant S_ .f32 0x00000000#32),
    unary main_cst_1 main_v5 (broadcastInDim S4096x100 ![] bcast_S_S4096x100),
    nullary main_c (constantI S_ 32 0#32),
    unary main_v2 main_v6_0 id,
    unary main_arg2 main_v6_1 id,
    unary main_arg3 main_v6_2 id,
    unary main_arg4 main_v6_3 id,
    unary main_c main_v6_4 id,
    unary main_v3 main_v6_5 id,
    unary main_v4 main_v6_6 id,
    unary main_v5 main_v6_7 id ]

/-- Between the first and the second loop. -/
abbrev pre1 : List (HloOp τ sig (Elt F)) :=
  [ unary main_v2 main_v7 (Host.reverse [0]),
    nullary main_cst_2 (constant S_ .f32 0x00000000#32),
    unary main_cst_2 main_v8 (broadcastInDim S100 ![] bcast_S_S100),
    nullary main_cst_3 (constant S_ .f32 0x00000000#32),
    unary main_cst_3 main_v9 (broadcastInDim S100 ![] bcast_S_S100),
    nullary main_cst_4 (constant S_ .f32 0x00000000#32),
    unary main_cst_4 main_v10 (broadcastInDim S4096x100 ![] bcast_S_S4096x100),
    nullary main_c_5 (constantI S_ 32 0#32),
    unary main_v7 main_v11_0 id,
    unary main_arg5 main_v11_1 id,
    unary main_arg6 main_v11_2 id,
    unary main_arg7 main_v11_3 id,
    unary main_c_5 main_v11_4 id,
    unary main_v8 main_v11_5 id,
    unary main_v9 main_v11_6 id,
    unary main_v10 main_v11_7 id ]

/-- Between the second and the third loop. -/
abbrev pre2 : List (HloOp τ sig (Elt F)) :=
  [ unary main_v11_7 main_v12 (Host.reverse [0]),
    binary main_v6_7 main_v12 main_v13 (fun a b => concatenate S4096x200 1 [⟨S4096x100, a⟩, ⟨S4096x100, b⟩] concatenates_S4096x100_S4096x100_S4096x200_d1),
    unary main_v13 main_v14 (broadcastInDim S1x4096x200 ![1, 2] bcast_S4096x200_S1x4096x200_1_2),
    reshape main_v1 main_v15 (rfl : (.f32 : EltTy) = .f32) shapeCasts_S1x200x100_S200x100,
    nullary main_cst_6 (constant S_ .f32 0x00000000#32),
    unary main_cst_6 main_v16 (broadcastInDim S100 ![] bcast_S_S100),
    nullary main_cst_7 (constant S_ .f32 0x00000000#32),
    unary main_cst_7 main_v17 (broadcastInDim S100 ![] bcast_S_S100),
    nullary main_cst_8 (constant S_ .f32 0x00000000#32),
    unary main_cst_8 main_v18 (broadcastInDim S200x100 ![] bcast_S_S200x100),
    nullary main_c_9 (constantI S_ 32 0#32),
    unary main_v15 main_v19_0 id,
    unary main_arg8 main_v19_1 id,
    unary main_arg9 main_v19_2 id,
    unary main_arg10 main_v19_3 id,
    unary main_c_9 main_v19_4 id,
    unary main_v16 main_v19_5 id,
    unary main_v17 main_v19_6 id,
    unary main_v18 main_v19_7 id ]

/-- Between the third and the fourth loop, first half. -/
abbrev pre3 : List (HloOp τ sig (Elt F)) :=
  [ unary main_v15 main_v20 (Host.reverse [0]),
    nullary main_cst_10 (constant S_ .f32 0x00000000#32),
    unary main_cst_10 main_v21 (broadcastInDim S100 ![] bcast_S_S100),
    nullary main_cst_11 (constant S_ .f32 0x00000000#32) ]

/-- Between the third and the fourth loop, second half. -/
abbrev pre4 : List (HloOp τ sig (Elt F)) :=
  [ unary main_cst_11 main_v22 (broadcastInDim S100 ![] bcast_S_S100),
    nullary main_cst_12 (constant S_ .f32 0x00000000#32),
    unary main_cst_12 main_v23 (broadcastInDim S200x100 ![] bcast_S_S200x100),
    nullary main_c_13 (constantI S_ 32 0#32),
    unary main_v20 main_v24_0 id,
    unary main_arg11 main_v24_1 id,
    unary main_arg12 main_v24_2 id,
    unary main_arg13 main_v24_3 id,
    unary main_c_13 main_v24_4 id,
    unary main_v21 main_v24_5 id,
    unary main_v22 main_v24_6 id,
    unary main_v23 main_v24_7 id ]

/-- After the fourth loop. -/
abbrev post : List (HloOp τ sig (Elt F)) :=
  [ unary main_v24_7 main_v25 (Host.reverse [0]),
    binary main_v19_7 main_v25 main_v26 (fun a b => concatenate S200x200 1 [⟨S200x100, a⟩, ⟨S200x100, b⟩] concatenates_S200x100_S200x100_S200x200_d1),
    unary main_v26 main_v27 (broadcastInDim S1x200x200 ![1, 2] bcast_S200x200_S1x200x200_1_2) ]

/-- @main's first window: the stretches and loops up to the first half of the fourth stretch. -/
theorem main_window0 (c : Dev nD) : main_part0 (F := F) c = Pipeline.chainK
    [seq pre0, HostLoop.enter 0, seq pre1, HostLoop.enter 1, seq pre2, HostLoop.enter 2] (seq pre3) := by
  rewrite [chainK_seq_cons, Pipeline.chainK_cons, chainK_seq_cons, Pipeline.chainK_cons, chainK_seq_cons, Pipeline.chainK_cons]
  chain_rfl

/-- @main's second window. -/
theorem main_window1 (c : Dev nD) : main_part1 (F := F) c = Pipeline.chain [seq pre4, HostLoop.enter 3, seq post] := by
  rewrite [chain_seq_cons, Pipeline.chain_cons, chain_seq_cons]
  chain_rfl

/-- @main in order. -/
theorem main_items (c : Dev nD) : main (F := F) c = Pipeline.chain
    [seq pre0, HostLoop.enter 0, seq pre1, HostLoop.enter 1, seq pre2, HostLoop.enter 2, seq pre3, seq pre4, HostLoop.enter 3, seq post] :=
  Pipeline.chain_of_window (main_window0 c) (main_window1 c)

/-! ## The loops -/

local notation "𝕄" => MT nD τ sig Unit (Elt F) ℕ (Option PUnit) ℕ

/-- There is no kernel, so no data of one. -/
abbrev adm : (p : Fin 0) → (pcfgs (F := F) p).Adm := fun p => p.elim0
/-- There is no kernel to draw tickets of. -/
abbrev tk : Fin 0 → Pipeline.Ticket (Ix := Unit) (Name := ℕ) (U := Option PUnit) (Lvl := ℕ) (nD := nD) (τ := τ) (pcfgs (F := F)) adm := fun j => j.elim0
/-- No level is assigned. -/
abbrev L : GSem nD τ sig → Finset Unit := fun _ => ∅
/-- Every level is zero. -/
abbrev lv : GSem nD τ sig → Unit → ℕ := fun _ _ => 0
/-- What is carried beside the buffers. -/
abbrev Rw (c : Dev nD) : sProp 𝕄 := iprop(∃ W, owes (c : Thread nD τ) (0 : CellTallies nD τ sig Unit) W)

/-- A loop's condition: its two operations and the element read. -/
abbrev condProg {n : ℕ} (B : Lp n) (w : BitVec 32) :
    Prog (TpuEff nD τ sig (Elt F) (HostLoop.Sig (Pipeline.Sig Λ₀ (Fin 0) fun p => (pcfgs (F := F) p).Adm) 4) .tc) (Elt F .i1) := do
  hlo rfl (TRef.nullary B.bound (constantI S_ 32 w)) (fun _ => .ret ⟨⟩)
  let x ← hlo rfl (TRef.binary B.i B.bound B.lt (cmpi .slt)) (HostLoop.elt B.lt.ref B.lt.ty_eq)
  pure x

set_option backward.isDefEq.respectTransparency.types false in
/-- The condition's specification, for any of the loops. -/
theorem loop_cond {n : ℕ} {B : Lp n} {w : BitVec 32} {fit : (Sn n).Slices (fun _ => 0) S1x100} (R : Reads (F := F) B w fit) (N : ℕ)
    (hN : N = Scf.trips 0#32 w 1#32) (hok : Scf.OK 0#32 w 1#32) (W₀ : Dev nD → Valuation τ sig (Elt F)) (h0 : ∀ c, rd B.i (W₀ c) = iW F 0)
    (Rc : Dev nD → sProp 𝕄) : LoopCond (pcfgs (F := F)) defs₀ Variants.none loops Rc (condProg B w) (condOf B w) (bodyOf fit B) W₀ N := by
  intro k hk c bd
  have hat := at_trip R W₀ c (h0 c) k
  have hlt := R.lt (atTrip (condOf B w) (bodyOf fit B) W₀ k c)
  unfold condProg
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    have e := congrFun (congrArg B.lt.ofBuf ((TRef.binary (Val := Elt F) (τ := τ) B.i B.bound B.lt (cmpi .slt)).result_of_mem
      (after [TRef.nullary B.bound (constantI S_ 32 w)] (atTrip (condOf B w) (bodyOf fit B) W₀ k c)) (Finset.mem_singleton_self _))) HostLoop.idx0
    refine (Iff.of_eq (congrArg (fun v => v = 1#1) e.symm)).trans ?_
    refine (Iff.of_eq (congrArg (fun v => v = 1#1) (congrFun hlt HostLoop.idx0))).trans ?_
    rw [hat.i, hN]
    exact Scf.cmpi_slt_iv_ub_iff hok (hN ▸ hk)
  isplitl [Hb]; · iexact Hb
  isplitl [Hh]; · rw [after_cons, after_cons, after_nil]; iexact Hh
  iexact HR

/-- A loop's body lists touch the program's buffers and allocate none. -/
theorem body_plain {n : ℕ} (fit : (Sn n).Slices (fun _ => 0) S1x100) (B : Lp n) : Plain (F := F) (bodyOf fit B) :=
  .cons (by simp [List.Forall]) (.cons (by simp [List.Forall]) (.cons (by simp [List.Forall]) (.cons (by simp [List.Forall]) .nil)))

/-- The stretch touches the program's buffers and allocates none. -/
theorem pre0_plain : Plain (F := F) [pre0] := .cons (by simp [List.Forall]) .nil
/-- The stretch touches the program's buffers and allocates none. -/
theorem pre1_plain : Plain (F := F) [pre1] := .cons (by simp [List.Forall]) .nil
/-- The stretch touches the program's buffers and allocates none. -/
theorem pre2_plain : Plain (F := F) [pre2] := .cons (by simp [List.Forall]) .nil
/-- The stretch touches the program's buffers and allocates none. -/
theorem pre3_plain : Plain (F := F) [pre3, pre4] := .cons (by simp [List.Forall]) (.cons (by simp [List.Forall]) .nil)
/-- The stretch touches the program's buffers and allocates none. -/
theorem post_plain : Plain (F := F) [post] := .cons (by simp [List.Forall]) .nil

/-- What a loop of `N` trips leaves, entered at `E`. -/
def exitOf {n : ℕ} (B : Lp n) (w : BitVec 32) (fit : (Sn n).Slices (fun _ => 0) S1x100) (N : ℕ) (E : Dev nD → Valuation τ sig (Elt F)) :
    Dev nD → Valuation τ sig (Elt F) := fun c => after (condOf B w) (atTrip (condOf B w) (bodyOf fit B) E N c)

/-- The carried buffers at the exit. -/
theorem exit_at {n : ℕ} {B : Lp n} {w : BitVec 32} {fit : (Sn n).Slices (fun _ => 0) S1x100} (R : Reads (F := F) B w fit) (N : ℕ)
    (E : Dev nD → Valuation τ sig (Elt F)) (c : Dev nD) (h0 : rd B.i (E c) = iW F 0) : At fit B (E c) N (exitOf B w fit N E c) :=
  (at_trip R E c h0 N).cond R

/-- A buffer that no list of the loop writes is left. -/
theorem exit_keep {n : ℕ} (B : Lp n) (w : BitVec 32) (fit : (Sn n).Slices (fun _ => 0) S1x100) (N : ℕ) (E : Dev nD → Valuation τ sig (Elt F)) (c : Dev nD)
    {r : Ref sig .tc} (hr : r ∉ condW B ++ lookW B ++ gatesW B ++ putW B ++ nextW B) :
    exitOf B w fit N E c (Proc.devRef .tc r) = E c (Proc.devRef .tc r) := by
  simp only [List.mem_append, not_or] at hr
  obtain ⟨⟨⟨⟨h1, h2⟩, h3⟩, h4⟩, h5⟩ := hr
  have hc : ∀ V : Valuation τ sig (Elt F), after (condOf B w) V (Proc.devRef .tc r) = V (Proc.devRef .tc r) := fun V =>
    after_of_writes_sub (W := condW B) _ V (forall_writes_sub_of_map rfl) h1
  have hk : ∀ k, atTrip (condOf B w) (bodyOf fit B) E k c (Proc.devRef .tc r) = E c (Proc.devRef .tc r) := by
    intro k
    induction k with
    | zero => rfl
    | succ k ih =>
      rw [atTrip_succ, bodyOf, afterL_cons, afterL_cons, afterL_cons, afterL_cons, afterL_nil,
        after_of_writes_sub (W := nextW B) _ _ (forall_writes_sub_of_map rfl) h5, after_of_writes_sub (W := putW B) _ _ (forall_writes_sub_of_map rfl) h4,
        after_of_writes_sub (W := gatesW B) _ _ (forall_writes_sub_of_map rfl) h3, after_of_writes_sub (W := lookW B) _ _ (forall_writes_sub_of_map rfl) h2, hc]
      exact ih
  exact (hc _).trans (hk N)

/-! ## The contents at each boundary -/

variable (m : (ℓ : Loc nD τ sig) → Buf (Elt F) ℓ)

/-- When loop `k` is entered (`Ek`) and left (`Xk`), and at the end. -/
def E0 (c : Dev nD) : Valuation τ sig (Elt F) := after pre0 (fun b => m ((c : Dev nD), b))
/-- The contents when loop 0 is left. -/
def X0 : Dev nD → Valuation τ sig (Elt F) := exitOf lp0 4096#32 sliceFits_S4096x100_S1x100 4096 (E0 m)
/-- The contents when loop 1 is entered. -/
def E1 (c : Dev nD) : Valuation τ sig (Elt F) := after pre1 (X0 m c)
/-- The contents when loop 1 is left. -/
def X1 : Dev nD → Valuation τ sig (Elt F) := exitOf lp1 4096#32 sliceFits_S4096x100_S1x100 4096 (E1 m)
/-- The contents when loop 2 is entered. -/
def E2 (c : Dev nD) : Valuation τ sig (Elt F) := after pre2 (X1 m c)
/-- The contents when loop 2 is left. -/
def X2 : Dev nD → Valuation τ sig (Elt F) := exitOf lp2 200#32 sliceFits_S200x100_S1x100 200 (E2 m)
/-- The contents when loop 3 is entered. -/
def E3 (c : Dev nD) : Valuation τ sig (Elt F) := after pre4 (after pre3 (X2 m c))
/-- The contents when loop 3 is left. -/
def X3 : Dev nD → Valuation τ sig (Elt F) := exitOf lp3 200#32 sliceFits_S200x100_S1x100 200 (E3 m)
/-- The contents at the end. -/
def Vend (c : Dev nD) : Valuation τ sig (Elt F) := after post (X3 m c)

/-- Each loop's counter starts at zero. -/
theorem ctr0 (c : Dev nD) : rd lp0.i (E0 m c) = iW F 0 := by
  unfold rd E0 lp0
  after_reads_simp
  exact funext fun _ => (Scf.iv_zero 0#32 1#32).symm
/-- Loop 1's counter starts at zero. -/
theorem ctr1 (c : Dev nD) : rd lp1.i (E1 m c) = iW F 0 := by
  unfold rd E1 lp1
  after_reads_simp
  exact funext fun _ => (Scf.iv_zero 0#32 1#32).symm
/-- Loop 2's counter starts at zero. -/
theorem ctr2 (c : Dev nD) : rd lp2.i (E2 m c) = iW F 0 := by
  unfold rd E2 lp2
  after_reads_simp
  exact funext fun _ => (Scf.iv_zero 0#32 1#32).symm
/-- Loop 3's counter starts at zero. -/
theorem ctr3 (c : Dev nD) : rd lp3.i (E3 m c) = iW F 0 := by
  unfold rd E3 lp3
  after_reads_simp
  exact funext fun _ => (Scf.iv_zero 0#32 1#32).symm

/-! ## The run -/

/-- The kit's segment. -/
abbrev KitSeg : Type 1 := CSeg (pcfgs (F := F)) adm defs₀ Variants.none L lv loops tk

/-- Loop 0 as a segment. -/
abbrev loop0 : KitSeg (F := F) := loopSeg _ _ _ _ _ _ _ _ 0 (main_while0_cond (F := F)) (main_while0_body (F := F)) rfl (condOf lp0 4096#32)
  (bodyOf sliceFits_S4096x100_S1x100 lp0) (body_plain _ _) body0 4096 (E0 m) Rw (loop_cond reads.1 4096 (by decide) (by decide) (E0 m) (ctr0 m) Rw)
/-- Loop 1 as a segment. -/
abbrev loop1 : KitSeg (F := F) := loopSeg _ _ _ _ _ _ _ _ 1 (main_while1_cond (F := F)) (main_while1_body (F := F)) rfl (condOf lp1 4096#32)
  (bodyOf sliceFits_S4096x100_S1x100 lp1) (body_plain _ _) body1 4096 (E1 m) Rw (loop_cond reads.2.1 4096 (by decide) (by decide) (E1 m) (ctr1 m) Rw)
/-- Loop 2 as a segment. -/
abbrev loop2 : KitSeg (F := F) := loopSeg _ _ _ _ _ _ _ _ 2 (main_while2_cond (F := F)) (main_while2_body (F := F)) rfl (condOf lp2 200#32)
  (bodyOf sliceFits_S200x100_S1x100 lp2) (body_plain _ _) body2 200 (E2 m) Rw (loop_cond reads.2.2.1 200 (by decide) (by decide) (E2 m) (ctr2 m) Rw)
/-- Loop 3 as a segment. -/
abbrev loop3 : KitSeg (F := F) := loopSeg _ _ _ _ _ _ _ _ 3 (main_while3_cond (F := F)) (main_while3_body (F := F)) rfl (condOf lp3 200#32)
  (bodyOf sliceFits_S200x100_S1x100 lp3) (body_plain _ _) body3 200 (E3 m) Rw (loop_cond reads.2.2.2 200 (by decide) (by decide) (E3 m) (ctr3 m) Rw)

/-- A stretch of host operations as segments. -/
abbrev stretch (items : List (List (HloOp τ sig (Elt F)))) (h : Plain items) (V : Dev nD → Valuation τ sig (Elt F)) : List (KitSeg (F := F)) :=
  segsOf (pcfgs (F := F)) adm defs₀ Variants.none L lv loops tk Rw items h V

/-- @main's segments. -/
abbrev segs : List (KitSeg (F := F)) :=
  stretch [pre0] pre0_plain (launchContents m) ++ loop0 m :: (stretch [pre1] pre1_plain (X0 m) ++ loop1 m :: (stretch [pre2] pre2_plain (X1 m) ++ loop2 m ::
    (stretch [pre3, pre4] pre3_plain (X2 m) ++ loop3 m :: stretch [post] post_plain (X3 m))))

/-- The state at a boundary. -/
abbrev St (V : Dev nD → Valuation τ sig (Elt F)) (c : Dev nD) : sProp 𝕄 := iprop(held (c : Thread nD τ) (ucRefs τ sig) (V c) ∗ Rw c)

/-- Each segment ends where the next begins. -/
theorem segs_chains : CSeg.Chains (St (launchContents m)) (segs m) (St (Vend m)) :=
  CSeg.Chains.append (segsOf_chains _ _ _ _ _ _ _ _ Rw [pre0] pre0_plain _) ⟨fun _ => .rfl,
    CSeg.Chains.append (segsOf_chains _ _ _ _ _ _ _ _ Rw [pre1] pre1_plain _) ⟨fun _ => .rfl,
      CSeg.Chains.append (segsOf_chains _ _ _ _ _ _ _ _ Rw [pre2] pre2_plain _) ⟨fun _ => .rfl,
        CSeg.Chains.append (segsOf_chains _ _ _ _ _ _ _ _ Rw [pre3, pre4] pre3_plain _) ⟨fun _ => .rfl, segsOf_chains _ _ _ _ _ _ _ _ Rw [post] post_plain _⟩⟩⟩⟩

/-- What each stretch writes. -/
abbrev pre0W : List (Ref sig .tc) := [main_v0, main_v1, main_v2, main_cst, main_v3, main_cst_0, main_v4, main_cst_1, main_v5, main_c, main_v6_0, main_v6_1, main_v6_2, main_v6_3, main_v6_4, main_v6_5, main_v6_6, main_v6_7]
/-- What stretch 1 writes. -/
abbrev pre1W : List (Ref sig .tc) := [main_v7, main_cst_2, main_v8, main_cst_3, main_v9, main_cst_4, main_v10, main_c_5, main_v11_0, main_v11_1, main_v11_2, main_v11_3, main_v11_4, main_v11_5, main_v11_6, main_v11_7]
/-- What stretch 2 writes. -/
abbrev pre2W : List (Ref sig .tc) := [main_v12, main_v13, main_v14, main_v15, main_cst_6, main_v16, main_cst_7, main_v17, main_cst_8, main_v18, main_c_9, main_v19_0, main_v19_1, main_v19_2, main_v19_3, main_v19_4, main_v19_5, main_v19_6, main_v19_7]
/-- What stretch 3 writes. -/
abbrev pre3W : List (Ref sig .tc) := [main_v20, main_cst_10, main_v21, main_cst_11]
/-- What stretch 4 writes. -/
abbrev pre4W : List (Ref sig .tc) := [main_v22, main_cst_12, main_v23, main_c_13, main_v24_0, main_v24_1, main_v24_2, main_v24_3, main_v24_4, main_v24_5, main_v24_6, main_v24_7]
/-- What the last stretch writes. -/
abbrev postW : List (Ref sig .tc) := [main_v25, main_v26, main_v27]

/-- Every buffer a loop's lists write. -/
abbrev loopW {n : ℕ} (B : Lp n) : List (Ref sig .tc) := condW B ++ lookW B ++ gatesW B ++ putW B ++ nextW B

/-- Stretch 0 leaves what it does not write. -/
theorem pre0_keep (V : Valuation τ sig (Elt F)) {r : Ref sig .tc} (h : r ∉ pre0W) : after pre0 V (Proc.devRef .tc r) = V (Proc.devRef .tc r) :=
  after_of_writes_sub (W := pre0W) _ V (forall_writes_sub_of_map rfl) h
/-- Stretch 1 leaves what it does not write. -/
theorem pre1_keep (V : Valuation τ sig (Elt F)) {r : Ref sig .tc} (h : r ∉ pre1W) : after pre1 V (Proc.devRef .tc r) = V (Proc.devRef .tc r) :=
  after_of_writes_sub (W := pre1W) _ V (forall_writes_sub_of_map rfl) h
/-- Stretch 2 leaves what it does not write. -/
theorem pre2_keep (V : Valuation τ sig (Elt F)) {r : Ref sig .tc} (h : r ∉ pre2W) : after pre2 V (Proc.devRef .tc r) = V (Proc.devRef .tc r) :=
  after_of_writes_sub (W := pre2W) _ V (forall_writes_sub_of_map rfl) h
/-- Stretch 3 leaves what it does not write. -/
theorem pre3_keep (V : Valuation τ sig (Elt F)) {r : Ref sig .tc} (h : r ∉ pre3W) : after pre3 V (Proc.devRef .tc r) = V (Proc.devRef .tc r) :=
  after_of_writes_sub (W := pre3W) _ V (forall_writes_sub_of_map rfl) h
/-- Stretch 4 leaves what it does not write. -/
theorem pre4_keep (V : Valuation τ sig (Elt F)) {r : Ref sig .tc} (h : r ∉ pre4W) : after pre4 V (Proc.devRef .tc r) = V (Proc.devRef .tc r) :=
  after_of_writes_sub (W := pre4W) _ V (forall_writes_sub_of_map rfl) h
/-- The last stretch leaves what it does not write. -/
theorem post_keep (V : Valuation τ sig (Elt F)) {r : Ref sig .tc} (h : r ∉ postW) : after post V (Proc.devRef .tc r) = V (Proc.devRef .tc r) :=
  after_of_writes_sub (W := postW) _ V (forall_writes_sub_of_map rfl) h

/-- A buffer that nothing from the start to the given boundary writes holds there what it held at the launch. -/
theorem E0_keep (c : Dev nD) {r : Ref sig .tc} (h : r ∉ pre0W) : E0 m c (Proc.devRef .tc r) = m ((c.tc : Thread nD τ).loc r) :=
  pre0_keep _ h
/-- The buffers that the stretch or the loop does not write are kept. -/
theorem X0_keep (c : Dev nD) {r : Ref sig .tc} (h : r ∉ loopW lp0) : X0 m c (Proc.devRef .tc r) = E0 m c (Proc.devRef .tc r) :=
  exit_keep lp0 _ _ _ _ c h
/-- The buffers that the stretch or the loop does not write are kept. -/
theorem E1_keep (c : Dev nD) {r : Ref sig .tc} (h : r ∉ pre1W) : E1 m c (Proc.devRef .tc r) = X0 m c (Proc.devRef .tc r) :=
  pre1_keep _ h
/-- The buffers that the stretch or the loop does not write are kept. -/
theorem X1_keep (c : Dev nD) {r : Ref sig .tc} (h : r ∉ loopW lp1) : X1 m c (Proc.devRef .tc r) = E1 m c (Proc.devRef .tc r) :=
  exit_keep lp1 _ _ _ _ c h
/-- The buffers that the stretch or the loop does not write are kept. -/
theorem E2_keep (c : Dev nD) {r : Ref sig .tc} (h : r ∉ pre2W) : E2 m c (Proc.devRef .tc r) = X1 m c (Proc.devRef .tc r) :=
  pre2_keep _ h
/-- The buffers that the stretch or the loop does not write are kept. -/
theorem X2_keep (c : Dev nD) {r : Ref sig .tc} (h : r ∉ loopW lp2) : X2 m c (Proc.devRef .tc r) = E2 m c (Proc.devRef .tc r) :=
  exit_keep lp2 _ _ _ _ c h
/-- The buffers that the stretch or the loop does not write are kept. -/
theorem E3_keep (c : Dev nD) {r : Ref sig .tc} (h : r ∉ pre3W ++ pre4W) : E3 m c (Proc.devRef .tc r) = X2 m c (Proc.devRef .tc r) := by
  rw [List.mem_append, not_or] at h
  exact (pre4_keep _ h.2).trans (pre3_keep _ h.1)
/-- The buffers that the stretch or the loop does not write are kept. -/
theorem X3_keep (c : Dev nD) {r : Ref sig .tc} (h : r ∉ loopW lp3) : X3 m c (Proc.devRef .tc r) = E3 m c (Proc.devRef .tc r) :=
  exit_keep lp3 _ _ _ _ c h
/-- The buffers that the last stretch does not write are kept. -/
theorem Vend_keep (c : Dev nD) {r : Ref sig .tc} (h : r ∉ postW) : Vend m c (Proc.devRef .tc r) = X3 m c (Proc.devRef .tc r) :=
  post_keep _ h

/-- The program's arguments. -/
abbrev argRefs : List (Ref sig .tc) := [main_arg0, main_arg1, main_arg2, main_arg3, main_arg4, main_arg5, main_arg6, main_arg7, main_arg8, main_arg9, main_arg10, main_arg11, main_arg12, main_arg13]

/-- No argument is written. -/
theorem args_free : ∀ r ∈ argRefs, r ∉ pre0W ∧ r ∉ loopW lp0 ∧ r ∉ pre1W ∧ r ∉ loopW lp1 ∧ r ∉ pre2W ∧ r ∉ loopW lp2 ∧ r ∉ pre3W ++ pre4W ∧ r ∉ loopW lp3 ∧ r ∉ postW := by
  decide

/-- An argument at each boundary is as launched. -/
theorem arg_E0 (c : Dev nD) {r : Ref sig .tc} (h : r ∈ argRefs) : E0 m c (Proc.devRef .tc r) = m ((c.tc : Thread nD τ).loc r) := E0_keep m c (args_free r h).1
/-- The arguments are as launched when loop 1 is entered. -/
theorem arg_E1 (c : Dev nD) {r : Ref sig .tc} (h : r ∈ argRefs) : E1 m c (Proc.devRef .tc r) = m ((c.tc : Thread nD τ).loc r) :=
  (E1_keep m c (args_free r h).2.2.1).trans ((X0_keep m c (args_free r h).2.1).trans (arg_E0 m c h))
/-- The arguments are as launched when loop 2 is entered. -/
theorem arg_E2 (c : Dev nD) {r : Ref sig .tc} (h : r ∈ argRefs) : E2 m c (Proc.devRef .tc r) = m ((c.tc : Thread nD τ).loc r) :=
  (E2_keep m c (args_free r h).2.2.2.2.1).trans ((X1_keep m c (args_free r h).2.2.2.1).trans (arg_E1 m c h))
/-- The arguments are as launched when loop 3 is entered. -/
theorem arg_E3 (c : Dev nD) {r : Ref sig .tc} (h : r ∈ argRefs) : E3 m c (Proc.devRef .tc r) = m ((c.tc : Thread nD τ).loc r) :=
  (E3_keep m c (args_free r h).2.2.2.2.2.2.1).trans ((X2_keep m c (args_free r h).2.2.2.2.2.1).trans (arg_E2 m c h))
/-- The arguments are as launched at the end. -/
theorem arg_end (c : Dev nD) {r : Ref sig .tc} (h : r ∈ argRefs) : Vend m c (Proc.devRef .tc r) = m ((c.tc : Thread nD τ).loc r) :=
  (Vend_keep m c (args_free r h).2.2.2.2.2.2.2.2).trans ((X3_keep m c (args_free r h).2.2.2.2.2.2.2.1).trans (arg_E3 m c h))

/-- The segments' programs are @main's items. -/
theorem segs_prog : (segs m).map CSeg.prog = [seq pre0, HostLoop.enter 0, seq pre1, HostLoop.enter 1, seq pre2, HostLoop.enter 2, seq pre3, seq pre4, HostLoop.enter 3, seq post] := by
  unfold segs
  rw [List.map_append, List.map_cons, List.map_append, List.map_cons, List.map_append, List.map_cons, List.map_append, List.map_cons,
    segsOf_prog, segsOf_prog, segsOf_prog, segsOf_prog, segsOf_prog]
  rfl

/-- The segments' programs in order are the chain of @main's. -/
theorem runL_segs : CSeg.runL (segs (F := F) m) = Pipeline.chain
    [seq pre0, HostLoop.enter 0, seq pre1, HostLoop.enter 1, seq pre2, HostLoop.enter 2, seq pre3, seq pre4, HostLoop.enter 3, seq post] :=
  (show CSeg.runL (segs m) = Pipeline.chain ((segs m).map CSeg.prog) from rfl).trans (congrArg Pipeline.chain (segs_prog m))

/-- The program has no semaphore that outlives a scope. -/
theorem no_unscoped : ∀ sm : SemLoc sig, sm.isScoped .tc = true := by decide

/-- The run: every fair execution ends, with every semaphore at zero and every tensor buffer at the last valuation. -/
theorem run (ρ : Dev nD → PrngReg) :
    θ_run defs (onTc (τ := τ) (main (F := F))) ⟨m, fun _ => 0, ρ⟩ (fun r =>
      (∀ c : Dev nD, ∀ b ∈ ucRefs τ sig, r.2.mem ((c : Dev nD), b) = Vend m c b) ∧ r.2.sem = fun _ => 0) := by
  refine Pipeline.θ_run_regions_loop_kit_sems (Ix := Unit) (Name := ℕ) (U := Option PUnit) (Lvl := ℕ) (J := Fin 0) (P := Fin 0) (Val := Elt F)
    pcfgs adm (fun k => k.1.elim0) defs₀ Variants.none L lv loops tk m ρ main (segs m)
    (fun c Q => by
      rw [main_items c, runL_segs])
    (Pipeline.CSeg.pairwise_disjoint_of_T_empty _ fun s _ => Finset.eq_empty_of_isEmpty s.T)
    (O₀ := 0) (hL := fun _ _ => rfl) (G := fun _ => iprop(emp)) (u₀ := 1) (hu₀ := ?_)
    (T₀ := St (launchContents m)) (Tₙ := fun c => held (c : Thread nD τ) (ucRefs τ sig) (Vend m c)) (hch := segs_chains m) (hinit := ?_)
    (QY := fun c s => ∀ b ∈ ucRefs τ sig, s.mem ((c : Dev nD), b) = Vend m c b) (hfin := fun c s' => ?_)
    (hQ := fun _ h hz => ⟨h, funext fun g => hz g (.inr (no_unscoped g.2))⟩)
  · iintro -
    imodintro
    isplitl []
    · rw [Finset.univ_eq_empty, BI.bigSep_empty]; iempintro
    · iapply (show (BI.emp : sProp 𝕄) ⊢ bigSep Finset.univ (fun _ : Dev nD => (BI.emp : sProp 𝕄)) from by rw [BI.bigSep_emp_const])
      iempintro
  · refine Pipeline.initEach L lv fun c => ?_
    rw [show unscopedBufs c (fun b => m ((c : Thread nD τ).loc b)) = held (c : Thread nD τ) (ucRefs τ sig) (launchContents m c) from Pipeline.unscopedBufs_held c (launchContents m c)]
    iintro ⟨⟨Hh, -, HO, -, -, -⟩, -⟩
    imodintro
    isplitl [Hh]; · iexact Hh
    iexists ∅; iexact HO
  · unfold held
    iintro ⟨Hh, HSI⟩
    ihave Hr := (pointsTo_read_all (ucRefs τ sig) (fun b => ((c : Dev nD), b)) (fun b => Vend m c b) s') $$ [Hh HSI]
    · isplitl [Hh] <;> iassumption
    icases Hr with ⟨%h, HSI⟩
    imodintro
    isplitr; · ipureintro; exact h
    iexact HSI

/-- The arguments at the end: each as launched. -/
abbrev kept (c : Dev nD) (s : (ℓ : Loc nD τ sig) → Buf (Elt F) ℓ) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)
  ∧ s ((c.tc : Thread nD τ).loc main_arg13) = m ((c.tc : Thread nD τ).loc main_arg13)

/-- The run, at the arguments and the two results. -/
theorem run_at (ρ : Dev nD → PrngReg) :
    θ_run defs (onTc (τ := τ) (main (F := F))) ⟨m, fun _ => 0, ρ⟩ (fun r =>
      (∀ c : Dev nD, r.2.mem ((c.tc : Thread nD τ).loc main_v14) = Vend m c (Proc.devRef .tc main_v14)
        ∧ r.2.mem ((c.tc : Thread nD τ).loc main_v27) = Vend m c (Proc.devRef .tc main_v27) ∧ kept m c r.2.mem) ∧ r.2.sem = fun _ => 0) := by
  refine θ_run_mono (run m ρ) fun r h => ⟨fun c => ?_, h.2⟩
  have ha : ∀ b ∈ argRefs, (Proc.devRef .tc b : DevRef τ sig).isScoped = false → r.2.mem ((c.tc : Thread nD τ).loc b) = m ((c.tc : Thread nD τ).loc b) :=
    fun b hb hs => (h.1 c _ (devRef_mem_ucRefs b hs)).trans (arg_end m c hb)
  refine ⟨h.1 c _ (devRef_mem_ucRefs _ rfl), h.1 c _ (devRef_mem_ucRefs _ rfl), ?_⟩
  refine ⟨?_, ?_, ?_, ?_, ?_, ?_, ?_, ?_, ?_, ?_, ?_, ?_, ?_, ?_⟩ <;> exact ha _ (by decide) rfl

/-- The frame: every fair execution ends with the arguments as they were and every semaphore at zero. -/
theorem frame (ρ : Dev nD → PrngReg) :
    θ_run defs (onTc (τ := τ) (main (F := F))) ⟨m, fun _ => 0, ρ⟩ (fun r => (∀ c : Dev nD, kept m c r.2.mem) ∧ r.2.sem = fun _ => 0) :=
  θ_run_mono (run_at m ρ) fun r h => ⟨fun c => (h.1 c).2.2, h.2⟩

end Cert.ReferenceIdeal.Own

end
-- ==== Proof.Frames.lean ====
/- The frame claims of the printed kernel, of its idealization and of the reference, from the runs of KI/Run.lean and RI/Run.lean. -/
module

public import proofs.«01_k».proof.Defs
public import proofs.«01_k».proof.Proof.KI.Run
public import proofs.«01_k».proof.Proof.RI.Run
public import proofs.«01_k».proof.Proof.Gen.Kernel

@[expose] public section

noncomputable section

namespace Cert.Own

open Idealize.ShloMosaic Idealize.SL.Sem

attribute [local instance] Cert.Kernel.Gen.facts Cert.KernelIdeal.Gen.facts Cert.ReferenceIdeal.Gen.facts

/-- The frame of the idealized program's text, read over machine floats. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩
      (fun r => (∀ c : Dev Cert.KernelIdeal.nD, Cert.KernelIdeal.Own.kept m c r.2.mem) ∧ r.2.sem = fun _ => 0)

/-- The printed kernel and its idealization are one text: no rule rewrote anything. -/
theorem frame_texts : Cert.quiescent_Kernel = FrameAtBits := by chain_rfl

/-- The frame of the printed kernel. -/
theorem frameK : Cert.quiescent_Kernel := frame_texts.mpr fun m g _ => Cert.KernelIdeal.Own.frame (F := Bits) m g

/-- The frame of the idealized kernel. -/
theorem frameKI : Cert.quiescent_KernelIdeal := fun m g _ => Cert.KernelIdeal.Own.frame (F := Ideal) m g

/-- The frame of the idealized reference. -/
theorem frameRI : Cert.quiescent_ReferenceIdeal := fun m g _ => Cert.ReferenceIdeal.Own.frame (F := Ideal) m g

end Cert.Own

end
-- ==== Proof.Val.Spec.lean ====
/- One direction of the layer over the extended reals, written on plain functions, and that the reference's recursion is it. -/
module

public import proofs.«01_k».proof.Proof.RI.Steps
public import Idealize.ShloMosaic.PureOps.Ideal
public import Idealize.ShloMosaic.PureOps.Ideal.Laws
public import Idealize.ShloMosaic.Lib.IdealHost
public import Idealize.ShloMosaic.Lib.ValueIdx
public import Idealize.ShloMosaic.Lib.Pointwise
public import Idealize.ShloMosaic.Lib.DynamicIndex

@[expose] public section

noncomputable section

open scoped BigOperators

namespace Cert.Val

open Idealize.ShloMosaic

/-- The weights of one direction and its rows, on plain indices. -/
structure Dir where
  W : Fin 100 → Fin 400 → EReal
  U : Fin 100 → Fin 400 → EReal
  b : Fin 400 → EReal
  x : ℕ → Fin 100 → EReal

/-- Column `q` of gate `g`. -/
def col (g : Fin 4) (q : Fin 100) : Fin 400 := ⟨g.val * 100 + q.val, by have := g.isLt; have := q.isLt; omega⟩

/-- The gates before their activations, of row `k` and a hidden state `h`. -/
def gate (D : Dir) (k : ℕ) (h : Fin 100 → EReal) (j : Fin 400) : EReal :=
  ((∑ i, D.x k i * D.W i j) + ∑ i, h i * D.U i j) + D.b j

/-- The new cell state and the new hidden state, of the gates. -/
def cell (z : Fin 400 → EReal) (c : Fin 100 → EReal) (q : Fin 100) : EReal :=
  Ideal.logistic (z (col 1 q)) * c q + Ideal.logistic (z (col 0 q)) * Ideal.tanh (z (col 2 q))
/-- The new hidden state. -/
def hide (z : Fin 400 → EReal) (c : Fin 100 → EReal) (q : Fin 100) : EReal :=
  Ideal.logistic (z (col 3 q)) * Ideal.tanh (c q)

/-- The hidden and the cell state before row `k`, from zeros. -/
def state (D : Dir) : ℕ → (Fin 100 → EReal) × (Fin 100 → EReal)
  | 0 => (fun _ => 0, fun _ => 0)
  | k + 1 =>
    let z := gate D k (state D k).1
    (hide z (cell z (state D k).2), cell z (state D k).2)

end Cert.Val

namespace Cert.ReferenceIdeal.Own

open Idealize.ShloMosaic
open Idealize.ShloMosaic.ValueIdx (contrEquiv1 contrEquiv1_symm_val broadcastInDim_scalar_apply)
open Cert.ReferenceIdeal.Gen Cert.Val

/-- The host's product of a row and the weights, at a column. -/
theorem dot_apply (x : V100 Ideal) (W : M400 Ideal) (j : Fin 400) :
    Host.dotGeneral (F := Ideal) (φ₁ := .f32) (φ₂ := .f32) dot_S100_S100x400_S400_0_0_n_1_n_n none x W (ix1 j) = ∑ i : Fin 100, x (ix1 i) * W (ix2 i j) := by
  set D := dot_S100_S100x400_S400_0_0_n_1_n_n with hD
  have hr : D.contr.rank = 1 := rfl
  have hs : D.contr.size ⟨0, by omega⟩ = 100 := rfl
  refine (Ideal.dotGeneral_apply D none _ x W (ix1 j)).trans ?_
  rw [← Equiv.sum_comp (contrEquiv1 D 100 hr hs).symm]
  refine Finset.sum_congr rfl fun k _ => ?_
  have hk := contrEquiv1_symm_val D 100 hr hs k
  have el : D.lhsIdx (ix1 j) ((contrEquiv1 D 100 hr hs).symm k) = ix1 k := by
    funext a; apply Fin.ext
    match a with
    | ⟨0, _⟩ => exact hk
  have er : D.rhsIdx (ix1 j) ((contrEquiv1 D 100 hr hs).symm k) = ix2 k j := by
    funext a; apply Fin.ext
    match a with
    | ⟨0, _⟩ => exact hk
    | ⟨1, _⟩ => rfl
  rw [el, er]

/-- The gates before their activations. -/
theorem zR_apply (W U : M400 Ideal) (b : V400 Ideal) (x h : V100 Ideal) (j : Fin 400) :
    zR W U b x h (ix1 j) = ((∑ i : Fin 100, x (ix1 i) * W (ix2 i j)) + ∑ i : Fin 100, h (ix1 i) * U (ix2 i j)) + b (ix1 j) := by
  rw [← dot_apply, ← dot_apply]; rfl

/-- The reference's negate, exponential, add and divide are the logistic function. -/
theorem sgR_apply (v : V100 Ideal) (j : S100.Idx) : sgR v j = Ideal.logistic (v j) := by
  have h1 : (broadcastInDim S100 ![] bcast_S_S100 (constant (F := Ideal) S_ .f32 0x3F800000#32)) j = (1 : EReal) :=
    (broadcastInDim_scalar_apply _ _ _).trans Ideal.ofBits_one_f32
  show Ideal.div ((broadcastInDim S100 ![] bcast_S_S100 (constant (F := Ideal) S_ .f32 0x3F800000#32)) j)
    ((broadcastInDim S100 ![] bcast_S_S100 (constant (F := Ideal) S_ .f32 0x3F800000#32)) j + Ideal.exp (-(v j))) = _
  rw [h1]; rfl

/-- A gate's slice at a column. -/
theorem gate_slice (z : V400 Ideal) (o : ℕ) (h : S400.Slices ![o] S100) (q : Fin 100) (g : Fin 4) (hg : o = g.val * 100) :
    extractStridedSlice S100 ![o] z h (ix1 q) = z (ix1 (col g q)) := by
  refine congrArg z (funext fun a => Fin.ext ?_)
  match a with
  | ⟨0, _⟩ => show o + q.val = g.val * 100 + q.val; rw [hg]

/-- The reference's new cell state at a column. -/
theorem cR_apply (z : V400 Ideal) (c : V100 Ideal) (q : Fin 100) : cR z c (ix1 q) = cell (fun j => z (ix1 j)) (fun q => c (ix1 q)) q := by
  show sgR (F := Ideal) _ (ix1 q) * c (ix1 q) + sgR (F := Ideal) _ (ix1 q) * Ideal.tanh (extractStridedSlice S100 ![200] z slices_S400_S100_200 (ix1 q)) = _
  rw [sgR_apply, sgR_apply, gate_slice z 100 _ q 1 rfl, gate_slice z 0 _ q 0 rfl, gate_slice z 200 _ q 2 rfl]; rfl

/-- The reference's new hidden state at a column. -/
theorem hR_apply (z : V400 Ideal) (c : V100 Ideal) (q : Fin 100) : hR z c (ix1 q) = hide (fun j => z (ix1 j)) (fun q => c (ix1 q)) q := by
  show sgR (F := Ideal) _ (ix1 q) * Ideal.tanh (c (ix1 q)) = _
  rw [sgR_apply, gate_slice z 300 _ q 3 rfl]; rfl

variable {n : ℕ}

/-- The offset that the counter names. -/
theorem offOf_eq (k : ℕ) (hk : k < 2 ^ 31) : offOf (iW Ideal k) = fun a => ((![k, 0] : Fin 2 → ℕ) a : ℤ) := by
  have hi : Scf.iv 0#32 1#32 k = BitVec.ofNat 32 k := by simp [Scf.iv]
  funext a
  unfold offOf
  match a with
  | ⟨0, _⟩ =>
    show (Scf.iv 0#32 1#32 k).toInt = (k : ℤ)
    rw [hi]; exact toInt_ofNat_of_lt hk
  | ⟨1, _⟩ => rfl

/-- The row at `k` lies within the sequence. -/
theorem fitAt (k : Fin n) : (Sn n).Slices ![k.val, 0] S1x100 := ⟨rfl, fun a => by
  match a with
  | ⟨0, _⟩ => exact k.isLt
  | ⟨1, _⟩ => exact Nat.le_refl 100⟩

/-- The row the counter names. -/
theorem rowAt_apply (fit : (Sn n).Slices (fun _ => 0) S1x100) (X : Seq Ideal n) (k : Fin n) (hn : n < 2 ^ 31) (i : Fin 100) :
    rowAt fit X (iW Ideal k.val) (ix1 i) = X (ix2 k i) := by
  unfold rowAt
  rw [offOf_eq k.val (by have := k.isLt; omega), Host.dynamicSlice_eq_extractStridedSlice S1x100 X _ ![k.val, 0] fit (fitAt k) fun _ => rfl]
  refine (shapeCast_dropUnit_apply ![100] _ _ (ix1 i)).trans (congrArg X (funext fun a => Fin.ext ?_))
  match a with
  | ⟨0, _⟩ => exact Nat.add_zero _
  | ⟨1, _⟩ => exact Nat.zero_add _

/-- The rows with one replaced, at an element. -/
theorem putAt_apply (fit : (Sn n).Slices (fun _ => 0) S1x100) (Y : Seq Ideal n) (h : V100 Ideal) (k : Fin n) (hn : n < 2 ^ 31) (r : Fin n) (q : Fin 100) :
    putAt fit Y h (iW Ideal k.val) (ix2 r q) = if r = k then h (ix1 q) else Y (ix2 r q) := by
  unfold putAt
  rw [offOf_eq k.val (by have := k.isLt; omega), Host.dynamicUpdateSlice_eq_updateSlice Y _ _ fit ![k.val, 0] (fun a => ?_) (fitAt k), updateSlice]
  · split
    · next hin =>
      have h0 := hin 0
      have e : r = k := Fin.ext (by
        have : k.val ≤ r.val ∧ r.val < k.val + 1 := h0
        omega)
      rw [if_pos e]
      refine congrArg h (funext fun a => Fin.ext ?_)
      match a with
      | ⟨0, _⟩ => exact Nat.sub_zero _
    · next hin =>
      rw [if_neg]
      intro e
      subst e
      refine hin fun a => ?_
      match a with
      | ⟨0, _⟩ => exact ⟨le_rfl, Nat.lt_succ_self _⟩
      | ⟨1, _⟩ => exact ⟨Nat.zero_le _, by show q.val < 0 + 100; have := q.isLt; omega⟩
  · match a with
    | ⟨0, _⟩ =>
      show (min (max (k.val : ℤ) 0) ((n - 1 : ℕ) : ℤ)).toNat = k.val
      have := k.isLt
      omega
    | ⟨1, _⟩ => rfl

/-- A direction's weights and rows, of arrays. -/
def dirOf (W U : M400 Ideal) (b : V400 Ideal) (x : ℕ → Fin 100 → EReal) : Dir :=
  ⟨fun i j => W (ix2 i j), fun i j => U (ix2 i j), fun j => b (ix1 j), x⟩

/-- The reference's states are the recursion's. -/
theorem stR_state (fit : (Sn n).Slices (fun _ => 0) S1x100) (hn : n < 2 ^ 31) (W U : M400 Ideal) (b : V400 Ideal) (X : Seq Ideal n) (x : ℕ → Fin 100 → EReal)
    (hx : ∀ (k : Fin n) i, X (ix2 k i) = x k.val i) (s : V100 Ideal × V100 Ideal) (h0 : ∀ j, s.1 j = 0) (c0 : ∀ j, s.2 j = 0) :
    ∀ k ≤ n, (∀ q, (stR fit W U b X s k).1 (ix1 q) = (state (dirOf W U b x) k).1 q) ∧ ∀ q, (stR fit W U b X s k).2 (ix1 q) = (state (dirOf W U b x) k).2 q := by
  intro k
  induction k with
  | zero => exact fun _ => ⟨fun q => h0 _, fun q => c0 _⟩
  | succ k ih =>
    intro hk
    obtain ⟨ih1, ih2⟩ := ih (by omega)
    have hz : (fun j => zR W U b (rowAt fit X (iW Ideal k)) (stR fit W U b X s k).1 (ix1 j)) = gate (dirOf W U b x) k (state (dirOf W U b x) k).1 := by
      funext j
      rw [zR_apply]
      unfold gate
      simp only [ih1, fun i => (rowAt_apply fit X ⟨k, by omega⟩ hn i).trans (hx ⟨k, by omega⟩ i)]
      rfl
    have hc : (fun q => cR (zR W U b (rowAt fit X (iW Ideal k)) (stR fit W U b X s k).1) (stR fit W U b X s k).2 (ix1 q)) = (state (dirOf W U b x) (k + 1)).2 := by
      funext q
      rw [cR_apply, hz, show (fun q => (stR fit W U b X s k).2 (ix1 q)) = _ from funext ih2]
      rfl
    refine ⟨fun q => ?_, fun q => congrFun hc q⟩
    show hR _ (cR _ _) (ix1 q) = _
    rw [hR_apply, hz, hc]
    rfl

/-- The rows written: row `r` is the hidden state after `r + 1` rows once trip `r` is done. -/
theorem ysR_apply (fit : (Sn n).Slices (fun _ => 0) S1x100) (hn : n < 2 ^ 31) (W U : M400 Ideal) (b : V400 Ideal) (X : Seq Ideal n) (s : V100 Ideal × V100 Ideal) (Y : Seq Ideal n) :
    ∀ k ≤ n, ∀ (r : Fin n) (q : Fin 100), r.val < k → ysR fit W U b X s Y k (ix2 r q) = (stR fit W U b X s (r.val + 1)).1 (ix1 q) := by
  intro k
  induction k with
  | zero => intro _ r q h; exact absurd h (Nat.not_lt_zero _)
  | succ k ih =>
    intro hk r q h
    refine (putAt_apply fit _ _ ⟨k, by omega⟩ hn r q).trans ?_
    split
    · next e => rw [e]
    · next e => exact ih (by omega) r q (by
        have : r.val ≠ k := fun h => e (Fin.ext h)
        omega)

end Cert.ReferenceIdeal.Own

end
-- ==== Proof.Val.Pack.lean ====
/- How the kernel's host code packs its inputs: a block of rows or a gate's columns written into an array of zeros, read at an
   element. -/
module

public import proofs.«01_k».proof.Proof.Val.Spec
public import proofs.«01_k».proof.Proof.KI.Model
public import Idealize.ShloMosaic.Lib.Routing.OpsOne

@[expose] public section

noncomputable section

namespace Cert.KernelIdeal.Own

open Cert.KernelIdeal Cert.KernelIdeal.Gen
open Idealize.ShloMosaic
open Idealize.ShloMosaic.ValueIdx (broadcastInDim_scalar_apply)
open Cert.Val

attribute [local instance] Cert.KernelIdeal.Gen.facts

/-- An update that lands where no other does is what is read there. -/
theorem scatter_hit {α : Type} {R C w : ℕ} {si u : Shape} (d : ScatterDims ⟨2, ![R, C]⟩ si u) (x : (⟨2, ![R, C]⟩ : Shape).Idx → α) (idx : IVec si w) (upd : u.Idx → α)
    (r : Fin R) (c : Fin C) (k : u.Idx) (h0 : d.start k idx 0 + (d.window k 0 : ℤ) = r.val) (h1 : d.start k idx 1 + (d.window k 1 : ℤ) = c.val)
    (one : ∀ k', d.start k' idx 0 + (d.window k' 0 : ℤ) = r.val → d.start k' idx 1 + (d.window k' 1 : ℤ) = c.val → k' = k) :
    Host.scatter d (fun _ b => b) x idx upd (ix2 r c) = upd k := by
  have e := Routing.resultIdx?_ix2 d (idx := idx) (r := r) (c := c)
  exact Routing.scatter_set_hit d x idx upd _ _ (fun k' hk' => congrArg upd (one k' ((e k').1 hk').1 ((e k').1 hk').2)) k ((e k).2 ⟨h0, h1⟩)

/-- Where no update lands the operand is read. -/
theorem scatter_miss {α : Type} {R C w : ℕ} {si u : Shape} (d : ScatterDims ⟨2, ![R, C]⟩ si u) (x : (⟨2, ![R, C]⟩ : Shape).Idx → α) (idx : IVec si w) (upd : u.Idx → α)
    (r : Fin R) (c : Fin C)
    (no : ∀ k', ¬ (d.start k' idx 0 + (d.window k' 0 : ℤ) = r.val ∧ d.start k' idx 1 + (d.window k' 1 : ℤ) = c.val)) :
    Host.scatter d (fun _ b => b) x idx upd (ix2 r c) = x (ix2 r c) :=
  Routing.scatter_set_miss d x idx upd _ fun k hk => no k ((Routing.resultIdx?_ix2 d k idx r c).1 hk)

/-- A block written at row 0 and lane `o`, read at an element inside it and at one outside. -/
theorem block_hit {α : Type} {R C A B w : ℕ} {si : Shape} (d : ScatterDims ⟨2, ![R, C]⟩ si ⟨2, ![A, B]⟩) (x : (⟨2, ![R, C]⟩ : Shape).Idx → α) (idx : IVec si w)
    (upd : (⟨2, ![A, B]⟩ : Shape).Idx → α) (o : ℕ) (h0 : ∀ k, d.start k idx 0 + (d.window k 0 : ℤ) = (k 0).val)
    (h1 : ∀ k, d.start k idx 1 + (d.window k 1 : ℤ) = o + (k 1).val) (r : Fin R) (c : Fin C) (i : Fin A) (j : Fin B) (hr : r.val = i.val) (hc : c.val = o + j.val) :
    Host.scatter d (fun _ b => b) x idx upd (ix2 r c) = upd (ix2 i j) := by
  refine scatter_hit d x idx upd r c (ix2 i j) ?_ ?_ fun k' e0 e1 => ?_
  · rw [h0, hr]; rfl
  · rw [h1, hc]; push_cast; rfl
  · rw [h0] at e0; rw [h1] at e1
    funext a; apply Fin.ext
    match a with
    | ⟨0, _⟩ => show (k' 0).val = i.val; omega
    | ⟨1, _⟩ => show (k' 1).val = j.val; omega

/-- A block written elsewhere leaves the element. -/
theorem block_miss {α : Type} {R C A B w : ℕ} {si : Shape} (d : ScatterDims ⟨2, ![R, C]⟩ si ⟨2, ![A, B]⟩) (x : (⟨2, ![R, C]⟩ : Shape).Idx → α) (idx : IVec si w)
    (upd : (⟨2, ![A, B]⟩ : Shape).Idx → α) (o : ℕ) (h0 : ∀ k, d.start k idx 0 + (d.window k 0 : ℤ) = (k 0).val)
    (h1 : ∀ k, d.start k idx 1 + (d.window k 1 : ℤ) = o + (k 1).val) (r : Fin R) (c : Fin C) (h : A ≤ r.val ∨ c.val < o ∨ o + B ≤ c.val) :
    Host.scatter d (fun _ b => b) x idx upd (ix2 r c) = x (ix2 r c) := by
  refine scatter_miss d x idx upd r c fun k' ⟨e0, e1⟩ => ?_
  rw [h0] at e0; rw [h1] at e1
  have a0 : (k' 0).val < A := (k' 0).isLt
  have a1 : (k' 1).val < B := (k' 1).isLt
  omega

/-- A vector written into the one row at lane `o`, read inside it and outside. -/
theorem line_hit {α : Type} {C B w : ℕ} {si : Shape} (d : ScatterDims ⟨2, ![1, C]⟩ si ⟨1, ![B]⟩) (x : (⟨2, ![1, C]⟩ : Shape).Idx → α) (idx : IVec si w)
    (upd : (⟨1, ![B]⟩ : Shape).Idx → α) (o : ℕ) (h0 : ∀ k, d.start k idx 0 + (d.window k 0 : ℤ) = 0)
    (h1 : ∀ k, d.start k idx 1 + (d.window k 1 : ℤ) = o + (k 0).val) (c : Fin C) (j : Fin B) (hc : c.val = o + j.val) :
    Host.scatter d (fun _ b => b) x idx upd (ix2 0 c) = upd (ix1 j) := by
  refine scatter_hit d x idx upd 0 c (ix1 j) ?_ ?_ fun k' e0 e1 => ?_
  · rw [h0]; rfl
  · rw [h1, hc]; push_cast; rfl
  · rw [h1] at e1
    funext a; apply Fin.ext
    match a with
    | ⟨0, _⟩ => show (k' 0).val = j.val; omega

/-- A line written elsewhere leaves the element. -/
theorem line_miss {α : Type} {C B w : ℕ} {si : Shape} (d : ScatterDims ⟨2, ![1, C]⟩ si ⟨1, ![B]⟩) (x : (⟨2, ![1, C]⟩ : Shape).Idx → α) (idx : IVec si w)
    (upd : (⟨1, ![B]⟩ : Shape).Idx → α) (o : ℕ)
    (h1 : ∀ k, d.start k idx 1 + (d.window k 1 : ℤ) = o + (k 0).val) (c : Fin C) (h : c.val < o ∨ o + B ≤ c.val) :
    Host.scatter d (fun _ b => b) x idx upd (ix2 0 c) = x (ix2 0 c) := by
  refine scatter_miss d x idx upd 0 c fun k' ⟨e0, e1⟩ => ?_
  rw [h1] at e1
  have a1 : (k' 0).val < B := (k' 0).isLt
  omega

/-- The pair of index words (0, `o`) that the host code builds. -/
abbrev wordPair (o : BitVec 32) : IVec S2 32 :=
  concatenate S2 0 [⟨S1, broadcastInDim S1 ![] bcast_S_S1 (constantI S_ 32 0#32)⟩, ⟨S1, broadcastInDim S1 ![] bcast_S_S1 (constantI S_ 32 o)⟩] concatenates_S1_S1_S2_d0

/-- The first word is zero. -/
theorem wordPair_zero (o : BitVec 32) : wordPair o (ix1 (0 : Fin 2)) = 0#32 := rfl
/-- The second word is the lane. -/
theorem wordPair_one (o : BitVec 32) : wordPair o (ix1 (1 : Fin 2)) = o := rfl

/-- A 100×100 block written into 128×512 at row 0, lane `o`. -/
abbrev putGate (o : BitVec 32) (x : S128x512.Idx → Ideal .f32) (u : S100x100.Idx → Ideal .f32) : S128x512.Idx → Ideal .f32 :=
  Host.scatter scatter_S128x512_S2_S100x100_01_n_01_0 (fun _ b => b) x (wordPair o) u

/-- 100 entries written into 1×512 at lane `o`. -/
abbrev putBias (o : BitVec 32) (x : S1x512.Idx → Ideal .f32) (u : S100.Idx → Ideal .f32) : S1x512.Idx → Ideal .f32 :=
  Host.scatter scatter_S1x512_S2_S100_0_0_01_0 (fun _ b => b) x (wordPair o) u

/-- A gate's element lands at its own row. -/
theorem gate_start0 (o : BitVec 32) (k : S100x100.Idx) :
    scatter_S128x512_S2_S100x100_01_n_01_0.start k (wordPair o) 0 + (scatter_S128x512_S2_S100x100_01_n_01_0.window k 0 : ℤ) = (k 0).val := by
  rw [Routing.start_pair scatter_S128x512_S2_S100x100_01_n_01_0 rfl rfl]
  exact Int.zero_add _
/-- A gate's element lands at its own column past the first lane. -/
theorem gate_start1 (o : BitVec 32) (k : S100x100.Idx) :
    scatter_S128x512_S2_S100x100_01_n_01_0.start k (wordPair o) 1 + (scatter_S128x512_S2_S100x100_01_n_01_0.window k 1 : ℤ) = o.toInt + (k 1).val := by
  rw [Routing.start_pair scatter_S128x512_S2_S100x100_01_n_01_0 rfl rfl]
  rfl
/-- A bias' entry lands at row 0. -/
theorem bias_start0 (o : BitVec 32) (k : S100.Idx) :
    scatter_S1x512_S2_S100_0_0_01_0.start k (wordPair o) 0 + (scatter_S1x512_S2_S100_0_0_01_0.window k 0 : ℤ) = 0 := by
  rw [Routing.start_pair scatter_S1x512_S2_S100_0_0_01_0 rfl rfl]
  rfl
/-- A bias' entry lands at its own place past the first lane. -/
theorem bias_start1 (o : BitVec 32) (k : S100.Idx) :
    scatter_S1x512_S2_S100_0_0_01_0.start k (wordPair o) 1 + (scatter_S1x512_S2_S100_0_0_01_0.window k 1 : ℤ) = o.toInt + (k 0).val := by
  rw [Routing.start_pair scatter_S1x512_S2_S100_0_0_01_0 rfl rfl]
  rfl

/-- A weight matrix as the kernel is given it: each gate's 100 columns at the start of a group of 128 lanes, the other lanes and the rows past 100 zero. -/
def packW (W : S100x400.Idx → Ideal .f32) : S128x512.Idx → Ideal .f32 :=
  putGate 384#32 (putGate 256#32 (putGate 128#32 (putGate 0#32 (broadcastInDim S128x512 ![] bcast_S_S128x512 (constant S_ .f32 0x00000000#32))
    (extractStridedSlice S100x100 ![0, 0] W slices_S100x400_S100x100_0_0)) (extractStridedSlice S100x100 ![0, 100] W slices_S100x400_S100x100_0_100))
    (extractStridedSlice S100x100 ![0, 200] W slices_S100x400_S100x100_0_200)) (extractStridedSlice S100x100 ![0, 300] W slices_S100x400_S100x100_0_300)

/-- A bias as the kernel is given it. -/
def packB (b : S400.Idx → Ideal .f32) : S1x512.Idx → Ideal .f32 :=
  putBias 384#32 (putBias 256#32 (putBias 128#32 (putBias 0#32 (broadcastInDim S1x512 ![] bcast_S_S1x512 (constant S_ .f32 0x00000000#32))
    (extractStridedSlice S100 ![0] b slices_S400_S100_0)) (extractStridedSlice S100 ![100] b slices_S400_S100_100))
    (extractStridedSlice S100 ![200] b slices_S400_S100_200)) (extractStridedSlice S100 ![300] b slices_S400_S100_300)

/-- Lane `q` of gate `g`'s group. -/
def lane (g : Fin 4) (q : Fin 100) : Fin 512 := ⟨g.val * 128 + q.val, by have := g.isLt; have := q.isLt; omega⟩

/-- One gate's block among the rest. -/
theorem putGate_hit (o : BitVec 32) (n : ℕ) (ho : o.toInt = n) (x : S128x512.Idx → Ideal .f32) (u : S100x100.Idx → Ideal .f32) (r : Fin 128) (c : Fin 512) (i q : Fin 100)
    (hr : r.val = i.val) (hc : c.val = n + q.val) : putGate o x u (ix2 r c) = u (ix2 i q) :=
  block_hit _ x _ u n (gate_start0 o) (fun k => (gate_start1 o k).trans (by rw [ho])) r c i q hr hc
/-- Outside the block a gate's write leaves the element. -/
theorem putGate_miss (o : BitVec 32) (n : ℕ) (ho : o.toInt = n) (x : S128x512.Idx → Ideal .f32) (u : S100x100.Idx → Ideal .f32) (r : Fin 128) (c : Fin 512)
    (h : 100 ≤ r.val ∨ c.val < n ∨ n + 100 ≤ c.val) : putGate o x u (ix2 r c) = x (ix2 r c) :=
  block_miss _ x _ u n (gate_start0 o) (fun k => (gate_start1 o k).trans (by rw [ho])) r c h
/-- Inside the line a bias' write gives the entry. -/
theorem putBias_hit (o : BitVec 32) (n : ℕ) (ho : o.toInt = n) (x : S1x512.Idx → Ideal .f32) (u : S100.Idx → Ideal .f32) (c : Fin 512) (q : Fin 100)
    (hc : c.val = n + q.val) : putBias o x u (ix2 0 c) = u (ix1 q) :=
  line_hit _ x _ u n (bias_start0 o) (fun k => (bias_start1 o k).trans (by rw [ho])) c q hc
/-- Outside the line a bias' write leaves the element. -/
theorem putBias_miss (o : BitVec 32) (n : ℕ) (ho : o.toInt = n) (x : S1x512.Idx → Ideal .f32) (u : S100.Idx → Ideal .f32) (c : Fin 512)
    (h : c.val < n ∨ n + 100 ≤ c.val) : putBias o x u (ix2 0 c) = x (ix2 0 c) :=
  line_miss _ x _ u n (fun k => (bias_start1 o k).trans (by rw [ho])) c h

/-- A gate's columns sliced out of a weight matrix. -/
theorem sliceW (W : S100x400.Idx → Ideal .f32) (n : ℕ) (h : S100x400.Slices ![0, n] S100x100) (g : Fin 4) (hn : n = g.val * 100) (i q : Fin 100) :
    extractStridedSlice S100x100 ![0, n] W h (ix2 i q) = W (ix2 i (col g q)) := by
  refine congrArg W (funext fun a => Fin.ext ?_)
  match a with
  | ⟨0, _⟩ => exact Nat.zero_add _
  | ⟨1, _⟩ => show n + q.val = g.val * 100 + q.val; rw [hn]
/-- A gate's entries sliced out of a bias. -/
theorem sliceB (b : S400.Idx → Ideal .f32) (n : ℕ) (h : S400.Slices ![n] S100) (g : Fin 4) (hn : n = g.val * 100) (q : Fin 100) :
    extractStridedSlice S100 ![n] b h (ix1 q) = b (ix1 (col g q)) := by
  refine congrArg b (funext fun a => Fin.ext ?_)
  match a with
  | ⟨0, _⟩ => show n + q.val = g.val * 100 + q.val; rw [hn]

/-- A packed weight matrix on a lane that holds data. -/
theorem packW_apply (W : S100x400.Idx → Ideal .f32) (i : Fin 128) (i' : Fin 100) (hi : i.val = i'.val) (g : Fin 4) (q : Fin 100) :
    packW W (ix2 i (lane g q)) = W (ix2 i' (col g q)) := by
  have hq := q.isLt
  match g with
  | ⟨0, _⟩ =>
    refine (putGate_miss 384#32 384 rfl _ _ i _ ?_).trans ((putGate_miss 256#32 256 rfl _ _ i _ ?_).trans ((putGate_miss 128#32 128 rfl _ _ i _ ?_).trans
      ((putGate_hit 0#32 0 rfl _ _ i _ i' q hi ?_).trans (sliceW W 0 _ 0 rfl i' q)))) <;> (simp only [lane] <;> omega)
  | ⟨1, _⟩ =>
    refine (putGate_miss 384#32 384 rfl _ _ i _ ?_).trans ((putGate_miss 256#32 256 rfl _ _ i _ ?_).trans
      ((putGate_hit 128#32 128 rfl _ _ i _ i' q hi ?_).trans (sliceW W 100 _ 1 rfl i' q))) <;> (simp only [lane] <;> omega)
  | ⟨2, _⟩ =>
    refine (putGate_miss 384#32 384 rfl _ _ i _ ?_).trans
      ((putGate_hit 256#32 256 rfl _ _ i _ i' q hi ?_).trans (sliceW W 200 _ 2 rfl i' q)) <;> (simp only [lane] <;> omega)
  | ⟨3, _⟩ =>
    refine (putGate_hit 384#32 384 rfl _ _ i _ i' q hi ?_).trans (sliceW W 300 _ 3 rfl i' q) ; (simp only [lane])

/-- The rows past 100 are zero. -/
theorem packW_zero (W : S100x400.Idx → Ideal .f32) (i : Fin 128) (hi : 100 ≤ i.val) (c : Fin 512) : packW W (ix2 i c) = (0 : EReal) :=
  (putGate_miss 384#32 384 rfl _ _ i c (.inl hi)).trans ((putGate_miss 256#32 256 rfl _ _ i c (.inl hi)).trans ((putGate_miss 128#32 128 rfl _ _ i c (.inl hi)).trans
    ((putGate_miss 0#32 0 rfl _ _ i c (.inl hi)).trans ((broadcastInDim_scalar_apply _ _ _).trans Ideal.ofBits_zero_f32))))

/-- A packed bias on a lane that holds data. -/
theorem packB_apply (b : S400.Idx → Ideal .f32) (g : Fin 4) (q : Fin 100) : packB b (ix2 0 (lane g q)) = b (ix1 (col g q)) := by
  have hq := q.isLt
  match g with
  | ⟨0, _⟩ =>
    refine (putBias_miss 384#32 384 rfl _ _ _ ?_).trans ((putBias_miss 256#32 256 rfl _ _ _ ?_).trans ((putBias_miss 128#32 128 rfl _ _ _ ?_).trans
      ((putBias_hit 0#32 0 rfl _ _ _ q ?_).trans (sliceB b 0 _ 0 rfl q)))) <;> (simp only [lane] <;> omega)
  | ⟨1, _⟩ =>
    refine (putBias_miss 384#32 384 rfl _ _ _ ?_).trans ((putBias_miss 256#32 256 rfl _ _ _ ?_).trans
      ((putBias_hit 128#32 128 rfl _ _ _ q ?_).trans (sliceB b 100 _ 1 rfl q))) <;> (simp only [lane] <;> omega)
  | ⟨2, _⟩ =>
    refine (putBias_miss 384#32 384 rfl _ _ _ ?_).trans
      ((putBias_hit 256#32 256 rfl _ _ _ q ?_).trans (sliceB b 200 _ 2 rfl q)) <;> (simp only [lane] <;> omega)
  | ⟨3, _⟩ =>
    refine (putBias_hit 384#32 384 rfl _ _ _ q ?_).trans (sliceB b 300 _ 3 rfl q) ; (simp only [lane])

/-- A sequence of `n` rows as the kernel is given it: 100 lanes of data, then zeros. -/
def padC (x : S4096x100.Idx → Ideal .f32) : S4096x128.Idx → Ideal .f32 :=
  Host.scatter scatter_S4096x128_S1_S4096x100_01_n_1_0 (fun _ b => b) (broadcastInDim S4096x128 ![] bcast_S_S4096x128 (constant S_ .f32 0x00000000#32))
    (broadcastInDim S1 ![] bcast_S_S1 (constantI S_ 32 0#32)) x
/-- The query's rows as the kernel is given them. -/
def padQ (x : S200x100.Idx → Ideal .f32) : S200x128.Idx → Ideal .f32 :=
  Host.scatter scatter_S200x128_S1_S200x100_01_n_1_0 (fun _ b => b) (broadcastInDim S200x128 ![] bcast_S_S200x128 (constant S_ .f32 0x00000000#32))
    (broadcastInDim S1 ![] bcast_S_S1 (constantI S_ 32 0#32)) x

/-- A padded row on a lane that holds data. -/
theorem padC_apply (x : S4096x100.Idx → Ideal .f32) (r : Fin 4096) (c : Fin 128) (i : Fin 100) (h : c.val = i.val) : padC x (ix2 r c) = x (ix2 r i) :=
  block_hit scatter_S4096x128_S1_S4096x100_01_n_1_0 _ _ x 0 (fun _ => Int.zero_add _) (fun _ => rfl) r c r i rfl (by omega)
/-- A padded row on a lane that holds data. -/
theorem padQ_apply (x : S200x100.Idx → Ideal .f32) (r : Fin 200) (c : Fin 128) (i : Fin 100) (h : c.val = i.val) : padQ x (ix2 r c) = x (ix2 r i) :=
  block_hit scatter_S200x128_S1_S200x100_01_n_1_0 _ _ x 0 (fun _ => Int.zero_add _) (fun _ => rfl) r c r i rfl (by omega)

/-- Over a weight matrix's packed rows only the first 100 lanes count. -/
theorem sum_pack (v : Fin 128 → EReal) (x : Fin 100 → EReal) (W : S100x400.Idx → Ideal .f32) (g : Fin 4) (q : Fin 100)
    (h : ∀ (i : Fin 128) (i' : Fin 100), i.val = i'.val → v i = x i') :
    ∑ i, v i * packW W (ix2 i (lane g q)) = ∑ i, x i * W (ix2 i (col g q)) := by
  rw [show (∑ i, v i * packW W (ix2 i (lane g q))) = _ from Fin.sum_univ_add (a := 100) (b := 28) fun i => v i * packW W (ix2 i (lane g q))]
  have z : ∑ i : Fin 28, v (Fin.natAdd 100 i) * packW W (ix2 (Fin.natAdd 100 i) (lane g q)) = 0 :=
    Finset.sum_eq_zero fun i _ => by rw [packW_zero W _ (Nat.le_add_right 100 i.val), mul_zero]
  rw [z, add_zero]
  exact Finset.sum_congr rfl fun i _ => by rw [h _ i rfl, packW_apply W _ i rfl]

end Cert.KernelIdeal.Own

end
-- ==== Proof.Val.Rec.lean ====
/- The kernel's recursion over the extended reals: on the lanes that hold data it is the layer's recursion. -/
module

public import proofs.«01_k».proof.Proof.Val.Pack
public import Idealize.ShloMosaic.Lib.MatmulPlain

@[expose] public section

noncomputable section

open scoped BigOperators

namespace Cert.KernelIdeal.Own

open Cert.KernelIdeal Cert.KernelIdeal.Gen
open Idealize.ShloMosaic
open Cert.Val
open Cert.ReferenceIdeal.Own (dirOf)

attribute [local instance] Cert.KernelIdeal.Gen.facts

/-- Lane `q` of the 128 that hold a state. -/
def wide (q : Fin 100) : Fin 128 := ⟨q.val, by have := q.isLt; omega⟩

/-- A gate's group of 128 lanes sliced out of a row, at a lane. -/
theorem slice_lane (z : S1x512.Idx → Ideal .f32) (n : ℕ) (h : S1x512.Slices ![0, n] S1x128) (g : Fin 4) (hn : n = g.val * 128) (q : Fin 100) :
    extractStridedSlice S1x128 ![0, n] z h (ix2 0 (wide q)) = z (ix2 0 (lane g q)) := by
  refine congrArg z (funext fun a => Fin.ext ?_)
  match a with
  | ⟨0, _⟩ => rfl
  | ⟨1, _⟩ => show n + q.val = g.val * 128 + q.val; rw [hn]

/-- A product onto zeros, at an element. -/
theorem mul0_apply {M K N : ℕ} {φ₁ φ₂ : FTy} (lhs : FVec Ideal ⟨2, ![M, K]⟩ φ₁) (rhs : FVec Ideal ⟨2, ![K, N]⟩ φ₂) (r : Fin M) (c : Fin N) :
    FloatOps.matmul (F := Ideal) (DotDims.plain M K N) none lhs rhs (constant ⟨2, ![M, N]⟩ .f32 0x00000000#32) (ix2 r c) = ∑ k : Fin K, lhs (ix2 r k) * rhs (ix2 k c) :=
  (Ideal.matmul_plain_apply none lhs rhs _ r c).trans ((congrArg (· + _) Ideal.ofBits_zero_f32).trans (zero_add _))

/-- The new cell state at a lane, of gates `z` and cell state `c`. -/
theorem pay2_apply (cc : Vec Ideal S1x128 .f32) (r xw : Vec Ideal S1x512 .f32) (z : Fin 400 → EReal) (c : Fin 100 → EReal)
    (hz : ∀ g q, xw (ix2 0 (lane g q)) + r (ix2 0 (lane g q)) = z (col g q)) (hc : ∀ q, cc (ix2 0 (wide q)) = c q) (q : Fin 100) :
    k0_pay2 cc r xw (ix2 0 (wide q)) = cell z c q := by
  have s : ∀ (n : ℕ) (h : S1x512.Slices ![0, n] S1x128) (g : Fin 4) (hn : n = g.val * 128),
      extractStridedSlice S1x128 ![0, n] (k0_pay1 r xw) h (ix2 0 (wide q)) = z (col g q) := fun n h g hn => (slice_lane _ n h g hn q).trans (hz g q)
  show Ideal.logistic (extractStridedSlice S1x128 ![0, 128] (k0_pay1 r xw) slices_S1x512_o0_128_S1x128 (ix2 0 (wide q))) * cc (ix2 0 (wide q))
    + Ideal.logistic (extractStridedSlice S1x128 ![0, 0] (k0_pay1 r xw) slices_S1x512_o0_0_S1x128 (ix2 0 (wide q)))
      * Ideal.tanh (extractStridedSlice S1x128 ![0, 256] (k0_pay1 r xw) slices_S1x512_o0_256_S1x128 (ix2 0 (wide q))) = _
  rw [s 128 _ 1 rfl, s 0 _ 0 rfl, s 256 _ 2 rfl, hc]; rfl

/-- The new hidden state at a lane. -/
theorem pay3_apply (cc : Vec Ideal S1x128 .f32) (r xw : Vec Ideal S1x512 .f32) (z : Fin 400 → EReal) (c : Fin 100 → EReal)
    (hz : ∀ g q, xw (ix2 0 (lane g q)) + r (ix2 0 (lane g q)) = z (col g q)) (hc : ∀ q, cc (ix2 0 (wide q)) = c q) (q : Fin 100) :
    k0_pay3 cc r xw (ix2 0 (wide q)) = hide z (cell z c) q := by
  show Ideal.logistic (extractStridedSlice S1x128 ![0, 384] (k0_pay1 r xw) slices_S1x512_o0_384_S1x128 (ix2 0 (wide q))) * Ideal.tanh (k0_pay2 cc r xw (ix2 0 (wide q))) = _
  rw [pay2_apply cc r xw z c hz hc, show extractStridedSlice S1x128 ![0, 384] (k0_pay1 r xw) slices_S1x512_o0_384_S1x128 (ix2 0 (wide q)) = z (col 3 q) from
    (slice_lane _ 384 _ 3 rfl q).trans (hz 3 q)]; rfl

/-- The recurrent product of the new hidden state at a gate's lane. -/
theorem pay4_apply (cc : Vec Ideal S1x128 .f32) (r xw : Vec Ideal S1x512 .f32) (Up : Vec Ideal S128x512 .bf16) (U : S100x400.Idx → Ideal .f32) (hU : ∀ j, Up j = packW U j)
    (h : Fin 100 → EReal) (hh : ∀ q, k0_pay3 cc r xw (ix2 0 (wide q)) = h q) (g : Fin 4) (q : Fin 100) :
    k0_pay4 cc r xw Up (ix2 0 (lane g q)) = ∑ i, h i * U (ix2 i (col g q)) := by
  have e : k0_pay4 cc r xw Up = FloatOps.matmul (F := Ideal) (DotDims.plain 1 128 512) none (truncf .bf16 (k0_pay3 cc r xw) bitsLt_bf16_f32 : FVec Ideal S1x128 .bf16)
      (shapeCast S128x512 Up shapeCasts_S128x512_S128x512) (constant S1x512 .f32 0x00000000#32) := rfl
  rw [e, shapeCast_self]
  refine (mul0_apply (φ₁ := .bf16) (φ₂ := .bf16) _ _ 0 (lane g q)).trans (Eq.trans (Finset.sum_congr rfl fun i _ => ?_) (sum_pack (fun i => k0_pay3 cc r xw (ix2 0 i)) h U g q fun i i' e => ?_))
  · exact congrArg (_ * ·) (hU _)
  · rw [← hh i']; exact congrArg (fun t => k0_pay3 cc r xw (ix2 0 t)) (Fin.ext e)

/-- The carried pair before row `k` holds the layer's cell state and the recurrent product of its hidden state. -/
theorem chain_state (N : ℕ) (Up : Vec Ideal S128x512 .bf16) (W U : S100x400.Idx → Ideal .f32) (b : S400.Idx → Ideal .f32) (x : ℕ → Fin 100 → EReal)
    (hU : ∀ j, Up j = packW U j) (xw : ℕ → Vec Ideal S1x512 .f32)
    (hx : ∀ k < N, ∀ g q, xw k (ix2 0 (lane g q)) = (∑ i, x k i * W (ix2 i (col g q))) + b (ix1 (col g q))) :
    ∀ k ≤ N, (∀ q, (chain Up xw s0 k).1 (ix2 0 (wide q)) = (state (dirOf W U b x) k).2 q)
      ∧ ∀ g q, (chain Up xw s0 k).2 (ix2 0 (lane g q)) = ∑ i, (state (dirOf W U b x) k).1 i * U (ix2 i (col g q)) := by
  intro k
  induction k with
  | zero =>
    refine fun _ => ⟨fun q => ?_, fun g q => ?_⟩
    · exact Ideal.ofBits_zero_f32
    · exact Eq.trans Ideal.ofBits_zero_f32 (Finset.sum_eq_zero fun i _ => zero_mul _).symm
  | succ k ih =>
    intro hk
    obtain ⟨hc, hr⟩ := ih (by omega)
    have hz : ∀ g q, xw k (ix2 0 (lane g q)) + (chain Up xw s0 k).2 (ix2 0 (lane g q)) = gate (dirOf W U b x) k (state (dirOf W U b x) k).1 (col g q) := fun g q => by
      rw [hx k (by omega), hr]; exact add_right_comm _ _ _
    exact ⟨fun q => pay2_apply _ _ _ _ _ hz hc q, fun g q => pay4_apply _ _ _ Up U hU _ (fun q => pay3_apply _ _ _ _ _ hz hc q) g q⟩

/-- The hidden state stored at row `k` is the layer's after it. -/
theorem hid_state (N : ℕ) (Up : Vec Ideal S128x512 .bf16) (W U : S100x400.Idx → Ideal .f32) (b : S400.Idx → Ideal .f32) (x : ℕ → Fin 100 → EReal)
    (hU : ∀ j, Up j = packW U j) (xw : ℕ → Vec Ideal S1x512 .f32)
    (hx : ∀ k < N, ∀ g q, xw k (ix2 0 (lane g q)) = (∑ i, x k i * W (ix2 i (col g q))) + b (ix1 (col g q))) (k : ℕ) (hk : k < N) (q : Fin 100) :
    hid Up xw s0 k (ix2 0 (wide q)) = (state (dirOf W U b x) (k + 1)).1 q := by
  obtain ⟨hc, hr⟩ := chain_state N Up W U b x hU xw hx k hk.le
  exact pay3_apply _ _ _ _ _ (fun g q => by rw [hx k hk, hr]; exact add_right_comm _ _ _) hc q

/-- The input product of a block of 512 rows, or of 200, at a gate's lane. -/
theorem inputC (X : Vec Ideal S512x128 .f32) (Wp : Vec Ideal S128x512 .f32) (bp : Vec Ideal S1x512 .f32) (W : S100x400.Idx → Ideal .f32) (b : S400.Idx → Ideal .f32)
    (hW : ∀ j, Wp j = packW W j) (hb : ∀ j, bp j = packB b j) (x : Fin 512 → Fin 100 → EReal) (hX : ∀ r i, X (ix2 r (wide i)) = x r i) (r : Fin 512) (g : Fin 4) (q : Fin 100) :
    k0_pay17 X Wp bp (ix2 r (lane g q)) = (∑ i, x r i * W (ix2 i (col g q))) + b (ix1 (col g q)) := by
  have e : k0_pay17 X Wp bp = shapeCast S512x512 (addf (FloatOps.matmul (F := Ideal) (DotDims.plain 512 128 512) none (shapeCast S512x128 X shapeCasts_S512x128_S512x128)
      (shapeCast S128x512 Wp shapeCasts_S128x512_S128x512) (constant S512x512 .f32 0x00000000#32))
      (broadcastTo S512x512 (shapeCast S1x512 bp shapeCasts_S1x512_S1x512) broadcasts_S1x512_S512x512)) shapeCasts_S512x512_S512x512 := rfl
  rw [e, shapeCast_self, shapeCast_self, shapeCast_self, shapeCast_self]
  refine congrArg₂ (· + · : EReal → EReal → EReal) ?_ ?_
  · refine (mul0_apply (φ₁ := .f32) (φ₂ := .f32) _ _ r (lane g q)).trans (Eq.trans (Finset.sum_congr rfl fun i _ => ?_) (sum_pack (fun i => X (ix2 r i)) (x r) W g q fun i i' e => ?_))
    · exact congrArg (_ * ·) (hW _)
    · rw [← hX r i']; exact congrArg (fun t => X (ix2 r t)) (Fin.ext e)
  · refine (broadcastTo_apply bp broadcasts_S1x512_S512x512 (ix2 r (lane g q)) (ix2 0 (lane g q)) fun a => ?_).trans ((hb _).trans (packB_apply b g q))
    match a with
    | ⟨0, _⟩ => rfl
    | ⟨1, _⟩ => rfl
/-- The same of the query's 200 rows. -/
theorem inputQ (X : Vec Ideal S200x128 .f32) (Wp : Vec Ideal S128x512 .f32) (bp : Vec Ideal S1x512 .f32) (W : S100x400.Idx → Ideal .f32) (b : S400.Idx → Ideal .f32)
    (hW : ∀ j, Wp j = packW W j) (hb : ∀ j, bp j = packB b j) (x : Fin 200 → Fin 100 → EReal) (hX : ∀ r i, X (ix2 r (wide i)) = x r i) (r : Fin 200) (g : Fin 4) (q : Fin 100) :
    k1_pay17 X Wp bp (ix2 r (lane g q)) = (∑ i, x r i * W (ix2 i (col g q))) + b (ix1 (col g q)) := by
  have e : k1_pay17 X Wp bp = shapeCast S200x512 (addf (FloatOps.matmul (F := Ideal) (DotDims.plain 200 128 512) none (shapeCast S200x128 X shapeCasts_S200x128_S200x128)
      (shapeCast S128x512 Wp shapeCasts_S128x512_S128x512) (constant S200x512 .f32 0x00000000#32))
      (broadcastTo S200x512 (shapeCast S1x512 bp shapeCasts_S1x512_S1x512) broadcasts_S1x512_S200x512)) shapeCasts_S200x512_S200x512 := rfl
  rw [e, shapeCast_self, shapeCast_self, shapeCast_self, shapeCast_self]
  refine congrArg₂ (· + · : EReal → EReal → EReal) ?_ ?_
  · refine (mul0_apply (φ₁ := .f32) (φ₂ := .f32) _ _ r (lane g q)).trans (Eq.trans (Finset.sum_congr rfl fun i _ => ?_) (sum_pack (fun i => X (ix2 r i)) (x r) W g q fun i i' e => ?_))
    · exact congrArg (_ * ·) (hW _)
    · rw [← hX r i']; exact congrArg (fun t => X (ix2 r t)) (Fin.ext e)
  · refine (broadcastTo_apply bp broadcasts_S1x512_S200x512 (ix2 r (lane g q)) (ix2 0 (lane g q)) fun a => ?_).trans ((hb _).trans (packB_apply b g q))
    match a with
    | ⟨0, _⟩ => rfl
    | ⟨1, _⟩ => rfl

end Cert.KernelIdeal.Own

end
-- ==== Proof.Val.Join.lean ====
/- The two directions side by side: how both programs put the rows of a backward pass, and of a forward one, into a result. -/
module

public import proofs.«01_k».proof.Proof.Val.Spec
public import Idealize.ShloMosaic.Lib.Pipeline.Value

@[expose] public section

noncomputable section

namespace Cert.Val

open Idealize.ShloMosaic

variable {n : ℕ}

/-- Forward rows in the first 100 columns, backward rows in reverse order in the others. -/
def both (f b : Fin n → Fin 100 → EReal) (r : Fin n) (q : Fin 200) : EReal :=
  if h : q.val < 100 then f r ⟨q.val, h⟩ else b r.rev ⟨q.val - 100, by have := q.isLt; omega⟩

/-- A reversed array at a row. -/
theorem rev_apply (x : (⟨2, ![n, 100]⟩ : Shape).Idx → EReal) (r : Fin n) (i : Fin 100) : Host.reverse [0] x (ix2 r i) = x (ix2 r.rev i) := by
  refine congrArg x (funext fun a => ?_)
  match a with
  | ⟨0, _⟩ => rfl
  | ⟨1, _⟩ => rfl

/-- The concatenation of forward rows and reversed backward rows. -/
theorem both_apply (x y : (⟨2, ![n, 100]⟩ : Shape).Idx → EReal) (h : Shape.Concatenates [⟨2, ![n, 100]⟩, ⟨2, ![n, 100]⟩] ⟨2, ![n, 200]⟩ 1)
    (f b : Fin n → Fin 100 → EReal) (hx : ∀ r q, x (ix2 r q) = f r q) (hy : ∀ r q, y (ix2 r q) = b r q) (r : Fin n) (q : Fin 200) :
    concatenate ⟨2, ![n, 200]⟩ 1 [⟨⟨2, ![n, 100]⟩, x⟩, ⟨⟨2, ![n, 100]⟩, Host.reverse [0] y⟩] h (ix2 r q) = both f b r q := by
  unfold both
  split
  · next hq =>
    refine (concatenate_pair_apply_left (s₁ := ⟨2, ![n, 100]⟩) (s₂ := ⟨2, ![n, 100]⟩) 1 x _ h (ix2 r q) rfl (ix2 r ⟨q.val, hq⟩) fun a => ?_).trans (hx _ _)
    match a with
    | ⟨0, _⟩ => rfl
    | ⟨1, _⟩ => rfl
  · next hq =>
    refine (concatenate_pair_apply_right (s₁ := ⟨2, ![n, 100]⟩) (s₂ := ⟨2, ![n, 100]⟩) 1 x _ h (ix2 r q) rfl rfl (ix2 r ⟨q.val - 100, by have := q.isLt; omega⟩) (fun a ha => ?_) ?_).trans
      ((rev_apply y r _).trans (hy _ _))
    · match a with
      | ⟨0, _⟩ => rfl
      | ⟨1, _⟩ => exact absurd rfl ha
    · show q.val - 100 + 100 = q.val
      omega

/-- A result's leading axis of extent 1. -/
theorem lead_apply {k : ℕ} (hn : n ≠ 1) (hk : k ≠ 1) (h : (⟨2, ![n, k]⟩ : Shape).BroadcastsInDim ⟨3, ![1, n, k]⟩ ![1, 2]) (X : (⟨2, ![n, k]⟩ : Shape).Idx → EReal)
    (j : (⟨3, ![1, n, k]⟩ : Shape).Idx) : broadcastInDim ⟨3, ![1, n, k]⟩ ![1, 2] h X j = X (ix2 (j 1) (j 2)) := by
  refine broadcastInDim_apply _ h X j _ fun a => ?_
  match a with
  | ⟨0, _⟩ => exact (if_neg hn).symm
  | ⟨1, _⟩ => exact (if_neg hk).symm

/-- A leading axis added and removed. -/
theorem unlead (hn : n ≠ 1) (h : (⟨2, ![n, 100]⟩ : Shape).BroadcastsInDim ⟨3, ![1, n, 100]⟩ ![1, 2]) (h' : (⟨3, ![1, n, 100]⟩ : Shape).ShapeCasts ⟨2, ![n, 100]⟩)
    (x : (⟨2, ![n, 100]⟩ : Shape).Idx → EReal) (r : Fin n) (i : Fin 100) :
    shapeCast ⟨2, ![n, 100]⟩ (broadcastInDim ⟨3, ![1, n, 100]⟩ ![1, 2] h x) h' (ix2 r i) = x (ix2 r i) := by
  refine (shapeCast_apply _ h' (ix2 r i) (ValueIdx.ix3 0 r i) ?_).trans (lead_apply hn (by decide) h x _)
  rw [Shape.rowMajor_val_three, Shape.rowMajor_val_two]
  show (0 * n + r.val) * 100 + i.val = r.val * 100 + i.val
  rw [Nat.zero_mul, Nat.zero_add]

/-- The rows of an array of `n` rows (row 0 past the end). -/
def seqOf {n : ℕ} [NeZero n] (x : (⟨2, ![n, 100]⟩ : Shape).Idx → Ideal .f32) (k : ℕ) (i : Fin 100) : EReal := x (ix2 (Fin.ofNat n k) i)

/-- An array's row is that of the sequence. -/
theorem seqOf_val {n : ℕ} [NeZero n] (x : (⟨2, ![n, 100]⟩ : Shape).Idx → Ideal .f32) (k : Fin n) (i : Fin 100) : x (ix2 k i) = seqOf x k.val i := by
  unfold seqOf
  rw [show Fin.ofNat n k.val = k from Fin.ext (Nat.mod_eq_of_lt k.isLt)]

open Cert.ReferenceIdeal.Own (dirOf)

/-- The hidden state one direction leaves at row `r`. -/
def layer [NeZero n] (W U : (⟨2, ![100, 400]⟩ : Shape).Idx → Ideal .f32) (b : (⟨1, ![400]⟩ : Shape).Idx → Ideal .f32) (x : (⟨2, ![n, 100]⟩ : Shape).Idx → Ideal .f32)
    (r : Fin n) (q : Fin 100) : EReal := (state (dirOf W U b (seqOf x)) (r.val + 1)).1 q

/-- A result: the forward direction over the rows, and the backward one over the rows in reverse order. -/
def result [NeZero n] (W U : (⟨2, ![100, 400]⟩ : Shape).Idx → Ideal .f32) (b : (⟨1, ![400]⟩ : Shape).Idx → Ideal .f32)
    (W' U' : (⟨2, ![100, 400]⟩ : Shape).Idx → Ideal .f32) (b' : (⟨1, ![400]⟩ : Shape).Idx → Ideal .f32) (x : (⟨2, ![n, 100]⟩ : Shape).Idx → Ideal .f32)
    (j : (⟨3, ![1, n, 200]⟩ : Shape).Idx) : Ideal .f32 := both (layer W U b x) (layer W' U' b' (Host.reverse [0] x)) (j 1) (j 2)

end Cert.Val

end
-- ==== Proof.Val.Ctx.lean ====
/- The context's call over the extended reals: each of its output arrays holds, on the lanes that hold data, the layer's hidden states. -/
module

public import proofs.«01_k».proof.Proof.Val.Rec
public import proofs.«01_k».proof.Proof.Val.Join
public import proofs.«01_k».proof.Proof.KI.Region0
public import Idealize.ShloMosaic.Lib.Pipeline.ValueKit.Geometry

@[expose] public section

noncomputable section

open scoped BigOperators

namespace Cert.KernelIdeal.Own

open Cert.KernelIdeal Cert.KernelIdeal.Gen
open Idealize.ShloMosaic Idealize.ShloMosaic.TcCoe
open Cert.Val
open Cert.ReferenceIdeal.Own (dirOf)

attribute [local instance] Cert.KernelIdeal.Gen.facts

section Glue

variable {F : FTy → Type} [FloatOps F]

/-- Rows in chunks of 512 as one sequence. -/
def flat (X : ℕ → ℕ → Vec F S1x512 .f32) (k : ℕ) : Vec F S1x512 .f32 := X (k / 512) (k % 512)

/-- Row `k` of chunk `t` in the sequence. -/
theorem flat_at (X : ℕ → ℕ → Vec F S1x512 .f32) (t k : ℕ) (hk : k < 512) : flat X (512 * t + k) = X t k := by
  unfold flat
  rw [show (512 * t + k) / 512 = t by omega, show (512 * t + k) % 512 = k by omega]

/-- The pair carried into chunk `t` is the chain over all rows before it. -/
theorem car_chain (U : Vec F S128x512 .bf16) (X : ℕ → ℕ → Vec F S1x512 .f32) (car : ℕ → St F) (h0 : car 0 = s0) (hs : ∀ t, car (t + 1) = chain U (X t) (car t) 512) :
    ∀ t, car t = chain U (flat X) s0 (512 * t) := by
  intro t
  induction t with
  | zero => exact h0
  | succ t ih =>
    rw [hs, show 512 * (t + 1) = 512 * t + 512 by ring, chain_add, ← ih]
    exact chain_congr _ _ _ _ _ fun k hk => (flat_at X t k hk).symm

/-- The hidden state of row `k` of chunk `t` is that of row `512 t + k`. -/
theorem hid_flat (U : Vec F S128x512 .bf16) (X : ℕ → ℕ → Vec F S1x512 .f32) (car : ℕ → St F) (h0 : car 0 = s0) (hs : ∀ t, car (t + 1) = chain U (X t) (car t) 512)
    (t k : ℕ) (hk : k < 512) : hid U (X t) (car t) k = hid U (flat X) s0 (512 * t + k) := by
  unfold hid
  rw [chain_add, ← car_chain U X car h0 hs t, flat_at X t k hk,
    chain_congr U (fun j => flat X (512 * t + j)) (X t) (car t) k fun j hj => flat_at X t j (by omega)]

end Glue

variable (V : Vals Ideal) (c : Dev nD)

/-- Element `y` of a chunk's block of 512 rows, in its array. -/
def chunkIdx (t : Fin cfg0.N) (y : S512x128.Idx) : S4096x128.Idx :=
  ix2 ⟨512 * t.val + (y 0).val, by have h : (y 0).val < 512 := (y 0).isLt; have := Nat.lt_of_lt_of_eq t.isLt N_0; omega⟩ (y 1)

/-- The block index at point `t`: `(t, 0)` for the windows taken in chunks, zero for the windows taken whole. -/
theorem idx0_chunk : ∀ w : Fin 10, w.val < 2 ∨ 8 ≤ w.val → ∀ t : Fin cfg0.N, ∀ a, (cfg0.win w).index t a = if a.val = 0 then t.val else 0 := by decide +kernel
/-- The windows taken whole have block index zero at every point. -/
theorem idx0_whole : ∀ w : Fin 10, 2 ≤ w.val ∧ w.val < 8 → ∀ t : Fin cfg0.N, ∀ a, (cfg0.win w).index t a = 0 := by decide +kernel

/-- The two coordinates of a chunk's element. -/
theorem chunk_val (t : Fin cfg0.N) (y : S512x128.Idx) (a : Fin 2) (n : ℕ) (hn : n = (![512, 128] : Fin 2 → ℕ) a) :
    (if a.val = 0 then t.val else 0) * n + (y a).val = (chunkIdx t y a).val := by
  subst hn
  match a with
  | ⟨0, _⟩ => show t.val * 512 + (y 0).val = 512 * t.val + (y 0).val; omega
  | ⟨1, _⟩ => show 0 * 128 + (y 1).val = (y 1).val; omega

/-- Where window 0's block lies in its array. -/
theorem emb0_0 (t : Fin cfg0.N) (y : S512x128.Idx) : ((cfg0.win 0).blk t).view.emb y = chunkIdx t y :=
  funext fun a => Fin.ext (by blk_simp; rw [idx0_chunk 0 (by decide) t a]; exact chunk_val t y a _ rfl)
/-- Where window 1's block lies in its array. -/
theorem emb0_1 (t : Fin cfg0.N) (y : S512x128.Idx) : ((cfg0.win 1).blk t).view.emb y = chunkIdx t y :=
  funext fun a => Fin.ext (by blk_simp; rw [idx0_chunk 1 (by decide) t a]; exact chunk_val t y a _ rfl)
/-- Where window 8's block lies in its array. -/
theorem emb0_8 (t : Fin cfg0.N) (y : S512x128.Idx) : ((cfg0.win 8).blk t).view.emb y = chunkIdx t y :=
  funext fun a => Fin.ext (by blk_simp; rw [idx0_chunk 8 (by decide) t a]; exact chunk_val t y a _ rfl)
/-- Where window 9's block lies in its array. -/
theorem emb0_9 (t : Fin cfg0.N) (y : S512x128.Idx) : ((cfg0.win 9).blk t).view.emb y = chunkIdx t y :=
  funext fun a => Fin.ext (by blk_simp; rw [idx0_chunk 9 (by decide) t a]; exact chunk_val t y a _ rfl)

/-- Window 0's block, of the contents at the entry. -/
theorem blk0_0 (t : Fin cfg0.N) (y : S512x128.Idx) : blk0 V c 0 t y = V c main_call0_v2 (chunkIdx t y) := congrArg (V c main_call0_v2) (emb0_0 t y)
/-- Window 1's block, of the contents at the entry. -/
theorem blk0_1 (t : Fin cfg0.N) (y : S512x128.Idx) : blk0 V c 1 t y = V c main_call0_v6 (chunkIdx t y) := congrArg (V c main_call0_v6) (emb0_1 t y)
/-- Window 2's block, of the contents at the entry. -/
theorem blk0_2 (t : Fin cfg0.N) : blk0 V c 2 t = V c main_call0_v27 :=
  funext fun y => congrArg (V c main_call0_v27) (funext fun a => Fin.ext (by blk_simp; rw [idx0_whole 2 (by decide) t a]; omega))
/-- Window 3's block, of the contents at the entry. -/
theorem blk0_3 (t : Fin cfg0.N) : blk0 V c 3 t = V c main_call0_v48 :=
  funext fun y => congrArg (V c main_call0_v48) (funext fun a => Fin.ext (by blk_simp; rw [idx0_whole 3 (by decide) t a]; omega))
/-- Window 4's block, of the contents at the entry. -/
theorem blk0_4 (t : Fin cfg0.N) : blk0 V c 4 t = V c main_call0_v133 :=
  funext fun y => congrArg (V c main_call0_v133) (funext fun a => Fin.ext (by blk_simp; rw [idx0_whole 4 (by decide) t a]; omega))
/-- Window 5's block, of the contents at the entry. -/
theorem blk0_5 (t : Fin cfg0.N) : blk0 V c 5 t = V c main_call0_v134 :=
  funext fun y => congrArg (V c main_call0_v134) (funext fun a => Fin.ext (by blk_simp; rw [idx0_whole 5 (by decide) t a]; omega))
/-- Window 6's block, of the contents at the entry. -/
theorem blk0_6 (t : Fin cfg0.N) : blk0 V c 6 t = V c main_call0_v111 :=
  funext fun y => congrArg (V c main_call0_v111) (funext fun a => Fin.ext (by blk_simp; rw [idx0_whole 6 (by decide) t a]; omega))
/-- Window 7's block, of the contents at the entry. -/
theorem blk0_7 (t : Fin cfg0.N) : blk0 V c 7 t = V c main_call0_v132 :=
  funext fun y => congrArg (V c main_call0_v132) (funext fun a => Fin.ext (by blk_simp; rw [idx0_whole 7 (by decide) t a]; omega))

/-- An output array of the call, every chunk's block of which holds the hidden states of its rows, holds the hidden states of all rows. -/
theorem out0_8 (U : Vec Ideal S128x512 .bf16) (X : ℕ → ℕ → Vec Ideal S1x512 .f32) (car : ℕ → St Ideal) (h0 : car 0 = s0)
    (hs : ∀ t, car (t + 1) = chain U (X t) (car t) 512) (hafter : ∀ t, (dat0 V c).after 8 t = rows 512 (hid U (X t.val) (car t.val))) :
    (dat0 V c).arrAt 8 cfg0.N = rows 4096 (hid U (flat X) s0) := by
  refine (dat0 V c).arrAt_eq_of_covers 8 _ (by decide +kernel) fun t _ y => ?_
  rw [emb0_8 t y, hafter t]
  exact congrFun (hid_flat U X car h0 hs t.val (y 0).val (y 0).isLt) (ix2 0 (y 1))
/-- The same of the backward output. -/
theorem out0_9 (U : Vec Ideal S128x512 .bf16) (X : ℕ → ℕ → Vec Ideal S1x512 .f32) (car : ℕ → St Ideal) (h0 : car 0 = s0)
    (hs : ∀ t, car (t + 1) = chain U (X t) (car t) 512) (hafter : ∀ t, (dat0 V c).after 9 t = rows 512 (hid U (X t.val) (car t.val))) :
    (dat0 V c).arrAt 9 cfg0.N = rows 4096 (hid U (flat X) s0) := by
  refine (dat0 V c).arrAt_eq_of_covers 9 _ (by decide +kernel) fun t _ y => ?_
  rw [emb0_9 t y, hafter t]
  exact congrFun (hid_flat U X car h0 hs t.val (y 0).val (y 0).isLt) (ix2 0 (y 1))

/-- The input products of the chunks, as one sequence of rows, are the layer's. -/
theorem flat_input (P : ℕ → S512x512.Idx → Ideal .f32) (x : S4096x100.Idx → Ideal .f32) (W : S100x400.Idx → Ideal .f32) (b : S400.Idx → Ideal .f32)
    (hP : ∀ t (ht : t < 8) (r : Fin 512) g q, P t (ix2 r (lane g q)) = (∑ i, x (ix2 ⟨512 * t + r.val, by omega⟩ i) * W (ix2 i (col g q))) + b (ix1 (col g q)))
    (k : ℕ) (hk : k < 4096) (g : Fin 4) (q : Fin 100) :
    flat (fun t => row (n := 512) (P t)) k (ix2 0 (lane g q)) = (∑ i, seqOf x k i * W (ix2 i (col g q))) + b (ix1 (col g q)) := by
  refine (hP (k / 512) (by omega) (Fin.ofNat 512 (k % 512)) g q).trans (congrArg (· + _) (Finset.sum_congr rfl fun i _ => congrArg (· * _) ?_))
  refine congrArg (fun t => x (ix2 t i)) (Fin.ext ?_)
  show 512 * (k / 512) + k % 512 % 512 = k % 4096
  omega

/-- The forward direction of the context's call. -/
theorem ctxF (x : S4096x100.Idx → Ideal .f32) (W U : S100x400.Idx → Ideal .f32) (b : S400.Idx → Ideal .f32)
    (hX : ∀ j, V c main_call0_v2 j = padC x j) (hW : ∀ j, V c main_call0_v27 j = packW W j) (hU : ∀ j, V c main_call0_v133 j = packW U j)
    (hb : ∀ j, V c main_call0_v111 j = packB b j) (r : Fin 4096) (q : Fin 100) :
    (dat0 V c).arrAt 8 cfg0.N (ix2 r (wide q)) = (state (dirOf W U b (seqOf x)) (r.val + 1)).1 q := by
  rw [out0_8 V c (V c main_call0_v133) (fun t => xwF V c (pt0 t)) (carF V c) rfl (fun t => by rw [← blk0_4 V c (pt0 t)]; rfl)
    fun t => by rw [← blk0_4 V c t, pt0_val t]; rfl]
  refine hid_state 4096 _ W U b (seqOf x) hU _ (flat_input _ x W b fun t ht r g q => ?_) r.val r.isLt q
  refine inputC _ _ _ W b (fun j => (congrFun (blk0_2 V c _) j).trans (hW j)) (fun j => (congrFun (blk0_6 V c _) j).trans (hb j)) (fun r i => x (ix2 ⟨512 * t + r.val, by omega⟩ i)) (fun r i => ?_) r g q
  refine (blk0_0 V c _ _).trans ((hX _).trans ?_)
  refine (padC_apply x _ _ i rfl).trans (congrArg (fun t => x (ix2 t i)) (Fin.ext ?_))
  show 512 * (t % 8) + r.val = 512 * t + r.val
  omega

/-- The backward direction of the context's call. -/
theorem ctxB (x : S4096x100.Idx → Ideal .f32) (W U : S100x400.Idx → Ideal .f32) (b : S400.Idx → Ideal .f32)
    (hX : ∀ j, V c main_call0_v6 j = padC x j) (hW : ∀ j, V c main_call0_v48 j = packW W j) (hU : ∀ j, V c main_call0_v134 j = packW U j)
    (hb : ∀ j, V c main_call0_v132 j = packB b j) (r : Fin 4096) (q : Fin 100) :
    (dat0 V c).arrAt 9 cfg0.N (ix2 r (wide q)) = (state (dirOf W U b (seqOf x)) (r.val + 1)).1 q := by
  rw [out0_9 V c (V c main_call0_v134) (fun t => xwB V c (pt0 t)) (carB V c) rfl (fun t => by rw [← blk0_5 V c (pt0 t)]; rfl)
    fun t => by rw [← blk0_5 V c t, pt0_val t]; rfl]
  refine hid_state 4096 _ W U b (seqOf x) hU _ (flat_input _ x W b fun t ht r g q => ?_) r.val r.isLt q
  refine inputC _ _ _ W b (fun j => (congrFun (blk0_3 V c _) j).trans (hW j)) (fun j => (congrFun (blk0_7 V c _) j).trans (hb j)) (fun r i => x (ix2 ⟨512 * t + r.val, by omega⟩ i)) (fun r i => ?_) r g q
  refine (blk0_1 V c _ _).trans ((hX _).trans ?_)
  refine (padC_apply x _ _ i rfl).trans (congrArg (fun t => x (ix2 t i)) (Fin.ext ?_))
  show 512 * (t % 8) + r.val = 512 * t + r.val
  omega

end Cert.KernelIdeal.Own

end
-- ==== Proof.Val.Qry.lean ====
/- The query's call over the extended reals: each of its output arrays holds, on the lanes that hold data, the layer's hidden states. -/
module

public import proofs.«01_k».proof.Proof.Val.Ctx
public import proofs.«01_k».proof.Proof.KI.Region1

@[expose] public section

noncomputable section

open scoped BigOperators

namespace Cert.KernelIdeal.Own

open Cert.KernelIdeal Cert.KernelIdeal.Gen
open Idealize.ShloMosaic Idealize.ShloMosaic.TcCoe
open Cert.Val
open Cert.ReferenceIdeal.Own (dirOf)

attribute [local instance] Cert.KernelIdeal.Gen.facts

variable (V : Vals Ideal) (c : Dev nD)

/-- Every window of the call is taken whole. -/
theorem idx1 : ∀ w : Fin 10, ∀ t : Fin cfg1.N, ∀ a, (cfg1.win w).index t a = 0 := by decide +kernel

/-- Window 0's block is its whole array. -/
theorem blk1_0 (t : Fin cfg1.N) : blk1 V c 0 t = V c main_call0_v142 :=
  funext fun y => congrArg (V c main_call0_v142) (funext fun a => Fin.ext (by blk_simp; rw [idx1 0 t a]; omega))
/-- Window 1's block is its whole array. -/
theorem blk1_1 (t : Fin cfg1.N) : blk1 V c 1 t = V c main_call0_v146 :=
  funext fun y => congrArg (V c main_call0_v146) (funext fun a => Fin.ext (by blk_simp; rw [idx1 1 t a]; omega))
/-- Window 2's block is its whole array. -/
theorem blk1_2 (t : Fin cfg1.N) : blk1 V c 2 t = V c main_call0_v167 :=
  funext fun y => congrArg (V c main_call0_v167) (funext fun a => Fin.ext (by blk_simp; rw [idx1 2 t a]; omega))
/-- Window 3's block is its whole array. -/
theorem blk1_3 (t : Fin cfg1.N) : blk1 V c 3 t = V c main_call0_v188 :=
  funext fun y => congrArg (V c main_call0_v188) (funext fun a => Fin.ext (by blk_simp; rw [idx1 3 t a]; omega))
/-- Window 4's block is its whole array. -/
theorem blk1_4 (t : Fin cfg1.N) : blk1 V c 4 t = V c main_call0_v273 :=
  funext fun y => congrArg (V c main_call0_v273) (funext fun a => Fin.ext (by blk_simp; rw [idx1 4 t a]; omega))
/-- Window 5's block is its whole array. -/
theorem blk1_5 (t : Fin cfg1.N) : blk1 V c 5 t = V c main_call0_v274 :=
  funext fun y => congrArg (V c main_call0_v274) (funext fun a => Fin.ext (by blk_simp; rw [idx1 5 t a]; omega))
/-- Window 6's block is its whole array. -/
theorem blk1_6 (t : Fin cfg1.N) : blk1 V c 6 t = V c main_call0_v251 :=
  funext fun y => congrArg (V c main_call0_v251) (funext fun a => Fin.ext (by blk_simp; rw [idx1 6 t a]; omega))
/-- Window 7's block is its whole array. -/
theorem blk1_7 (t : Fin cfg1.N) : blk1 V c 7 t = V c main_call0_v272 :=
  funext fun y => congrArg (V c main_call0_v272) (funext fun a => Fin.ext (by blk_simp; rw [idx1 7 t a]; omega))
/-- Output window 8 is its whole array. -/
theorem emb1_8 (t : Fin cfg1.N) (y : S200x128.Idx) : ((cfg1.win 8).blk t).view.emb y = y :=
  funext fun a => Fin.ext (by blk_simp; rw [idx1 8 t a]; omega)
/-- Output window 9 is its whole array. -/
theorem emb1_9 (t : Fin cfg1.N) (y : S200x128.Idx) : ((cfg1.win 9).blk t).view.emb y = y :=
  funext fun a => Fin.ext (by blk_simp; rw [idx1 9 t a]; omega)

/-- The only point of the call. -/
def one1 : Fin cfg1.N := ⟨0, by decide⟩
/-- There is no other point. -/
theorem one1_only (t : Fin cfg1.N) : t = one1 := by have := t.isLt; have e : cfg1.N = 1 := rfl; exact Fin.ext (show t.val = 0 by omega)

/-- The output array holds the hidden states of the rows. -/
theorem out1_8 : (dat1 V c).arrAt 8 cfg1.N = rows 200 (hid (blk1 V c 4 one1) (xwF1 V c one1) s0) := by
  refine (dat1 V c).arrAt_eq_of_covers 8 _ (by decide +kernel) fun t _ y => ?_
  rw [emb1_8 t y, one1_only t]
  rfl
/-- The output array holds the hidden states of the rows. -/
theorem out1_9 : (dat1 V c).arrAt 9 cfg1.N = rows 200 (hid (blk1 V c 5 one1) (xwB1 V c one1) s0) := by
  refine (dat1 V c).arrAt_eq_of_covers 9 _ (by decide +kernel) fun t _ y => ?_
  rw [emb1_9 t y, one1_only t]
  rfl

/-- The input products of the rows are the layer's. -/
theorem row_input (P : S200x512.Idx → Ideal .f32) (x : S200x100.Idx → Ideal .f32) (W : S100x400.Idx → Ideal .f32) (b : S400.Idx → Ideal .f32)
    (hP : ∀ (r : Fin 200) g q, P (ix2 r (lane g q)) = (∑ i, x (ix2 r i) * W (ix2 i (col g q))) + b (ix1 (col g q))) (k : ℕ) (_ : k < 200) (g : Fin 4) (q : Fin 100) :
    row (n := 200) P k (ix2 0 (lane g q)) = (∑ i, seqOf x k i * W (ix2 i (col g q))) + b (ix1 (col g q)) :=
  hP (Fin.ofNat 200 k) g q

/-- The forward direction of the query's call. -/
theorem qryF (x : S200x100.Idx → Ideal .f32) (W U : S100x400.Idx → Ideal .f32) (b : S400.Idx → Ideal .f32)
    (hX : ∀ j, V c main_call0_v142 j = padQ x j) (hW : ∀ j, V c main_call0_v167 j = packW W j) (hU : ∀ j, V c main_call0_v273 j = packW U j)
    (hb : ∀ j, V c main_call0_v251 j = packB b j) (r : Fin 200) (q : Fin 100) :
    (dat1 V c).arrAt 8 cfg1.N (ix2 r (wide q)) = (state (dirOf W U b (seqOf x)) (r.val + 1)).1 q := by
  rw [out1_8]
  refine hid_state 200 _ W U b (seqOf x) (fun j => (congrFun (blk1_4 V c _) j).trans (hU j)) _ (row_input _ x W b fun r g q => ?_) r.val r.isLt q
  refine inputQ _ _ _ W b (fun j => (congrFun (blk1_2 V c _) j).trans (hW j)) (fun j => (congrFun (blk1_6 V c _) j).trans (hb j)) (fun r i => x (ix2 r i)) (fun r i => ?_) r g q
  exact (congrFun (blk1_0 V c _) _).trans ((hX _).trans (padQ_apply x _ _ i rfl))

/-- The backward direction of the query's call. -/
theorem qryB (x : S200x100.Idx → Ideal .f32) (W U : S100x400.Idx → Ideal .f32) (b : S400.Idx → Ideal .f32)
    (hX : ∀ j, V c main_call0_v146 j = padQ x j) (hW : ∀ j, V c main_call0_v188 j = packW W j) (hU : ∀ j, V c main_call0_v274 j = packW U j)
    (hb : ∀ j, V c main_call0_v272 j = packB b j) (r : Fin 200) (q : Fin 100) :
    (dat1 V c).arrAt 9 cfg1.N (ix2 r (wide q)) = (state (dirOf W U b (seqOf x)) (r.val + 1)).1 q := by
  rw [out1_9]
  refine hid_state 200 _ W U b (seqOf x) (fun j => (congrFun (blk1_5 V c _) j).trans (hU j)) _ (row_input _ x W b fun r g q => ?_) r.val r.isLt q
  refine inputQ _ _ _ W b (fun j => (congrFun (blk1_3 V c _) j).trans (hW j)) (fun j => (congrFun (blk1_7 V c _) j).trans (hb j)) (fun r i => x (ix2 r i)) (fun r i => ?_) r g q
  exact (congrFun (blk1_1 V c _) _).trans ((hX _).trans (padQ_apply x _ _ i rfl))

end Cert.KernelIdeal.Own

end
-- ==== Proof.Val.Host.lean ====
/- What the kernel's host code hands to the two calls, and what it makes of their outputs. -/
module

public import proofs.«01_k».proof.Proof.Val.Qry
public import proofs.«01_k».proof.Proof.KI.Run
public import Idealize.ShloMosaic.Lib.StableHlo.RunRead
public import Idealize.ShloMosaic.Lib.StableHlo.ReadAt

@[expose] public section

noncomputable section

namespace Cert.KernelIdeal.Own

open Cert.KernelIdeal Cert.KernelIdeal.Gen
open Idealize.ShloMosaic Idealize.ShloMosaic.TcCoe
open Cert.Val

attribute [local instance] Cert.KernelIdeal.Gen.facts

/-- Two index words side by side. -/
def words (a b : IVec S1 32) : IVec S2 32 := concatenate S2 0 [⟨S1, a⟩, ⟨S1, b⟩] concatenates_S1_S1_S2_d0
/-- The printed concatenation is it. -/
theorem words_eq (a b : IVec S1 32) : concatenate S2 0 [⟨S1, a⟩, ⟨S1, b⟩] concatenates_S1_S1_S2_d0 = words a b := rfl

variable (V : Valuation τ sig (Elt Ideal))

/-! What the context's call is given. -/

/-- The context's rows, padded. -/
theorem h0_v2 : StableHlo.after hostOps0 V main_call0_v2 = padC (V main_arg0) := by
  after_reads_simp [words_eq]
  simp -implicitDefEqProofs only [StableHlo.TRef.toBuf, StableHlo.TRef.ofBuf, cast_cast, cast_eq]
  rfl
/-- The context's rows in reverse order, padded. -/
theorem h0_v6 : StableHlo.after hostOps0 V main_call0_v6 = padC (Host.reverse [0] (V main_arg0)) := by
  after_reads_simp [words_eq]
  simp -implicitDefEqProofs only [StableHlo.TRef.toBuf, StableHlo.TRef.ofBuf, cast_cast, cast_eq]
  rfl
/-- The context's input weights of one direction, packed. -/
theorem h0_v27 : StableHlo.after hostOps0 V main_call0_v27 = packW (V main_arg2) := by
  after_reads_simp [words_eq]
  simp -implicitDefEqProofs only [StableHlo.TRef.toBuf, StableHlo.TRef.ofBuf, cast_cast, cast_eq]
  rfl
/-- The context's input weights of one direction, packed. -/
theorem h0_v48 : StableHlo.after hostOps0 V main_call0_v48 = packW (V main_arg5) := by
  after_reads_simp [words_eq]
  simp -implicitDefEqProofs only [StableHlo.TRef.toBuf, StableHlo.TRef.ofBuf, cast_cast, cast_eq]
  rfl
/-- The context's recurrent weights of one direction, packed and narrowed. -/
theorem h0_v133 : StableHlo.after hostOps0 V main_call0_v133 = truncf (F := Ideal) .bf16 (packW (V main_arg3)) := by
  after_reads_simp [words_eq]
  simp -implicitDefEqProofs only [StableHlo.TRef.toBuf, StableHlo.TRef.ofBuf, cast_cast, cast_eq]
  rfl
/-- The context's recurrent weights of one direction, packed and narrowed. -/
theorem h0_v134 : StableHlo.after hostOps0 V main_call0_v134 = truncf (F := Ideal) .bf16 (packW (V main_arg6)) := by
  after_reads_simp [words_eq]
  simp -implicitDefEqProofs only [StableHlo.TRef.toBuf, StableHlo.TRef.ofBuf, cast_cast, cast_eq]
  rfl
/-- The context's bias of one direction, packed. -/
theorem h0_v111 : StableHlo.after hostOps0 V main_call0_v111 = packB (V main_arg4) := by
  after_reads_simp [words_eq]
  simp -implicitDefEqProofs only [StableHlo.TRef.toBuf, StableHlo.TRef.ofBuf, cast_cast, cast_eq]
  rfl
/-- The context's bias of one direction, packed. -/
theorem h0_v132 : StableHlo.after hostOps0 V main_call0_v132 = packB (V main_arg7) := by
  after_reads_simp [words_eq]
  simp -implicitDefEqProofs only [StableHlo.TRef.toBuf, StableHlo.TRef.ofBuf, cast_cast, cast_eq]
  rfl

/-! What the query's call is given. -/

/-- The query's rows, padded. -/
theorem h1_v142 : StableHlo.after hostOps1 V main_call0_v142 = padQ (V main_arg1) := by
  after_reads_simp [words_eq]
  simp -implicitDefEqProofs only [StableHlo.TRef.toBuf, StableHlo.TRef.ofBuf, cast_cast, cast_eq]
  rfl
/-- The query's rows in reverse order, padded. -/
theorem h1_v146 : StableHlo.after hostOps1 V main_call0_v146 = padQ (Host.reverse [0] (V main_arg1)) := by
  after_reads_simp [words_eq]
  simp -implicitDefEqProofs only [StableHlo.TRef.toBuf, StableHlo.TRef.ofBuf, cast_cast, cast_eq]
  rfl
/-- The query's input weights of one direction, packed. -/
theorem h1_v167 : StableHlo.after hostOps1 V main_call0_v167 = packW (V main_arg8) := by
  after_reads_simp [words_eq]
  simp -implicitDefEqProofs only [StableHlo.TRef.toBuf, StableHlo.TRef.ofBuf, cast_cast, cast_eq]
  rfl
/-- The query's input weights of one direction, packed. -/
theorem h1_v188 : StableHlo.after hostOps1 V main_call0_v188 = packW (V main_arg11) := by
  after_reads_simp [words_eq]
  simp -implicitDefEqProofs only [StableHlo.TRef.toBuf, StableHlo.TRef.ofBuf, cast_cast, cast_eq]
  rfl
/-- The query's recurrent weights of one direction, packed and narrowed. -/
theorem h1_v273 : StableHlo.after hostOps1 V main_call0_v273 = truncf (F := Ideal) .bf16 (packW (V main_arg9)) := by
  after_reads_simp [words_eq]
  simp -implicitDefEqProofs only [StableHlo.TRef.toBuf, StableHlo.TRef.ofBuf, cast_cast, cast_eq]
  rfl
/-- The query's recurrent weights of one direction, packed and narrowed. -/
theorem h1_v274 : StableHlo.after hostOps1 V main_call0_v274 = truncf (F := Ideal) .bf16 (packW (V main_arg12)) := by
  after_reads_simp [words_eq]
  simp -implicitDefEqProofs only [StableHlo.TRef.toBuf, StableHlo.TRef.ofBuf, cast_cast, cast_eq]
  rfl
/-- The query's bias of one direction, packed. -/
theorem h1_v251 : StableHlo.after hostOps1 V main_call0_v251 = packB (V main_arg10) := by
  after_reads_simp [words_eq]
  simp -implicitDefEqProofs only [StableHlo.TRef.toBuf, StableHlo.TRef.ofBuf, cast_cast, cast_eq]
  rfl
/-- The query's bias of one direction, packed. -/
theorem h1_v272 : StableHlo.after hostOps1 V main_call0_v272 = packB (V main_arg13) := by
  after_reads_simp [words_eq]
  simp -implicitDefEqProofs only [StableHlo.TRef.toBuf, StableHlo.TRef.ofBuf, cast_cast, cast_eq]
  rfl

/-! What the results are made of. -/

/-- The two directions' rows side by side. -/
def joinC (a b : S4096x100.Idx → Ideal .f32) : S4096x200.Idx → Ideal .f32 := concatenate S4096x200 1 [⟨S4096x100, a⟩, ⟨S4096x100, b⟩] concatenates_S4096x100_S4096x100_S4096x200_d1
/-- The printed concatenation is it. -/
theorem joinC_eq (a b : S4096x100.Idx → Ideal .f32) :
    concatenate S4096x200 1 [⟨S4096x100, a⟩, ⟨S4096x100, b⟩] concatenates_S4096x100_S4096x100_S4096x200_d1 = joinC a b := rfl
/-- The two directions' rows side by side, of the query. -/
def joinQ (a b : S200x100.Idx → Ideal .f32) : S200x200.Idx → Ideal .f32 := concatenate S200x200 1 [⟨S200x100, a⟩, ⟨S200x100, b⟩] concatenates_S200x100_S200x100_S200x200_d1
/-- The printed concatenation is it. -/
theorem joinQ_eq (a b : S200x100.Idx → Ideal .f32) :
    concatenate S200x200 1 [⟨S200x100, a⟩, ⟨S200x100, b⟩] concatenates_S200x100_S200x100_S200x200_d1 = joinQ a b := rfl

/-- The context's two outputs, put together. -/
theorem h1_v139 : StableHlo.after hostOps1 V main_call0_v139 = joinC (extractStridedSlice S4096x100 ![0, 0] (V main_call0_v135_0) slices_S4096x128_S4096x100_0_0)
    (Host.reverse [0] (extractStridedSlice S4096x100 ![0, 0] (V main_call0_v135_1) slices_S4096x128_S4096x100_0_0)) := by
  after_reads_simp [joinC_eq]
  simp -implicitDefEqProofs only [StableHlo.TRef.toBuf, StableHlo.TRef.ofBuf, cast_cast, cast_eq]
/-- The first result is the context's array with a leading axis. -/
theorem h2_v0_0 : StableHlo.after hostOps2 V main_v0_0 = broadcastInDim S1x4096x200 ![1, 2] bcast_S4096x200_S1x4096x200_1_2 (V main_call0_v139) := by
  after_reads_simp
  simp -implicitDefEqProofs only [StableHlo.TRef.toBuf, StableHlo.TRef.ofBuf, cast_cast, cast_eq]
/-- The second result is made of the query's two outputs. -/
theorem h2_v0_1 : StableHlo.after hostOps2 V main_v0_1 = broadcastInDim S1x200x200 ![1, 2] bcast_S200x200_S1x200x200_1_2
    (joinQ (extractStridedSlice S200x100 ![0, 0] (V main_call0_v275_0) slices_S200x128_S200x100_0_0)
      (Host.reverse [0] (extractStridedSlice S200x100 ![0, 0] (V main_call0_v275_1) slices_S200x128_S200x100_0_0))) := by
  after_reads_simp [joinQ_eq]
  simp -implicitDefEqProofs only [StableHlo.TRef.toBuf, StableHlo.TRef.ofBuf, cast_cast, cast_eq]

/-- Over the extended reals the narrower format holds the same. -/
theorem narrow (x : S128x512.Idx → Ideal .f32) (j : S128x512.Idx) : truncf (F := Ideal) .bf16 x bitsLt_bf16_f32 j = x j := rfl

/-- The data lanes of an output array. -/
theorem lanes_apply {n : ℕ} (X : (⟨2, ![n, 128]⟩ : Shape).Idx → Ideal .f32) (h : (⟨2, ![n, 128]⟩ : Shape).Slices ![0, 0] ⟨2, ![n, 100]⟩) (r : Fin n) (q : Fin 100) :
    extractStridedSlice ⟨2, ![n, 100]⟩ ![0, 0] X h (ix2 r q) = X (ix2 r (wide q)) := by
  refine congrArg X (funext fun a => Fin.ext ?_)
  match a with
  | ⟨0, _⟩ => exact Nat.zero_add _
  | ⟨1, _⟩ => exact Nat.zero_add _

variable (m : (ℓ : Loc nD τ sig) → Buf (Elt Ideal) ℓ) (c : Dev nD)

/-- An argument's contents at the launch. -/
abbrev arg (r : Ref sig .tc) : Buf (Elt Ideal) ((c.tc : Thread nD τ).loc r) := m ((c.tc : Thread nD τ).loc r)

/-- The arguments are as launched when the query's inputs are packed. -/
theorem V2_arg (o : Outs (F := Ideal)) (r : Ref sig .tc) (h1 : r ∉ ([main_call0_v135_0, main_call0_v135_1] : List (Ref sig .tc))) (h0 : r ∉ hostOps0_W) :
    V2 m o c r = arg m c r :=
  (V2_of m o c r h1).trans (V1_of m c r h0)

/-- The first result. -/
theorem val0 : V5 m (outs m) c main_v0_0 = result (n := 4096) (arg m c main_arg2) (arg m c main_arg3) (arg m c main_arg4) (arg m c main_arg5) (arg m c main_arg6) (arg m c main_arg7) (arg m c main_arg0) := by
  refine (h2_v0_0 _).trans ?_
  rw [V4_ne m c main_call0_v139 (by decide), ← V3_outs m]
  rw [show V3 m (outs m) c main_call0_v139 = _ from h1_v139 (V2 m (outs m) c), V2_out0 m c, V2_out1 m c]
  funext j
  refine (lead_apply (by decide) (by decide) _ _ j).trans (both_apply _ _ _ _ _ (fun r q => ?_) (fun r q => ?_) _ _)
  · refine (lanes_apply _ _ r q).trans (ctxF (vals (V1 m)) c (arg m c main_arg0) (arg m c main_arg2) (arg m c main_arg3) (arg m c main_arg4) ?_ ?_ ?_ ?_ r q)
    · exact fun j => congrFun (h0_v2 (V0 m c)) j
    · exact fun j => congrFun (h0_v27 (V0 m c)) j
    · exact fun j => (congrFun (h0_v133 (V0 m c)) j).trans (narrow _ j)
    · exact fun j => congrFun (h0_v111 (V0 m c)) j
  · refine (lanes_apply _ _ r q).trans (ctxB (vals (V1 m)) c (Host.reverse [0] (arg m c main_arg0)) (arg m c main_arg5) (arg m c main_arg6) (arg m c main_arg7) ?_ ?_ ?_ ?_ r q)
    · exact fun j => congrFun (h0_v6 (V0 m c)) j
    · exact fun j => congrFun (h0_v48 (V0 m c)) j
    · exact fun j => (congrFun (h0_v134 (V0 m c)) j).trans (narrow _ j)
    · exact fun j => congrFun (h0_v132 (V0 m c)) j

/-- The second result. -/
theorem val1 : V5 m (outs m) c main_v0_1 = result (n := 200) (arg m c main_arg8) (arg m c main_arg9) (arg m c main_arg10) (arg m c main_arg11) (arg m c main_arg12) (arg m c main_arg13) (arg m c main_arg1) := by
  refine (h2_v0_1 _).trans ?_
  rw [V4_out0 m c, V4_out1 m c]
  have a := fun r h1 h0 => V2_arg m c (outsA m) r h1 h0
  funext j
  refine (lead_apply (by decide) (by decide) _ _ j).trans (both_apply _ _ _ _ _ (fun r q => ?_) (fun r q => ?_) _ _)
  · refine (lanes_apply _ _ r q).trans (qryF (vals (V3 m (outsA m))) c (arg m c main_arg1) (arg m c main_arg8) (arg m c main_arg9) (arg m c main_arg10) ?_ ?_ ?_ ?_ r q)
    · exact fun j => (congrFun (h1_v142 (V2 m (outsA m) c)) j).trans (by rw [a main_arg1 (by decide) (by decide)])
    · exact fun j => (congrFun (h1_v167 (V2 m (outsA m) c)) j).trans (by rw [a main_arg8 (by decide) (by decide)])
    · exact fun j => (congrFun (h1_v273 (V2 m (outsA m) c)) j).trans (by rw [a main_arg9 (by decide) (by decide)]; exact narrow _ j)
    · exact fun j => (congrFun (h1_v251 (V2 m (outsA m) c)) j).trans (by rw [a main_arg10 (by decide) (by decide)])
  · refine (lanes_apply _ _ r q).trans (qryB (vals (V3 m (outsA m))) c (Host.reverse [0] (arg m c main_arg1)) (arg m c main_arg11) (arg m c main_arg12) (arg m c main_arg13) ?_ ?_ ?_ ?_ r q)
    · exact fun j => (congrFun (h1_v146 (V2 m (outsA m) c)) j).trans (by rw [a main_arg1 (by decide) (by decide)])
    · exact fun j => (congrFun (h1_v188 (V2 m (outsA m) c)) j).trans (by rw [a main_arg11 (by decide) (by decide)])
    · exact fun j => (congrFun (h1_v274 (V2 m (outsA m) c)) j).trans (by rw [a main_arg12 (by decide) (by decide)]; exact narrow _ j)
    · exact fun j => (congrFun (h1_v272 (V2 m (outsA m) c)) j).trans (by rw [a main_arg13 (by decide) (by decide)])

end Cert.KernelIdeal.Own

end
-- ==== Proof.Val.Ref.lean ====
/- The reference over the extended reals: each result is the two directions of its layer side by side. -/
module

public import proofs.«01_k».proof.Proof.Val.Join
public import proofs.«01_k».proof.Proof.RI.Run
public import Idealize.ShloMosaic.Lib.StableHlo.RunRead

@[expose] public section

noncomputable section

namespace Cert.ReferenceIdeal.Own

open Idealize.ShloMosaic Idealize.ShloMosaic.StableHlo Idealize.ShloMosaic.TcCoe
open Idealize.ShloMosaic.ValueIdx (broadcastInDim_scalar_apply)
open Cert.ReferenceIdeal.Gen Cert.Val

attribute [local instance] Cert.ReferenceIdeal.Gen.facts

/-- What a loop is entered with: its rows, weights and bias, and zeros for the two states. -/
structure Ready {n : ℕ} (B : Lp n) (E : Valuation τ sig (Elt Ideal)) (W U : M400 Ideal) (b : V400 Ideal) (x : Seq Ideal n) : Prop where
  x : ∀ r i, rd B.x E (ix2 r i) = x (ix2 r i)
  W : rd B.W E = W
  U : rd B.U E = U
  b : rd B.b E = b
  h : ∀ j, rd B.h E j = (0 : EReal)
  c : ∀ j, rd B.c E j = (0 : EReal)

/-- The rows a loop leaves are the layer's. -/
theorem loop_rows {n : ℕ} [NeZero n] {fit : (Sn n).Slices (fun _ => 0) S1x100} (hn : n < 2 ^ 31) {B : Lp n} {E V : Valuation τ sig (Elt Ideal)} {W U : M400 Ideal} {b : V400 Ideal}
    {x : Seq Ideal n} (hE : Ready B E W U b x) (hat : At fit B E n V) (r : Fin n) (q : Fin 100) : rd B.ys V (ix2 r q) = layer W U b x r q := by
  rw [hat.ys, ysR_apply fit hn _ _ _ _ _ _ n (Nat.le_refl _) r q r.isLt, hE.W, hE.U, hE.b]
  exact (stR_state fit hn W U b _ (seqOf x) (fun k i => (hE.x k i).trans (seqOf_val x k i)) _ hE.h hE.c (r.val + 1) r.isLt).1 q

/-- A vector of zeros. -/
theorem zeros_apply (j : S100.Idx) : broadcastInDim S100 ![] bcast_S_S100 (constant (F := Ideal) S_ .f32 0x00000000#32) j = (0 : EReal) :=
  (broadcastInDim_scalar_apply _ _ _).trans Ideal.ofBits_zero_f32

variable (m : (ℓ : Loc nD τ sig) → Buf (Elt Ideal) ℓ) (c : Dev nD)

/-- An argument's contents at the launch. -/
abbrev arg (r : Ref sig .tc) : Buf (Elt Ideal) ((c.tc : Thread nD τ).loc r) := m ((c.tc : Thread nD τ).loc r)

/-- What loop 0 is entered with. -/
theorem ready0 : Ready lp0 (E0 m c) (arg m c main_arg2) (arg m c main_arg3) (arg m c main_arg4) (arg m c main_arg0) := by
  refine ⟨fun r i => ?_, ?_, ?_, ?_, fun j => ?_, fun j => ?_⟩ <;> unfold rd E0 lp0 <;> after_reads_simp
  · exact unlead (by decide) bcast_S4096x100_S1x4096x100_1_2 shapeCasts_S1x4096x100_S4096x100 _ r i
  · rfl
  · rfl
  · rfl
  · exact zeros_apply j
  · exact zeros_apply j

/-- The rows the context's loops read. -/
theorem v2_apply (r : Fin 4096) (i : Fin 100) : X0 m c main_v2 (ix2 r i) = arg m c main_arg0 (ix2 r i) := by
  rw [X0_keep m c (by decide)]
  unfold E0
  after_reads_simp
  exact unlead (by decide) bcast_S4096x100_S1x4096x100_1_2 shapeCasts_S1x4096x100_S4096x100 _ r i

/-- What loop 1 is entered with. -/
theorem ready1 : Ready lp1 (E1 m c) (arg m c main_arg5) (arg m c main_arg6) (arg m c main_arg7) (Host.reverse [0] (arg m c main_arg0)) := by
  have a : ∀ r : Ref sig .tc, r ∉ loopW lp0 → r ∉ pre0W → X0 m c r = arg m c r := fun r h1 h0 => (X0_keep m c h1).trans (E0_keep m c h0)
  refine ⟨fun r i => ?_, ?_, ?_, ?_, fun j => ?_, fun j => ?_⟩ <;> unfold rd E1 lp1 <;> after_reads_simp <;> simp -implicitDefEqProofs only [TRef.toBuf, TRef.ofBuf, cast_cast, cast_eq, id_eq]
  · exact (rev_apply _ r i).trans ((v2_apply m c r.rev i).trans (rev_apply (arg m c main_arg0) r i).symm)
  · exact a main_arg5 (by decide) (by decide)
  · exact a main_arg6 (by decide) (by decide)
  · exact a main_arg7 (by decide) (by decide)
  · exact zeros_apply j
  · exact zeros_apply j

/-- The query with its leading axis. -/
theorem v1_eq : X1 m c main_v1 = broadcastInDim S1x200x100 ![1, 2] bcast_S200x100_S1x200x100_1_2 (arg m c main_arg1) := by
  rw [X1_keep m c (by decide), E1_keep m c (by decide), X0_keep m c (by decide)]
  unfold E0
  after_reads_simp

/-- What loop 2 is entered with. -/
theorem ready2 : Ready lp2 (E2 m c) (arg m c main_arg8) (arg m c main_arg9) (arg m c main_arg10) (arg m c main_arg1) := by
  have a : ∀ r : Ref sig .tc, r ∉ loopW lp1 → r ∈ argRefs → X1 m c r = arg m c r := fun r h1 h0 => (X1_keep m c h1).trans (arg_E1 m c h0)
  refine ⟨fun r i => ?_, ?_, ?_, ?_, fun j => ?_, fun j => ?_⟩ <;> unfold rd E2 lp2 <;> after_reads_simp <;> simp -implicitDefEqProofs only [TRef.toBuf, TRef.ofBuf, cast_cast, cast_eq, id_eq]
  · rw [v1_eq]; exact unlead (by decide) bcast_S200x100_S1x200x100_1_2 shapeCasts_S1x200x100_S200x100 _ r i
  · exact a main_arg8 (by decide) (by decide)
  · exact a main_arg9 (by decide) (by decide)
  · exact a main_arg10 (by decide) (by decide)
  · exact zeros_apply j
  · exact zeros_apply j

/-- The rows the query's loops read. -/
theorem v15_apply (r : Fin 200) (i : Fin 100) : X2 m c main_v15 (ix2 r i) = arg m c main_arg1 (ix2 r i) := by
  rw [X2_keep m c (by decide)]
  unfold E2
  after_reads_simp
  rw [v1_eq]
  exact unlead (by decide) bcast_S200x100_S1x200x100_1_2 shapeCasts_S1x200x100_S200x100 _ r i

/-- What loop 3 is entered with. -/
theorem ready3 : Ready lp3 (E3 m c) (arg m c main_arg11) (arg m c main_arg12) (arg m c main_arg13) (Host.reverse [0] (arg m c main_arg1)) := by
  have a : ∀ r : Ref sig .tc, r ∉ loopW lp2 → r ∈ argRefs → X2 m c r = arg m c r := fun r h1 h0 => (X2_keep m c h1).trans (arg_E2 m c h0)
  refine ⟨fun r i => ?_, ?_, ?_, ?_, fun j => ?_, fun j => ?_⟩ <;> unfold rd E3 lp3 <;> after_reads_simp <;> simp -implicitDefEqProofs only [TRef.toBuf, TRef.ofBuf, cast_cast, cast_eq, id_eq]
  · exact (rev_apply _ r i).trans ((v15_apply m c r.rev i).trans (rev_apply (arg m c main_arg1) r i).symm)
  · exact a main_arg11 (by decide) (by decide)
  · exact a main_arg12 (by decide) (by decide)
  · exact a main_arg13 (by decide) (by decide)
  · exact zeros_apply j
  · exact zeros_apply j

/-- How the results are put together. -/
theorem v14_eq (V : Valuation τ sig (Elt Ideal)) : after pre2 V main_v14 = broadcastInDim S1x4096x200 ![1, 2] bcast_S4096x200_S1x4096x200_1_2
    (concatenate S4096x200 1 [⟨S4096x100, V main_v6_7⟩, ⟨S4096x100, Host.reverse [0] (V main_v11_7)⟩] concatenates_S4096x100_S4096x100_S4096x200_d1) := rfl
/-- How the second result is put together. -/
theorem v27_eq (V : Valuation τ sig (Elt Ideal)) : after post V main_v27 = broadcastInDim S1x200x200 ![1, 2] bcast_S200x200_S1x200x200_1_2
    (concatenate S200x200 1 [⟨S200x100, V main_v19_7⟩, ⟨S200x100, Host.reverse [0] (V main_v24_7)⟩] concatenates_S200x100_S200x100_S200x200_d1) := rfl

/-- The first result. -/
theorem val0 : Vend m c main_v14 = result (n := 4096) (arg m c main_arg2) (arg m c main_arg3) (arg m c main_arg4) (arg m c main_arg5) (arg m c main_arg6) (arg m c main_arg7) (arg m c main_arg0) := by
  rw [Vend_keep m c (by decide), X3_keep m c (by decide), E3_keep m c (by decide), X2_keep m c (by decide)]
  refine (v14_eq (X1 m c)).trans ?_
  rw [X1_keep m c (r := main_v6_7) (by decide), E1_keep m c (r := main_v6_7) (by decide)]
  funext j
  exact (lead_apply (by decide) (by decide) _ _ j).trans (both_apply _ _ _ _ _
    (loop_rows (by decide) (ready0 m c) (exit_at reads.1 4096 (E0 m) c (ctr0 m c))) (loop_rows (by decide) (ready1 m c) (exit_at reads.2.1 4096 (E1 m) c (ctr1 m c))) _ _)

/-- The second result. -/
theorem val1 : Vend m c main_v27 = result (n := 200) (arg m c main_arg8) (arg m c main_arg9) (arg m c main_arg10) (arg m c main_arg11) (arg m c main_arg12) (arg m c main_arg13) (arg m c main_arg1) := by
  refine (v27_eq (X3 m c)).trans ?_
  rw [X3_keep m c (r := main_v19_7) (by decide), E3_keep m c (r := main_v19_7) (by decide)]
  funext j
  exact (lead_apply (by decide) (by decide) _ _ j).trans (both_apply _ _ _ _ _
    (loop_rows (by decide) (ready2 m c) (exit_at reads.2.2.1 200 (E2 m) c (ctr2 m c))) (loop_rows (by decide) (ready3 m c) (exit_at reads.2.2.2 200 (E3 m) c (ctr3 m c))) _ _)

end Cert.ReferenceIdeal.Own

end
-- ==== Proof.Val.Algebraic.lean ====
/- The algebraic claim: over the extended reals the kernel's results are the reference's. -/
module

public import proofs.«01_k».proof.Defs
public import proofs.«01_k».proof.Proof.Val.Host
public import proofs.«01_k».proof.Proof.Val.Ref

@[expose] public section

noncomputable section

namespace Cert.Own

open Idealize.ShloMosaic Idealize.ShloMosaic.TcCoe Idealize.SL.Sem Cert.Val

attribute [local instance] Cert.KernelIdeal.Gen.facts Cert.ReferenceIdeal.Gen.facts

/-- From memories that agree on the arguments the kernel and the reference end with equal results, both arrays whole. -/
theorem algebraic : Cert.algebraic_KernelIdeal_ReferenceIdeal := by
  intro m g m' g' _ h
  refine ⟨fun c => Cert.KernelIdeal.Gen.V5 m (Cert.KernelIdeal.Own.outs m) c Cert.KernelIdeal.main_v0_0, fun c => Cert.KernelIdeal.Gen.V5 m (Cert.KernelIdeal.Own.outs m) c Cert.KernelIdeal.main_v0_1,
    θ_run_mono (Cert.KernelIdeal.Own.run_at m g) fun r hr => hr.1, θ_run_mono (Cert.ReferenceIdeal.Own.run_at m' g') fun r hr c => ?_⟩
  obtain ⟨e0, e1, e2, e3, e4, e5, e6, e7, e8, e9, e10, e11, e12, e13⟩ := h c
  refine ⟨(hr.1 c).1.trans ?_, (hr.1 c).2.1.trans ?_, (hr.1 c).2.2⟩
  · refine (Cert.ReferenceIdeal.Own.val0 m' c).trans (Eq.trans ?_ (Cert.KernelIdeal.Own.val0 m c).symm)
    unfold Cert.ReferenceIdeal.Own.arg Cert.KernelIdeal.Own.arg
    rw [e0, e2, e3, e4, e5, e6, e7]
  · refine (Cert.ReferenceIdeal.Own.val1 m' c).trans (Eq.trans ?_ (Cert.KernelIdeal.Own.val1 m c).symm)
    unfold Cert.ReferenceIdeal.Own.arg Cert.KernelIdeal.Own.arg
    rw [e1, e8, e9, e10, e11, e12, e13]

end Cert.Own

end
-- ==== Proof.lean ====
module

public import proofs.«01_k».proof.Defs
public import proofs.«01_k».proof.Proof.Frames
public import proofs.«01_k».proof.Proof.Val.Algebraic

@[expose] public section

noncomputable section

namespace Cert.Proof

/-- The three frames, the idealization, and the equality of the results. -/
theorem claim : Cert.Claim := ⟨Cert.Kernel.Gen.facts, Cert.KernelIdeal.Gen.facts, Cert.ReferenceIdeal.Gen.facts,
  Cert.Own.frameK, Cert.Own.frameKI, Cert.Own.frameRI, trivial, Cert.Own.algebraic⟩

end Cert.Proof

end
